-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S32 : Shape := ⟨1, ![32]⟩
abbrev S32x31 : Shape := ⟨2, ![32, 31]⟩
abbrev S_ : Shape := ⟨0, ![]⟩
abbrev S1 : Shape := ⟨1, ![1]⟩
abbrev S1x31 : Shape := ⟨2, ![1, 31]⟩
abbrev S31 : Shape := ⟨1, ![31]⟩
abbrev S4x2x128x512 : Shape := ⟨4, ![4, 2, 128, 512]⟩
abbrev S4x128x512 : Shape := ⟨3, ![4, 128, 512]⟩
abbrev S2 : Shape := ⟨1, ![2]⟩
abbrev S128x128 : Shape := ⟨2, ![128, 128]⟩
abbrev S128x512 : Shape := ⟨2, ![128, 512]⟩
abbrev S1x1x128x512 : Shape := ⟨4, ![1, 1, 128, 512]⟩
abbrev S1x128x512 : Shape := ⟨3, ![1, 128, 512]⟩

abbrev nBuf : Space → Nat
  | .hbm => 65
  | .vmem => 5
  | .smem => 4
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S32, .i32⟩
  | .hbm, ⟨3, _⟩ => ⟨S32, .i32⟩
  | .hbm, ⟨4, _⟩ => ⟨S32x31, .i32⟩
  | .hbm, ⟨5, _⟩ => ⟨S32x31, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S1, .i1⟩
  | .hbm, ⟨22, _⟩ => ⟨S1, .i1⟩
  | .hbm, ⟨23, _⟩ => ⟨S1, .i1⟩
  | .hbm, ⟨24, _⟩ => ⟨S_, .i1⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S1, .i1⟩
  | .hbm, ⟨40, _⟩ => ⟨S1, .i1⟩
  | .hbm, ⟨41, _⟩ => ⟨S1, .i1⟩
  | .hbm, ⟨42, _⟩ => ⟨S_, .i1⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x31, .i32⟩
  | .hbm, ⟨55, _⟩ => ⟨S31, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x31, .i32⟩
  | .hbm, ⟨63, _⟩ => ⟨S31, .i32⟩
  | .hbm, ⟨64, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S128x2048, .f32⟩
  | .local _ .vmem, ⟨3, _⟩ => ⟨S4x2x128x512, .f32⟩
  | .local _ .vmem, ⟨4, _⟩ => ⟨S4x128x512, .f32⟩
  | .local _ .smem, ⟨0, _⟩ => ⟨S1, .i32⟩
  | .local _ .smem, ⟨1, _⟩ => ⟨S1, .i32⟩
  | .local _ .smem, ⟨2, _⟩ => ⟨S31, .i32⟩
  | .local _ .smem, ⟨3, _⟩ => ⟨S31, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 5 23 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_c_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_c_1 : Ref sig .tc := ⟨.hbm, 18, rfl⟩
abbrev main_call0_c_2 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_c_3 : Ref sig .tc := ⟨.hbm, 24, rfl⟩
abbrev main_call0_v8 : Ref sig .tc := ⟨.hbm, 25, rfl⟩
abbrev main_call0_v9 : Ref sig .tc := ⟨.hbm, 26, rfl⟩
abbrev main_call0_c_4 : Ref sig .tc := ⟨.hbm, 27, rfl⟩
abbrev main_v5 : Ref sig .tc := ⟨.hbm, 28, rfl⟩
abbrev main_v6 : Ref sig .tc := ⟨.hbm, 29, rfl⟩
abbrev main_call1_c : Ref sig .tc := ⟨.hbm, 30, rfl⟩
abbrev main_call1_v0 : Ref sig .tc := ⟨.hbm, 31, rfl⟩
abbrev main_call1_c_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_c_1 : Ref sig .tc := ⟨.hbm, 36, rfl⟩
abbrev main_call1_c_2 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_c_3 : Ref sig .tc := ⟨.hbm, 42, rfl⟩
abbrev main_call1_v8 : Ref sig .tc := ⟨.hbm, 43, rfl⟩
abbrev main_call1_v9 : Ref sig .tc := ⟨.hbm, 44, rfl⟩
abbrev main_call1_c_4 : Ref sig .tc := ⟨.hbm, 45, rfl⟩
abbrev main_v7 : Ref sig .tc := ⟨.hbm, 46, rfl⟩
abbrev main_v8 : Ref sig .tc := ⟨.hbm, 47, rfl⟩
abbrev main_call2_c : Ref sig .tc := ⟨.hbm, 48, rfl⟩
abbrev main_call2_v0 : Ref sig .tc := ⟨.hbm, 49, rfl⟩
abbrev main_call2_c_0 : Ref sig .tc := ⟨.hbm, 50, rfl⟩
abbrev main_call2_v1 : Ref sig .tc := ⟨.hbm, 51, rfl⟩
abbrev main_call2_v2 : Ref sig .tc := ⟨.hbm, 52, rfl⟩
abbrev main_call2_c_1 : Ref sig .tc := ⟨.hbm, 53, rfl⟩
abbrev main_call2_v3 : Ref sig .tc := ⟨.hbm, 54, rfl⟩
abbrev main_v9 : Ref sig .tc := ⟨.hbm, 55, rfl⟩
abbrev main_call3_c : Ref sig .tc := ⟨.hbm, 56, rfl⟩
abbrev main_call3_v0 : Ref sig .tc := ⟨.hbm, 57, rfl⟩
abbrev main_call3_c_0 : Ref sig .tc := ⟨.hbm, 58, rfl⟩
abbrev main_call3_v1 : Ref sig .tc := ⟨.hbm, 59, rfl⟩
abbrev main_call3_v2 : Ref sig .tc := ⟨.hbm, 60, rfl⟩
abbrev main_call3_c_1 : Ref sig .tc := ⟨.hbm, 61, rfl⟩
abbrev main_call3_v3 : Ref sig .tc := ⟨.hbm, 62, rfl⟩
abbrev main_v10 : Ref sig .tc := ⟨.hbm, 63, rfl⟩
abbrev main_v11 : Ref sig .tc := ⟨.hbm, 64, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 4

abbrev nD : Nat := 32
abbrev τ : Topo := Topo.v7x

variable {F : FTy → Type} [FloatOps F]

abbrev grid0 : Pipeline.Grid := .none

def k0_off1 (v5 : BitVec 32) : Fin 2 → Nat :=
  let c128_i32 : BitVec 32 := 128#32
  let v6 : BitVec 32 := Scalar.muli v5 c128_i32
  let v7 : Index := Scalar.indexCast v6
  let c0_2 : Index := 0#32
  ![v7.toNat, 0]

def k0_chk1 (v5 : BitVec 32) : Prop :=
  (∀ a, (k0_off1 v5) a + S128x128.size a ≤ S4096x128.size a)
theorem k0_off1_inb : ∀ (v5 : BitVec 32) (k0_hw1 : k0_chk1 v5), ∀ a, (k0_off1 v5) a + S128x128.size a ≤ S4096x128.size a := fun v5 k0_hw1 => k0_hw1

def k0_off2 (v16 : BitVec 32) : Fin 2 → Nat :=
  let c128_i32_10 : BitVec 32 := 128#32
  let v17 : BitVec 32 := Scalar.muli v16 c128_i32_10
  let v18 : Index := Scalar.indexCast v17
  let c0_11 : Index := 0#32
  ![v18.toNat, 0]

def k0_chk2 (v16 : BitVec 32) : Prop :=
  (∀ a, (k0_off2 v16) a + S128x128.size a ≤ S4096x128.size a)
theorem k0_off2_inb : ∀ (v16 : BitVec 32) (k0_hw2 : k0_chk2 v16), ∀ a, (k0_off2 v16) a + S128x128.size a ≤ S4096x128.size a := fun v16 k0_hw2 => k0_hw2

def k0_off3 (v27 : BitVec 32) : Fin 2 → Nat :=
  let c128_i32_18 : BitVec 32 := 128#32
  let v28 : BitVec 32 := Scalar.muli v27 c128_i32_18
  let v29 : Index := Scalar.indexCast v28
  let c0_19 : Index := 0#32
  ![v29.toNat, 0]

def k0_chk3 (v27 : BitVec 32) : Prop :=
  (∀ a, (k0_off3 v27) a + S128x128.size a ≤ S4096x128.size a)
theorem k0_off3_inb : ∀ (v27 : BitVec 32) (k0_hw3 : k0_chk3 v27), ∀ a, (k0_off3 v27) a + S128x128.size a ≤ S4096x128.size a := fun v27 k0_hw3 => k0_hw3

def k0_off4 (v38 : BitVec 32) : Fin 2 → Nat :=
  let c128_i32_26 : BitVec 32 := 128#32
  let v39 : BitVec 32 := Scalar.muli v38 c128_i32_26
  let v40 : Index := Scalar.indexCast v39
  let c0_27 : Index := 0#32
  ![v40.toNat, 0]

def k0_chk4 (v38 : BitVec 32) : Prop :=
  (∀ a, (k0_off4 v38) a + S128x128.size a ≤ S4096x128.size a)
theorem k0_off4_inb : ∀ (v38 : BitVec 32) (k0_hw4 : k0_chk4 v38), ∀ a, (k0_off4 v38) a + S128x128.size a ≤ S4096x128.size a := fun v38 k0_hw4 => k0_hw4

def k0_dev1 (v3 : BitVec 32) : Nat :=
  let c0_i32 : BitVec 32 := 0#32
  let c1_i32_34 : BitVec 32 := 1#32
  let v50 : BitVec 32 := Scalar.muli v3 c1_i32_34
  let v51 : BitVec 32 := Scalar.addi c0_i32 v50
  v51.toNat

def k0_dev2 (v4 : BitVec 32) : Nat :=
  let c0_i32_37 : BitVec 32 := 0#32
  let c1_i32_36 : BitVec 32 := 1#32
  let v52 : BitVec 32 := Scalar.muli v4 c1_i32_36
  let v53 : BitVec 32 := Scalar.addi c0_i32_37 v52
  v53.toNat

def k0_dev3 (v3 : BitVec 32) : Nat :=
  let c0_i32_45 : BitVec 32 := 0#32
  let c1_i32_44 : BitVec 32 := 1#32
  let v54 : BitVec 32 := Scalar.muli v3 c1_i32_44
  let v55 : BitVec 32 := Scalar.addi c0_i32_45 v54
  v55.toNat
def k0_dev4 (v3 : BitVec 32) : Nat :=
  let c0_i32_57 : BitVec 32 := 0#32
  let c1_i32_56 : BitVec 32 := 1#32
  let v64 : BitVec 32 := Scalar.muli v3 c1_i32_56
  let v65 : BitVec 32 := Scalar.addi c0_i32_57 v64
  v65.toNat
def k0_dev5 (v4 : BitVec 32) : Nat :=
  let c0_i32_69 : BitVec 32 := 0#32
  let c1_i32_68 : BitVec 32 := 1#32
  let v74 : BitVec 32 := Scalar.muli v4 c1_i32_68
  let v75 : BitVec 32 := Scalar.addi c0_i32_69 v74
  v75.toNat
def k0_dev6 (v4 : BitVec 32) : Nat :=
  let c0_i32_80 : BitVec 32 := 0#32
  let c1_i32_79 : BitVec 32 := 1#32
  let v84 : BitVec 32 := Scalar.muli v4 c1_i32_79
  let v85 : BitVec 32 := Scalar.addi c0_i32_80 v84
  v85.toNat
def k0_off5 (v94 : BitVec 32) : Fin 2 → Nat :=
  let c128_i32_86 : BitVec 32 := 128#32
  let v95 : BitVec 32 := Scalar.muli v94 c128_i32_86
  let v96 : Index := Scalar.indexCast v95
  let c0_87 : Index := 0#32
  ![v96.toNat, 0]

def k0_chk7 (v94 : BitVec 32) : Prop :=
  (∀ a, (k0_off5 v94) a + S128x128.size a ≤ S4096x128.size a)
theorem k0_off5_inb : ∀ (v94 : BitVec 32) (k0_hw7 : k0_chk7 v94), ∀ a, (k0_off5 v94) a + S128x128.size a ≤ S4096x128.size a := fun v94 k0_hw7 => k0_hw7

def k0_off6 (v105 : BitVec 32) : Fin 2 → Nat :=
  let c128_i32_95 : BitVec 32 := 128#32
  let v106 : BitVec 32 := Scalar.muli v105 c128_i32_95
  let v107 : Index := Scalar.indexCast v106
  let c0_96 : Index := 0#32
  ![v107.toNat, 0]

def k0_chk8 (v105 : BitVec 32) : Prop :=
  (∀ a, (k0_off6 v105) a + S128x128.size a ≤ S4096x128.size a)
theorem k0_off6_inb : ∀ (v105 : BitVec 32) (k0_hw8 : k0_chk8 v105), ∀ a, (k0_off6 v105) a + S128x128.size a ≤ S4096x128.size a := fun v105 k0_hw8 => k0_hw8

def k0_off7 (v116 : BitVec 32) : Fin 2 → Nat :=
  let c128_i32_104 : BitVec 32 := 128#32
  let v117 : BitVec 32 := Scalar.muli v116 c128_i32_104
  let v118 : Index := Scalar.indexCast v117
  let c0_105 : Index := 0#32
  ![v118.toNat, 0]

def k0_chk9 (v116 : BitVec 32) : Prop :=
  (∀ a, (k0_off7 v116) a + S128x128.size a ≤ S4096x128.size a)
theorem k0_off7_inb : ∀ (v116 : BitVec 32) (k0_hw9 : k0_chk9 v116), ∀ a, (k0_off7 v116) a + S128x128.size a ≤ S4096x128.size a := fun v116 k0_hw9 => k0_hw9

def k0_off8 (v127 : BitVec 32) : Fin 2 → Nat :=
  let c128_i32_113 : BitVec 32 := 128#32
  let v128 : BitVec 32 := Scalar.muli v127 c128_i32_113
  let v129 : Index := Scalar.indexCast v128
  let c0_114 : Index := 0#32
  ![v129.toNat, 0]

def k0_chk10 (v127 : BitVec 32) : Prop :=
  (∀ a, (k0_off8 v127) a + S128x128.size a ≤ S4096x128.size a)
theorem k0_off8_inb : ∀ (v127 : BitVec 32) (k0_hw10 : k0_chk10 v127), ∀ a, (k0_off8 v127) a + S128x128.size a ≤ S4096x128.size a := fun v127 k0_hw10 => k0_hw10

def k0_dev7 (v4 : BitVec 32) : Nat :=
  let c0_i32_226 : BitVec 32 := 0#32
  let c1_i32_225 : BitVec 32 := 1#32
  let v208 : BitVec 32 := Scalar.muli v4 c1_i32_225
  let v209 : BitVec 32 := Scalar.addi c0_i32_226 v208
  v209.toNat
def k0_dev8 (v4 : BitVec 32) : Nat :=
  let c0_i32_240 : BitVec 32 := 0#32
  let c1_i32_239 : BitVec 32 := 1#32
  let v216 : BitVec 32 := Scalar.muli v4 c1_i32_239
  let v217 : BitVec 32 := Scalar.addi c0_i32_240 v216
  v217.toNat
def k0_dev9 (v3 : BitVec 32) : Nat :=
  let c0_i32_254 : BitVec 32 := 0#32
  let c1_i32_253 : BitVec 32 := 1#32
  let v224 : BitVec 32 := Scalar.muli v3 c1_i32_253
  let v225 : BitVec 32 := Scalar.addi c0_i32_254 v224
  v225.toNat
def k0_dev10 (v3 : BitVec 32) : Nat :=
  let c0_i32_268 : BitVec 32 := 0#32
  let c1_i32_267 : BitVec 32 := 1#32
  let v232 : BitVec 32 := Scalar.muli v3 c1_i32_267
  let v233 : BitVec 32 := Scalar.addi c0_i32_268 v232
  v233.toNat
def k0_dev11 (v3 : BitVec 32) : Nat :=
  let c0_i32_278 : BitVec 32 := 0#32
  let c1_i32_277 : BitVec 32 := 1#32
  let v234 : BitVec 32 := Scalar.muli v3 c1_i32_277
  let v235 : BitVec 32 := Scalar.addi c0_i32_278 v234
  v235.toNat
def k0_dev12 (v3 : BitVec 32) : Nat :=
  let c0_i32_292 : BitVec 32 := 0#32
  let c1_i32_291 : BitVec 32 := 1#32
  let v244 : BitVec 32 := Scalar.muli v3 c1_i32_291
  let v245 : BitVec 32 := Scalar.addi c0_i32_292 v244
  v245.toNat
def k0_dev13 (v4 : BitVec 32) : Nat :=
  let c0_i32_306 : BitVec 32 := 0#32
  let c1_i32_305 : BitVec 32 := 1#32
  let v254 : BitVec 32 := Scalar.muli v4 c1_i32_305
  let v255 : BitVec 32 := Scalar.addi c0_i32_306 v254
  v255.toNat
def k0_dev14 (v4 : BitVec 32) : Nat :=
  let c0_i32_320 : BitVec 32 := 0#32
  let c1_i32_319 : BitVec 32 := 1#32
  let v264 : BitVec 32 := Scalar.muli v4 c1_i32_319
  let v265 : BitVec 32 := Scalar.addi c0_i32_320 v264
  v265.toNat
def k0_off9 (v274 : BitVec 32) : Fin 2 → Nat :=
  let c128_i32_326 : BitVec 32 := 128#32
  let v275 : BitVec 32 := Scalar.muli v274 c128_i32_326
  let v276 : Index := Scalar.indexCast v275
  let c0_327 : Index := 0#32
  ![v276.toNat, 0]

def k0_chk11 (v274 : BitVec 32) : Prop :=
  (∀ a, (k0_off9 v274) a + S128x128.size a ≤ S4096x128.size a)
theorem k0_off9_inb : ∀ (v274 : BitVec 32) (k0_hw11 : k0_chk11 v274), ∀ a, (k0_off9 v274) a + S128x128.size a ≤ S4096x128.size a := fun v274 k0_hw11 => k0_hw11

def k0_off10 (v285 : BitVec 32) : Fin 2 → Nat :=
  let c128_i32_335 : BitVec 32 := 128#32
  let v286 : BitVec 32 := Scalar.muli v285 c128_i32_335
  let v287 : Index := Scalar.indexCast v286
  let c0_336 : Index := 0#32
  ![v287.toNat, 0]

def k0_chk12 (v285 : BitVec 32) : Prop :=
  (∀ a, (k0_off10 v285) a + S128x128.size a ≤ S4096x128.size a)
theorem k0_off10_inb : ∀ (v285 : BitVec 32) (k0_hw12 : k0_chk12 v285), ∀ a, (k0_off10 v285) a + S128x128.size a ≤ S4096x128.size a := fun v285 k0_hw12 => k0_hw12

def k0_off11 (v296 : BitVec 32) : Fin 2 → Nat :=
  let c128_i32_344 : BitVec 32 := 128#32
  let v297 : BitVec 32 := Scalar.muli v296 c128_i32_344
  let v298 : Index := Scalar.indexCast v297
  let c0_345 : Index := 0#32
  ![v298.toNat, 0]

def k0_chk13 (v296 : BitVec 32) : Prop :=
  (∀ a, (k0_off11 v296) a + S128x128.size a ≤ S4096x128.size a)
theorem k0_off11_inb : ∀ (v296 : BitVec 32) (k0_hw13 : k0_chk13 v296), ∀ a, (k0_off11 v296) a + S128x128.size a ≤ S4096x128.size a := fun v296 k0_hw13 => k0_hw13

def k0_off12 (v307 : BitVec 32) : Fin 2 → Nat :=
  let c128_i32_353 : BitVec 32 := 128#32
  let v308 : BitVec 32 := Scalar.muli v307 c128_i32_353
  let v309 : Index := Scalar.indexCast v308
  let c0_354 : Index := 0#32
  ![v309.toNat, 0]

def k0_chk14 (v307 : BitVec 32) : Prop :=
  (∀ a, (k0_off12 v307) a + S128x128.size a ≤ S4096x128.size a)
theorem k0_off12_inb : ∀ (v307 : BitVec 32) (k0_hw14 : k0_chk14 v307), ∀ a, (k0_off12 v307) a + S128x128.size a ≤ S4096x128.size a := fun v307 k0_hw14 => k0_hw14

def k0_dev15 (v4 : BitVec 32) : Nat :=
  let c0_i32_466 : BitVec 32 := 0#32
  let c1_i32_465 : BitVec 32 := 1#32
  let v388 : BitVec 32 := Scalar.muli v4 c1_i32_465
  let v389 : BitVec 32 := Scalar.addi c0_i32_466 v388
  v389.toNat
def k0_dev16 (v4 : BitVec 32) : Nat :=
  let c0_i32_480 : BitVec 32 := 0#32
  let c1_i32_479 : BitVec 32 := 1#32
  let v396 : BitVec 32 := Scalar.muli v4 c1_i32_479
  let v397 : BitVec 32 := Scalar.addi c0_i32_480 v396
  v397.toNat
def k0_dev17 (v3 : BitVec 32) : Nat :=
  let c0_i32_494 : BitVec 32 := 0#32
  let c1_i32_493 : BitVec 32 := 1#32
  let v404 : BitVec 32 := Scalar.muli v3 c1_i32_493
  let v405 : BitVec 32 := Scalar.addi c0_i32_494 v404
  v405.toNat
def k0_dev18 (v3 : BitVec 32) : Nat :=
  let c0_i32_508 : BitVec 32 := 0#32
  let c1_i32_507 : BitVec 32 := 1#32
  let v412 : BitVec 32 := Scalar.muli v3 c1_i32_507
  let v413 : BitVec 32 := Scalar.addi c0_i32_508 v412
  v413.toNat
def k0_dev19 (v3 : BitVec 32) : Nat :=
  let c0_i32_518 : BitVec 32 := 0#32
  let c1_i32_517 : BitVec 32 := 1#32
  let v414 : BitVec 32 := Scalar.muli v3 c1_i32_517
  let v415 : BitVec 32 := Scalar.addi c0_i32_518 v414
  v415.toNat
def k0_dev20 (v3 : BitVec 32) : Nat :=
  let c0_i32_532 : BitVec 32 := 0#32
  let c1_i32_531 : BitVec 32 := 1#32
  let v424 : BitVec 32 := Scalar.muli v3 c1_i32_531
  let v425 : BitVec 32 := Scalar.addi c0_i32_532 v424
  v425.toNat
def k0_dev21 (v4 : BitVec 32) : Nat :=
  let c0_i32_546 : BitVec 32 := 0#32
  let c1_i32_545 : BitVec 32 := 1#32
  let v434 : BitVec 32 := Scalar.muli v4 c1_i32_545
  let v435 : BitVec 32 := Scalar.addi c0_i32_546 v434
  v435.toNat
def k0_dev22 (v4 : BitVec 32) : Nat :=
  let c0_i32_560 : BitVec 32 := 0#32
  let c1_i32_559 : BitVec 32 := 1#32
  let v444 : BitVec 32 := Scalar.muli v4 c1_i32_559
  let v445 : BitVec 32 := Scalar.addi c0_i32_560 v444
  v445.toNat
def k0_off13 (v454 : BitVec 32) : Fin 2 → Nat :=
  let c128_i32_566 : BitVec 32 := 128#32
  let v455 : BitVec 32 := Scalar.muli v454 c128_i32_566
  let v456 : Index := Scalar.indexCast v455
  let c0_567 : Index := 0#32
  ![v456.toNat, 0]

def k0_chk15 (v454 : BitVec 32) : Prop :=
  (∀ a, (k0_off13 v454) a + S128x128.size a ≤ S4096x128.size a)
theorem k0_off13_inb : ∀ (v454 : BitVec 32) (k0_hw15 : k0_chk15 v454), ∀ a, (k0_off13 v454) a + S128x128.size a ≤ S4096x128.size a := fun v454 k0_hw15 => k0_hw15

def k0_off14 (v465 : BitVec 32) : Fin 2 → Nat :=
  let c128_i32_575 : BitVec 32 := 128#32
  let v466 : BitVec 32 := Scalar.muli v465 c128_i32_575
  let v467 : Index := Scalar.indexCast v466
  let c0_576 : Index := 0#32
  ![v467.toNat, 0]

def k0_chk16 (v465 : BitVec 32) : Prop :=
  (∀ a, (k0_off14 v465) a + S128x128.size a ≤ S4096x128.size a)
theorem k0_off14_inb : ∀ (v465 : BitVec 32) (k0_hw16 : k0_chk16 v465), ∀ a, (k0_off14 v465) a + S128x128.size a ≤ S4096x128.size a := fun v465 k0_hw16 => k0_hw16

def k0_off15 (v476 : BitVec 32) : Fin 2 → Nat :=
  let c128_i32_584 : BitVec 32 := 128#32
  let v477 : BitVec 32 := Scalar.muli v476 c128_i32_584
  let v478 : Index := Scalar.indexCast v477
  let c0_585 : Index := 0#32
  ![v478.toNat, 0]

def k0_chk17 (v476 : BitVec 32) : Prop :=
  (∀ a, (k0_off15 v476) a + S128x128.size a ≤ S4096x128.size a)
theorem k0_off15_inb : ∀ (v476 : BitVec 32) (k0_hw17 : k0_chk17 v476), ∀ a, (k0_off15 v476) a + S128x128.size a ≤ S4096x128.size a := fun v476 k0_hw17 => k0_hw17

def k0_off16 (v487 : BitVec 32) : Fin 2 → Nat :=
  let c128_i32_593 : BitVec 32 := 128#32
  let v488 : BitVec 32 := Scalar.muli v487 c128_i32_593
  let v489 : Index := Scalar.indexCast v488
  let c0_594 : Index := 0#32
  ![v489.toNat, 0]

def k0_chk18 (v487 : BitVec 32) : Prop :=
  (∀ a, (k0_off16 v487) a + S128x128.size a ≤ S4096x128.size a)
theorem k0_off16_inb : ∀ (v487 : BitVec 32) (k0_hw18 : k0_chk18 v487), ∀ a, (k0_off16 v487) a + S128x128.size a ≤ S4096x128.size a := fun v487 k0_hw18 => k0_hw18

def k0_dev23 (v4 : BitVec 32) : Nat :=
  let c0_i32_706 : BitVec 32 := 0#32
  let c1_i32_705 : BitVec 32 := 1#32
  let v568 : BitVec 32 := Scalar.muli v4 c1_i32_705
  let v569 : BitVec 32 := Scalar.addi c0_i32_706 v568
  v569.toNat
def k0_dev24 (v4 : BitVec 32) : Nat :=
  let c0_i32_720 : BitVec 32 := 0#32
  let c1_i32_719 : BitVec 32 := 1#32
  let v576 : BitVec 32 := Scalar.muli v4 c1_i32_719
  let v577 : BitVec 32 := Scalar.addi c0_i32_720 v576
  v577.toNat
def k0_dev25 (v3 : BitVec 32) : Nat :=
  let c0_i32_734 : BitVec 32 := 0#32
  let c1_i32_733 : BitVec 32 := 1#32
  let v584 : BitVec 32 := Scalar.muli v3 c1_i32_733
  let v585 : BitVec 32 := Scalar.addi c0_i32_734 v584
  v585.toNat
def k0_dev26 (v3 : BitVec 32) : Nat :=
  let c0_i32_748 : BitVec 32 := 0#32
  let c1_i32_747 : BitVec 32 := 1#32
  let v592 : BitVec 32 := Scalar.muli v3 c1_i32_747
  let v593 : BitVec 32 := Scalar.addi c0_i32_748 v592
  v593.toNat
def k0_dev27 (v3 : BitVec 32) : Nat :=
  let c0_i32_758 : BitVec 32 := 0#32
  let c1_i32_757 : BitVec 32 := 1#32
  let v594 : BitVec 32 := Scalar.muli v3 c1_i32_757
  let v595 : BitVec 32 := Scalar.addi c0_i32_758 v594
  v595.toNat
def k0_dev28 (v3 : BitVec 32) : Nat :=
  let c0_i32_772 : BitVec 32 := 0#32
  let c1_i32_771 : BitVec 32 := 1#32
  let v604 : BitVec 32 := Scalar.muli v3 c1_i32_771
  let v605 : BitVec 32 := Scalar.addi c0_i32_772 v604
  v605.toNat
def k0_dev29 (v4 : BitVec 32) : Nat :=
  let c0_i32_786 : BitVec 32 := 0#32
  let c1_i32_785 : BitVec 32 := 1#32
  let v614 : BitVec 32 := Scalar.muli v4 c1_i32_785
  let v615 : BitVec 32 := Scalar.addi c0_i32_786 v614
  v615.toNat
def k0_dev30 (v4 : BitVec 32) : Nat :=
  let c0_i32_800 : BitVec 32 := 0#32
  let c1_i32_799 : BitVec 32 := 1#32
  let v624 : BitVec 32 := Scalar.muli v4 c1_i32_799
  let v625 : BitVec 32 := Scalar.addi c0_i32_800 v624
  v625.toNat
def k0_off17 (v634 : BitVec 32) : Fin 2 → Nat :=
  let c128_i32_805 : BitVec 32 := 128#32
  let v635 : BitVec 32 := Scalar.muli v634 c128_i32_805
  let v636 : Index := Scalar.indexCast v635
  let c0_806 : Index := 0#32
  ![v636.toNat, 0]

def k0_chk19 (v634 : BitVec 32) : Prop :=
  (∀ a, (k0_off17 v634) a + S128x128.size a ≤ S4096x128.size a)
theorem k0_off17_inb : ∀ (v634 : BitVec 32) (k0_hw19 : k0_chk19 v634), ∀ a, (k0_off17 v634) a + S128x128.size a ≤ S4096x128.size a := fun v634 k0_hw19 => k0_hw19

def k0_off18 (v645 : BitVec 32) : Fin 2 → Nat :=
  let c128_i32_814 : BitVec 32 := 128#32
  let v646 : BitVec 32 := Scalar.muli v645 c128_i32_814
  let v647 : Index := Scalar.indexCast v646
  let c0_815 : Index := 0#32
  ![v647.toNat, 0]

def k0_chk20 (v645 : BitVec 32) : Prop :=
  (∀ a, (k0_off18 v645) a + S128x128.size a ≤ S4096x128.size a)
theorem k0_off18_inb : ∀ (v645 : BitVec 32) (k0_hw20 : k0_chk20 v645), ∀ a, (k0_off18 v645) a + S128x128.size a ≤ S4096x128.size a := fun v645 k0_hw20 => k0_hw20

def k0_off19 (v656 : BitVec 32) : Fin 2 → Nat :=
  let c128_i32_823 : BitVec 32 := 128#32
  let v657 : BitVec 32 := Scalar.muli v656 c128_i32_823
  let v658 : Index := Scalar.indexCast v657
  let c0_824 : Index := 0#32
  ![v658.toNat, 0]

def k0_chk21 (v656 : BitVec 32) : Prop :=
  (∀ a, (k0_off19 v656) a + S128x128.size a ≤ S4096x128.size a)
theorem k0_off19_inb : ∀ (v656 : BitVec 32) (k0_hw21 : k0_chk21 v656), ∀ a, (k0_off19 v656) a + S128x128.size a ≤ S4096x128.size a := fun v656 k0_hw21 => k0_hw21

def k0_off20 (v667 : BitVec 32) : Fin 2 → Nat :=
  let c128_i32_832 : BitVec 32 := 128#32
  let v668 : BitVec 32 := Scalar.muli v667 c128_i32_832
  let v669 : Index := Scalar.indexCast v668
  let c0_833 : Index := 0#32
  ![v669.toNat, 0]

def k0_chk22 (v667 : BitVec 32) : Prop :=
  (∀ a, (k0_off20 v667) a + S128x128.size a ≤ S4096x128.size a)
theorem k0_off20_inb : ∀ (v667 : BitVec 32) (k0_hw22 : k0_chk22 v667), ∀ a, (k0_off20 v667) a + S128x128.size a ≤ S4096x128.size a := fun v667 k0_hw22 => k0_hw22

def k0_dev31 (v4 : BitVec 32) : Nat :=
  let c0_i32_945 : BitVec 32 := 0#32
  let c1_i32_944 : BitVec 32 := 1#32
  let v748 : BitVec 32 := Scalar.muli v4 c1_i32_944
  let v749 : BitVec 32 := Scalar.addi c0_i32_945 v748
  v749.toNat
def k0_dev32 (v4 : BitVec 32) : Nat :=
  let c0_i32_959 : BitVec 32 := 0#32
  let c1_i32_958 : BitVec 32 := 1#32
  let v756 : BitVec 32 := Scalar.muli v4 c1_i32_958
  let v757 : BitVec 32 := Scalar.addi c0_i32_959 v756
  v757.toNat
def k0_dev33 (v3 : BitVec 32) : Nat :=
  let c0_i32_973 : BitVec 32 := 0#32
  let c1_i32_972 : BitVec 32 := 1#32
  let v764 : BitVec 32 := Scalar.muli v3 c1_i32_972
  let v765 : BitVec 32 := Scalar.addi c0_i32_973 v764
  v765.toNat
def k0_dev34 (v3 : BitVec 32) : Nat :=
  let c0_i32_987 : BitVec 32 := 0#32
  let c1_i32_986 : BitVec 32 := 1#32
  let v772 : BitVec 32 := Scalar.muli v3 c1_i32_986
  let v773 : BitVec 32 := Scalar.addi c0_i32_987 v772
  v773.toNat
def k0_dev35 (v3 : BitVec 32) : Nat :=
  let c0_i32_997 : BitVec 32 := 0#32
  let c1_i32_996 : BitVec 32 := 1#32
  let v774 : BitVec 32 := Scalar.muli v3 c1_i32_996
  let v775 : BitVec 32 := Scalar.addi c0_i32_997 v774
  v775.toNat
def k0_dev36 (v3 : BitVec 32) : Nat :=
  let c0_i32_1011 : BitVec 32 := 0#32
  let c1_i32_1010 : BitVec 32 := 1#32
  let v784 : BitVec 32 := Scalar.muli v3 c1_i32_1010
  let v785 : BitVec 32 := Scalar.addi c0_i32_1011 v784
  v785.toNat
def k0_dev37 (v4 : BitVec 32) : Nat :=
  let c0_i32_1025 : BitVec 32 := 0#32
  let c1_i32_1024 : BitVec 32 := 1#32
  let v794 : BitVec 32 := Scalar.muli v4 c1_i32_1024
  let v795 : BitVec 32 := Scalar.addi c0_i32_1025 v794
  v795.toNat
def k0_dev38 (v4 : BitVec 32) : Nat :=
  let c0_i32_1039 : BitVec 32 := 0#32
  let c1_i32_1038 : BitVec 32 := 1#32
  let v804 : BitVec 32 := Scalar.muli v4 c1_i32_1038
  let v805 : BitVec 32 := Scalar.addi c0_i32_1039 v804
  v805.toNat
def k0_off21 (v814 : BitVec 32) : Fin 2 → Nat :=
  let c128_i32_1044 : BitVec 32 := 128#32
  let v815 : BitVec 32 := Scalar.muli v814 c128_i32_1044
  let v816 : Index := Scalar.indexCast v815
  let c0_1045 : Index := 0#32
  ![v816.toNat, 0]

def k0_chk23 (v814 : BitVec 32) : Prop :=
  (∀ a, (k0_off21 v814) a + S128x128.size a ≤ S4096x128.size a)
theorem k0_off21_inb : ∀ (v814 : BitVec 32) (k0_hw23 : k0_chk23 v814), ∀ a, (k0_off21 v814) a + S128x128.size a ≤ S4096x128.size a := fun v814 k0_hw23 => k0_hw23

def k0_off22 (v825 : BitVec 32) : Fin 2 → Nat :=
  let c128_i32_1053 : BitVec 32 := 128#32
  let v826 : BitVec 32 := Scalar.muli v825 c128_i32_1053
  let v827 : Index := Scalar.indexCast v826
  let c0_1054 : Index := 0#32
  ![v827.toNat, 0]

def k0_chk24 (v825 : BitVec 32) : Prop :=
  (∀ a, (k0_off22 v825) a + S128x128.size a ≤ S4096x128.size a)
theorem k0_off22_inb : ∀ (v825 : BitVec 32) (k0_hw24 : k0_chk24 v825), ∀ a, (k0_off22 v825) a + S128x128.size a ≤ S4096x128.size a := fun v825 k0_hw24 => k0_hw24

def k0_off23 (v836 : BitVec 32) : Fin 2 → Nat :=
  let c128_i32_1062 : BitVec 32 := 128#32
  let v837 : BitVec 32 := Scalar.muli v836 c128_i32_1062
  let v838 : Index := Scalar.indexCast v837
  let c0_1063 : Index := 0#32
  ![v838.toNat, 0]

def k0_chk25 (v836 : BitVec 32) : Prop :=
  (∀ a, (k0_off23 v836) a + S128x128.size a ≤ S4096x128.size a)
theorem k0_off23_inb : ∀ (v836 : BitVec 32) (k0_hw25 : k0_chk25 v836), ∀ a, (k0_off23 v836) a + S128x128.size a ≤ S4096x128.size a := fun v836 k0_hw25 => k0_hw25

def k0_off24 (v847 : BitVec 32) : Fin 2 → Nat :=
  let c128_i32_1071 : BitVec 32 := 128#32
  let v848 : BitVec 32 := Scalar.muli v847 c128_i32_1071
  let v849 : Index := Scalar.indexCast v848
  let c0_1072 : Index := 0#32
  ![v849.toNat, 0]

def k0_chk26 (v847 : BitVec 32) : Prop :=
  (∀ a, (k0_off24 v847) a + S128x128.size a ≤ S4096x128.size a)
theorem k0_off24_inb : ∀ (v847 : BitVec 32) (k0_hw26 : k0_chk26 v847), ∀ a, (k0_off24 v847) a + S128x128.size a ≤ S4096x128.size a := fun v847 k0_hw26 => k0_hw26

def k0_dev39 (v4 : BitVec 32) : Nat :=
  let c0_i32_1184 : BitVec 32 := 0#32
  let c1_i32_1183 : BitVec 32 := 1#32
  let v928 : BitVec 32 := Scalar.muli v4 c1_i32_1183
  let v929 : BitVec 32 := Scalar.addi c0_i32_1184 v928
  v929.toNat
def k0_dev40 (v4 : BitVec 32) : Nat :=
  let c0_i32_1198 : BitVec 32 := 0#32
  let c1_i32_1197 : BitVec 32 := 1#32
  let v936 : BitVec 32 := Scalar.muli v4 c1_i32_1197
  let v937 : BitVec 32 := Scalar.addi c0_i32_1198 v936
  v937.toNat
def k0_dev41 (v3 : BitVec 32) : Nat :=
  let c0_i32_1212 : BitVec 32 := 0#32
  let c1_i32_1211 : BitVec 32 := 1#32
  let v944 : BitVec 32 := Scalar.muli v3 c1_i32_1211
  let v945 : BitVec 32 := Scalar.addi c0_i32_1212 v944
  v945.toNat
def k0_dev42 (v3 : BitVec 32) : Nat :=
  let c0_i32_1226 : BitVec 32 := 0#32
  let c1_i32_1225 : BitVec 32 := 1#32
  let v952 : BitVec 32 := Scalar.muli v3 c1_i32_1225
  let v953 : BitVec 32 := Scalar.addi c0_i32_1226 v952
  v953.toNat
def k0_dev43 (v3 : BitVec 32) : Nat :=
  let c0_i32_1236 : BitVec 32 := 0#32
  let c1_i32_1235 : BitVec 32 := 1#32
  let v954 : BitVec 32 := Scalar.muli v3 c1_i32_1235
  let v955 : BitVec 32 := Scalar.addi c0_i32_1236 v954
  v955.toNat
def k0_dev44 (v3 : BitVec 32) : Nat :=
  let c0_i32_1250 : BitVec 32 := 0#32
  let c1_i32_1249 : BitVec 32 := 1#32
  let v964 : BitVec 32 := Scalar.muli v3 c1_i32_1249
  let v965 : BitVec 32 := Scalar.addi c0_i32_1250 v964
  v965.toNat
def k0_dev45 (v4 : BitVec 32) : Nat :=
  let c0_i32_1264 : BitVec 32 := 0#32
  let c1_i32_1263 : BitVec 32 := 1#32
  let v974 : BitVec 32 := Scalar.muli v4 c1_i32_1263
  let v975 : BitVec 32 := Scalar.addi c0_i32_1264 v974
  v975.toNat
def k0_dev46 (v4 : BitVec 32) : Nat :=
  let c0_i32_1278 : BitVec 32 := 0#32
  let c1_i32_1277 : BitVec 32 := 1#32
  let v984 : BitVec 32 := Scalar.muli v4 c1_i32_1277
  let v985 : BitVec 32 := Scalar.addi c0_i32_1278 v984
  v985.toNat
def k0_off25 (v994 : BitVec 32) : Fin 2 → Nat :=
  let c128_i32_1283 : BitVec 32 := 128#32
  let v995 : BitVec 32 := Scalar.muli v994 c128_i32_1283
  let v996 : Index := Scalar.indexCast v995
  let c0_1284 : Index := 0#32
  ![v996.toNat, 0]

def k0_chk27 (v994 : BitVec 32) : Prop :=
  (∀ a, (k0_off25 v994) a + S128x128.size a ≤ S4096x128.size a)
theorem k0_off25_inb : ∀ (v994 : BitVec 32) (k0_hw27 : k0_chk27 v994), ∀ a, (k0_off25 v994) a + S128x128.size a ≤ S4096x128.size a := fun v994 k0_hw27 => k0_hw27

def k0_off26 (v1005 : BitVec 32) : Fin 2 → Nat :=
  let c128_i32_1292 : BitVec 32 := 128#32
  let v1006 : BitVec 32 := Scalar.muli v1005 c128_i32_1292
  let v1007 : Index := Scalar.indexCast v1006
  let c0_1293 : Index := 0#32
  ![v1007.toNat, 0]

def k0_chk28 (v1005 : BitVec 32) : Prop :=
  (∀ a, (k0_off26 v1005) a + S128x128.size a ≤ S4096x128.size a)
theorem k0_off26_inb : ∀ (v1005 : BitVec 32) (k0_hw28 : k0_chk28 v1005), ∀ a, (k0_off26 v1005) a + S128x128.size a ≤ S4096x128.size a := fun v1005 k0_hw28 => k0_hw28

def k0_off27 (v1016 : BitVec 32) : Fin 2 → Nat :=
  let c128_i32_1301 : BitVec 32 := 128#32
  let v1017 : BitVec 32 := Scalar.muli v1016 c128_i32_1301
  let v1018 : Index := Scalar.indexCast v1017
  let c0_1302 : Index := 0#32
  ![v1018.toNat, 0]

def k0_chk29 (v1016 : BitVec 32) : Prop :=
  (∀ a, (k0_off27 v1016) a + S128x128.size a ≤ S4096x128.size a)
theorem k0_off27_inb : ∀ (v1016 : BitVec 32) (k0_hw29 : k0_chk29 v1016), ∀ a, (k0_off27 v1016) a + S128x128.size a ≤ S4096x128.size a := fun v1016 k0_hw29 => k0_hw29

def k0_off28 (v1027 : BitVec 32) : Fin 2 → Nat :=
  let c128_i32_1310 : BitVec 32 := 128#32
  let v1028 : BitVec 32 := Scalar.muli v1027 c128_i32_1310
  let v1029 : Index := Scalar.indexCast v1028
  let c0_1311 : Index := 0#32
  ![v1029.toNat, 0]

def k0_chk30 (v1027 : BitVec 32) : Prop :=
  (∀ a, (k0_off28 v1027) a + S128x128.size a ≤ S4096x128.size a)
theorem k0_off28_inb : ∀ (v1027 : BitVec 32) (k0_hw30 : k0_chk30 v1027), ∀ a, (k0_off28 v1027) a + S128x128.size a ≤ S4096x128.size a := fun v1027 k0_hw30 => k0_hw30

def k0_dev47 (v4 : BitVec 32) : Nat :=
  let c0_i32_1423 : BitVec 32 := 0#32
  let c1_i32_1422 : BitVec 32 := 1#32
  let v1108 : BitVec 32 := Scalar.muli v4 c1_i32_1422
  let v1109 : BitVec 32 := Scalar.addi c0_i32_1423 v1108
  v1109.toNat
def k0_dev48 (v4 : BitVec 32) : Nat :=
  let c0_i32_1437 : BitVec 32 := 0#32
  let c1_i32_1436 : BitVec 32 := 1#32
  let v1116 : BitVec 32 := Scalar.muli v4 c1_i32_1436
  let v1117 : BitVec 32 := Scalar.addi c0_i32_1437 v1116
  v1117.toNat
def k0_dev49 (v3 : BitVec 32) : Nat :=
  let c0_i32_1451 : BitVec 32 := 0#32
  let c1_i32_1450 : BitVec 32 := 1#32
  let v1124 : BitVec 32 := Scalar.muli v3 c1_i32_1450
  let v1125 : BitVec 32 := Scalar.addi c0_i32_1451 v1124
  v1125.toNat
def k0_dev50 (v3 : BitVec 32) : Nat :=
  let c0_i32_1465 : BitVec 32 := 0#32
  let c1_i32_1464 : BitVec 32 := 1#32
  let v1132 : BitVec 32 := Scalar.muli v3 c1_i32_1464
  let v1133 : BitVec 32 := Scalar.addi c0_i32_1465 v1132
  v1133.toNat
def k0_dev51 (v3 : BitVec 32) : Nat :=
  let c0_i32_1475 : BitVec 32 := 0#32
  let c1_i32_1474 : BitVec 32 := 1#32
  let v1134 : BitVec 32 := Scalar.muli v3 c1_i32_1474
  let v1135 : BitVec 32 := Scalar.addi c0_i32_1475 v1134
  v1135.toNat
def k0_dev52 (v3 : BitVec 32) : Nat :=
  let c0_i32_1489 : BitVec 32 := 0#32
  let c1_i32_1488 : BitVec 32 := 1#32
  let v1144 : BitVec 32 := Scalar.muli v3 c1_i32_1488
  let v1145 : BitVec 32 := Scalar.addi c0_i32_1489 v1144
  v1145.toNat
def k0_dev53 (v4 : BitVec 32) : Nat :=
  let c0_i32_1503 : BitVec 32 := 0#32
  let c1_i32_1502 : BitVec 32 := 1#32
  let v1154 : BitVec 32 := Scalar.muli v4 c1_i32_1502
  let v1155 : BitVec 32 := Scalar.addi c0_i32_1503 v1154
  v1155.toNat
def k0_dev54 (v4 : BitVec 32) : Nat :=
  let c0_i32_1517 : BitVec 32 := 0#32
  let c1_i32_1516 : BitVec 32 := 1#32
  let v1164 : BitVec 32 := Scalar.muli v4 c1_i32_1516
  let v1165 : BitVec 32 := Scalar.addi c0_i32_1517 v1164
  v1165.toNat
def k0_off29 (v1174 : BitVec 32) : Fin 2 → Nat :=
  let c128_i32_1522 : BitVec 32 := 128#32
  let v1175 : BitVec 32 := Scalar.muli v1174 c128_i32_1522
  let v1176 : Index := Scalar.indexCast v1175
  let c0_1523 : Index := 0#32
  ![v1176.toNat, 0]

def k0_chk31 (v1174 : BitVec 32) : Prop :=
  (∀ a, (k0_off29 v1174) a + S128x128.size a ≤ S4096x128.size a)
theorem k0_off29_inb : ∀ (v1174 : BitVec 32) (k0_hw31 : k0_chk31 v1174), ∀ a, (k0_off29 v1174) a + S128x128.size a ≤ S4096x128.size a := fun v1174 k0_hw31 => k0_hw31

def k0_off30 (v1185 : BitVec 32) : Fin 2 → Nat :=
  let c128_i32_1531 : BitVec 32 := 128#32
  let v1186 : BitVec 32 := Scalar.muli v1185 c128_i32_1531
  let v1187 : Index := Scalar.indexCast v1186
  let c0_1532 : Index := 0#32
  ![v1187.toNat, 0]

def k0_chk32 (v1185 : BitVec 32) : Prop :=
  (∀ a, (k0_off30 v1185) a + S128x128.size a ≤ S4096x128.size a)
theorem k0_off30_inb : ∀ (v1185 : BitVec 32) (k0_hw32 : k0_chk32 v1185), ∀ a, (k0_off30 v1185) a + S128x128.size a ≤ S4096x128.size a := fun v1185 k0_hw32 => k0_hw32

def k0_off31 (v1196 : BitVec 32) : Fin 2 → Nat :=
  let c128_i32_1540 : BitVec 32 := 128#32
  let v1197 : BitVec 32 := Scalar.muli v1196 c128_i32_1540
  let v1198 : Index := Scalar.indexCast v1197
  let c0_1541 : Index := 0#32
  ![v1198.toNat, 0]

def k0_chk33 (v1196 : BitVec 32) : Prop :=
  (∀ a, (k0_off31 v1196) a + S128x128.size a ≤ S4096x128.size a)
theorem k0_off31_inb : ∀ (v1196 : BitVec 32) (k0_hw33 : k0_chk33 v1196), ∀ a, (k0_off31 v1196) a + S128x128.size a ≤ S4096x128.size a := fun v1196 k0_hw33 => k0_hw33

def k0_off32 (v1207 : BitVec 32) : Fin 2 → Nat :=
  let c128_i32_1549 : BitVec 32 := 128#32
  let v1208 : BitVec 32 := Scalar.muli v1207 c128_i32_1549
  let v1209 : Index := Scalar.indexCast v1208
  let c0_1550 : Index := 0#32
  ![v1209.toNat, 0]

def k0_chk34 (v1207 : BitVec 32) : Prop :=
  (∀ a, (k0_off32 v1207) a + S128x128.size a ≤ S4096x128.size a)
theorem k0_off32_inb : ∀ (v1207 : BitVec 32) (k0_hw34 : k0_chk34 v1207), ∀ a, (k0_off32 v1207) a + S128x128.size a ≤ S4096x128.size a := fun v1207 k0_hw34 => k0_hw34

def k0_dev55 (v4 : BitVec 32) : Nat :=
  let c0_i32_1662 : BitVec 32 := 0#32
  let c1_i32_1661 : BitVec 32 := 1#32
  let v1288 : BitVec 32 := Scalar.muli v4 c1_i32_1661
  let v1289 : BitVec 32 := Scalar.addi c0_i32_1662 v1288
  v1289.toNat
def k0_dev56 (v4 : BitVec 32) : Nat :=
  let c0_i32_1676 : BitVec 32 := 0#32
  let c1_i32_1675 : BitVec 32 := 1#32
  let v1296 : BitVec 32 := Scalar.muli v4 c1_i32_1675
  let v1297 : BitVec 32 := Scalar.addi c0_i32_1676 v1296
  v1297.toNat
def k0_dev57 (v3 : BitVec 32) : Nat :=
  let c0_i32_1690 : BitVec 32 := 0#32
  let c1_i32_1689 : BitVec 32 := 1#32
  let v1304 : BitVec 32 := Scalar.muli v3 c1_i32_1689
  let v1305 : BitVec 32 := Scalar.addi c0_i32_1690 v1304
  v1305.toNat
def k0_dev58 (v3 : BitVec 32) : Nat :=
  let c0_i32_1704 : BitVec 32 := 0#32
  let c1_i32_1703 : BitVec 32 := 1#32
  let v1312 : BitVec 32 := Scalar.muli v3 c1_i32_1703
  let v1313 : BitVec 32 := Scalar.addi c0_i32_1704 v1312
  v1313.toNat
def k0_dev59 (v3 : BitVec 32) : Nat :=
  let c0_i32_1714 : BitVec 32 := 0#32
  let c1_i32_1713 : BitVec 32 := 1#32
  let v1314 : BitVec 32 := Scalar.muli v3 c1_i32_1713
  let v1315 : BitVec 32 := Scalar.addi c0_i32_1714 v1314
  v1315.toNat
def k0_dev60 (v3 : BitVec 32) : Nat :=
  let c0_i32_1728 : BitVec 32 := 0#32
  let c1_i32_1727 : BitVec 32 := 1#32
  let v1324 : BitVec 32 := Scalar.muli v3 c1_i32_1727
  let v1325 : BitVec 32 := Scalar.addi c0_i32_1728 v1324
  v1325.toNat
def k0_dev61 (v4 : BitVec 32) : Nat :=
  let c0_i32_1742 : BitVec 32 := 0#32
  let c1_i32_1741 : BitVec 32 := 1#32
  let v1334 : BitVec 32 := Scalar.muli v4 c1_i32_1741
  let v1335 : BitVec 32 := Scalar.addi c0_i32_1742 v1334
  v1335.toNat
def k0_dev62 (v4 : BitVec 32) : Nat :=
  let c0_i32_1756 : BitVec 32 := 0#32
  let c1_i32_1755 : BitVec 32 := 1#32
  let v1344 : BitVec 32 := Scalar.muli v4 c1_i32_1755
  let v1345 : BitVec 32 := Scalar.addi c0_i32_1756 v1344
  v1345.toNat
def k0_off33 (v1354 : BitVec 32) : Fin 2 → Nat :=
  let c128_i32_1761 : BitVec 32 := 128#32
  let v1355 : BitVec 32 := Scalar.muli v1354 c128_i32_1761
  let v1356 : Index := Scalar.indexCast v1355
  let c0_1762 : Index := 0#32
  ![v1356.toNat, 0]

def k0_chk35 (v1354 : BitVec 32) : Prop :=
  (∀ a, (k0_off33 v1354) a + S128x128.size a ≤ S4096x128.size a)
theorem k0_off33_inb : ∀ (v1354 : BitVec 32) (k0_hw35 : k0_chk35 v1354), ∀ a, (k0_off33 v1354) a + S128x128.size a ≤ S4096x128.size a := fun v1354 k0_hw35 => k0_hw35

def k0_off34 (v1365 : BitVec 32) : Fin 2 → Nat :=
  let c128_i32_1770 : BitVec 32 := 128#32
  let v1366 : BitVec 32 := Scalar.muli v1365 c128_i32_1770
  let v1367 : Index := Scalar.indexCast v1366
  let c0_1771 : Index := 0#32
  ![v1367.toNat, 0]

def k0_chk36 (v1365 : BitVec 32) : Prop :=
  (∀ a, (k0_off34 v1365) a + S128x128.size a ≤ S4096x128.size a)
theorem k0_off34_inb : ∀ (v1365 : BitVec 32) (k0_hw36 : k0_chk36 v1365), ∀ a, (k0_off34 v1365) a + S128x128.size a ≤ S4096x128.size a := fun v1365 k0_hw36 => k0_hw36

def k0_off35 (v1376 : BitVec 32) : Fin 2 → Nat :=
  let c128_i32_1779 : BitVec 32 := 128#32
  let v1377 : BitVec 32 := Scalar.muli v1376 c128_i32_1779
  let v1378 : Index := Scalar.indexCast v1377
  let c0_1780 : Index := 0#32
  ![v1378.toNat, 0]

def k0_chk37 (v1376 : BitVec 32) : Prop :=
  (∀ a, (k0_off35 v1376) a + S128x128.size a ≤ S4096x128.size a)
theorem k0_off35_inb : ∀ (v1376 : BitVec 32) (k0_hw37 : k0_chk37 v1376), ∀ a, (k0_off35 v1376) a + S128x128.size a ≤ S4096x128.size a := fun v1376 k0_hw37 => k0_hw37

def k0_off36 (v1387 : BitVec 32) : Fin 2 → Nat :=
  let c128_i32_1788 : BitVec 32 := 128#32
  let v1388 : BitVec 32 := Scalar.muli v1387 c128_i32_1788
  let v1389 : Index := Scalar.indexCast v1388
  let c0_1789 : Index := 0#32
  ![v1389.toNat, 0]

def k0_chk38 (v1387 : BitVec 32) : Prop :=
  (∀ a, (k0_off36 v1387) a + S128x128.size a ≤ S4096x128.size a)
theorem k0_off36_inb : ∀ (v1387 : BitVec 32) (k0_hw38 : k0_chk38 v1387), ∀ a, (k0_off36 v1387) a + S128x128.size a ≤ S4096x128.size a := fun v1387 k0_hw38 => k0_hw38

def k0_dev63 (v4 : BitVec 32) : Nat :=
  let c0_i32_1901 : BitVec 32 := 0#32
  let c1_i32_1900 : BitVec 32 := 1#32
  let v1468 : BitVec 32 := Scalar.muli v4 c1_i32_1900
  let v1469 : BitVec 32 := Scalar.addi c0_i32_1901 v1468
  v1469.toNat
def k0_dev64 (v4 : BitVec 32) : Nat :=
  let c0_i32_1915 : BitVec 32 := 0#32
  let c1_i32_1914 : BitVec 32 := 1#32
  let v1476 : BitVec 32 := Scalar.muli v4 c1_i32_1914
  let v1477 : BitVec 32 := Scalar.addi c0_i32_1915 v1476
  v1477.toNat
def k0_dev65 (v3 : BitVec 32) : Nat :=
  let c0_i32_1929 : BitVec 32 := 0#32
  let c1_i32_1928 : BitVec 32 := 1#32
  let v1484 : BitVec 32 := Scalar.muli v3 c1_i32_1928
  let v1485 : BitVec 32 := Scalar.addi c0_i32_1929 v1484
  v1485.toNat
def k0_dev66 (v3 : BitVec 32) : Nat :=
  let c0_i32_1943 : BitVec 32 := 0#32
  let c1_i32_1942 : BitVec 32 := 1#32
  let v1492 : BitVec 32 := Scalar.muli v3 c1_i32_1942
  let v1493 : BitVec 32 := Scalar.addi c0_i32_1943 v1492
  v1493.toNat
def k0_dev67 (v3 : BitVec 32) : Nat :=
  let c0_i32_1953 : BitVec 32 := 0#32
  let c1_i32_1952 : BitVec 32 := 1#32
  let v1494 : BitVec 32 := Scalar.muli v3 c1_i32_1952
  let v1495 : BitVec 32 := Scalar.addi c0_i32_1953 v1494
  v1495.toNat
def k0_dev68 (v3 : BitVec 32) : Nat :=
  let c0_i32_1967 : BitVec 32 := 0#32
  let c1_i32_1966 : BitVec 32 := 1#32
  let v1504 : BitVec 32 := Scalar.muli v3 c1_i32_1966
  let v1505 : BitVec 32 := Scalar.addi c0_i32_1967 v1504
  v1505.toNat
def k0_dev69 (v4 : BitVec 32) : Nat :=
  let c0_i32_1981 : BitVec 32 := 0#32
  let c1_i32_1980 : BitVec 32 := 1#32
  let v1514 : BitVec 32 := Scalar.muli v4 c1_i32_1980
  let v1515 : BitVec 32 := Scalar.addi c0_i32_1981 v1514
  v1515.toNat
def k0_dev70 (v4 : BitVec 32) : Nat :=
  let c0_i32_1995 : BitVec 32 := 0#32
  let c1_i32_1994 : BitVec 32 := 1#32
  let v1524 : BitVec 32 := Scalar.muli v4 c1_i32_1994
  let v1525 : BitVec 32 := Scalar.addi c0_i32_1995 v1524
  v1525.toNat
def k0_off37 (v1534 : BitVec 32) : Fin 2 → Nat :=
  let c128_i32_2000 : BitVec 32 := 128#32
  let v1535 : BitVec 32 := Scalar.muli v1534 c128_i32_2000
  let v1536 : Index := Scalar.indexCast v1535
  let c0_2001 : Index := 0#32
  ![v1536.toNat, 0]

def k0_chk39 (v1534 : BitVec 32) : Prop :=
  (∀ a, (k0_off37 v1534) a + S128x128.size a ≤ S4096x128.size a)
theorem k0_off37_inb : ∀ (v1534 : BitVec 32) (k0_hw39 : k0_chk39 v1534), ∀ a, (k0_off37 v1534) a + S128x128.size a ≤ S4096x128.size a := fun v1534 k0_hw39 => k0_hw39

def k0_off38 (v1545 : BitVec 32) : Fin 2 → Nat :=
  let c128_i32_2009 : BitVec 32 := 128#32
  let v1546 : BitVec 32 := Scalar.muli v1545 c128_i32_2009
  let v1547 : Index := Scalar.indexCast v1546
  let c0_2010 : Index := 0#32
  ![v1547.toNat, 0]

def k0_chk40 (v1545 : BitVec 32) : Prop :=
  (∀ a, (k0_off38 v1545) a + S128x128.size a ≤ S4096x128.size a)
theorem k0_off38_inb : ∀ (v1545 : BitVec 32) (k0_hw40 : k0_chk40 v1545), ∀ a, (k0_off38 v1545) a + S128x128.size a ≤ S4096x128.size a := fun v1545 k0_hw40 => k0_hw40

def k0_off39 (v1556 : BitVec 32) : Fin 2 → Nat :=
  let c128_i32_2018 : BitVec 32 := 128#32
  let v1557 : BitVec 32 := Scalar.muli v1556 c128_i32_2018
  let v1558 : Index := Scalar.indexCast v1557
  let c0_2019 : Index := 0#32
  ![v1558.toNat, 0]

def k0_chk41 (v1556 : BitVec 32) : Prop :=
  (∀ a, (k0_off39 v1556) a + S128x128.size a ≤ S4096x128.size a)
theorem k0_off39_inb : ∀ (v1556 : BitVec 32) (k0_hw41 : k0_chk41 v1556), ∀ a, (k0_off39 v1556) a + S128x128.size a ≤ S4096x128.size a := fun v1556 k0_hw41 => k0_hw41

def k0_off40 (v1567 : BitVec 32) : Fin 2 → Nat :=
  let c128_i32_2027 : BitVec 32 := 128#32
  let v1568 : BitVec 32 := Scalar.muli v1567 c128_i32_2027
  let v1569 : Index := Scalar.indexCast v1568
  let c0_2028 : Index := 0#32
  ![v1569.toNat, 0]

def k0_chk42 (v1567 : BitVec 32) : Prop :=
  (∀ a, (k0_off40 v1567) a + S128x128.size a ≤ S4096x128.size a)
theorem k0_off40_inb : ∀ (v1567 : BitVec 32) (k0_hw42 : k0_chk42 v1567), ∀ a, (k0_off40 v1567) a + S128x128.size a ≤ S4096x128.size a := fun v1567 k0_hw42 => k0_hw42

def k0_dev71 (v4 : BitVec 32) : Nat :=
  let c0_i32_2140 : BitVec 32 := 0#32
  let c1_i32_2139 : BitVec 32 := 1#32
  let v1648 : BitVec 32 := Scalar.muli v4 c1_i32_2139
  let v1649 : BitVec 32 := Scalar.addi c0_i32_2140 v1648
  v1649.toNat
def k0_dev72 (v4 : BitVec 32) : Nat :=
  let c0_i32_2154 : BitVec 32 := 0#32
  let c1_i32_2153 : BitVec 32 := 1#32
  let v1656 : BitVec 32 := Scalar.muli v4 c1_i32_2153
  let v1657 : BitVec 32 := Scalar.addi c0_i32_2154 v1656
  v1657.toNat
def k0_dev73 (v3 : BitVec 32) : Nat :=
  let c0_i32_2168 : BitVec 32 := 0#32
  let c1_i32_2167 : BitVec 32 := 1#32
  let v1664 : BitVec 32 := Scalar.muli v3 c1_i32_2167
  let v1665 : BitVec 32 := Scalar.addi c0_i32_2168 v1664
  v1665.toNat
def k0_dev74 (v3 : BitVec 32) : Nat :=
  let c0_i32_2182 : BitVec 32 := 0#32
  let c1_i32_2181 : BitVec 32 := 1#32
  let v1672 : BitVec 32 := Scalar.muli v3 c1_i32_2181
  let v1673 : BitVec 32 := Scalar.addi c0_i32_2182 v1672
  v1673.toNat
def k0_dev75 (v3 : BitVec 32) : Nat :=
  let c0_i32_2192 : BitVec 32 := 0#32
  let c1_i32_2191 : BitVec 32 := 1#32
  let v1674 : BitVec 32 := Scalar.muli v3 c1_i32_2191
  let v1675 : BitVec 32 := Scalar.addi c0_i32_2192 v1674
  v1675.toNat
def k0_dev76 (v3 : BitVec 32) : Nat :=
  let c0_i32_2206 : BitVec 32 := 0#32
  let c1_i32_2205 : BitVec 32 := 1#32
  let v1684 : BitVec 32 := Scalar.muli v3 c1_i32_2205
  let v1685 : BitVec 32 := Scalar.addi c0_i32_2206 v1684
  v1685.toNat
def k0_dev77 (v4 : BitVec 32) : Nat :=
  let c0_i32_2220 : BitVec 32 := 0#32
  let c1_i32_2219 : BitVec 32 := 1#32
  let v1694 : BitVec 32 := Scalar.muli v4 c1_i32_2219
  let v1695 : BitVec 32 := Scalar.addi c0_i32_2220 v1694
  v1695.toNat
def k0_dev78 (v4 : BitVec 32) : Nat :=
  let c0_i32_2234 : BitVec 32 := 0#32
  let c1_i32_2233 : BitVec 32 := 1#32
  let v1704 : BitVec 32 := Scalar.muli v4 c1_i32_2233
  let v1705 : BitVec 32 := Scalar.addi c0_i32_2234 v1704
  v1705.toNat
def k0_off41 (v1714 : BitVec 32) : Fin 2 → Nat :=
  let c128_i32_2239 : BitVec 32 := 128#32
  let v1715 : BitVec 32 := Scalar.muli v1714 c128_i32_2239
  let v1716 : Index := Scalar.indexCast v1715
  let c0_2240 : Index := 0#32
  ![v1716.toNat, 0]

def k0_chk43 (v1714 : BitVec 32) : Prop :=
  (∀ a, (k0_off41 v1714) a + S128x128.size a ≤ S4096x128.size a)
theorem k0_off41_inb : ∀ (v1714 : BitVec 32) (k0_hw43 : k0_chk43 v1714), ∀ a, (k0_off41 v1714) a + S128x128.size a ≤ S4096x128.size a := fun v1714 k0_hw43 => k0_hw43

def k0_off42 (v1725 : BitVec 32) : Fin 2 → Nat :=
  let c128_i32_2248 : BitVec 32 := 128#32
  let v1726 : BitVec 32 := Scalar.muli v1725 c128_i32_2248
  let v1727 : Index := Scalar.indexCast v1726
  let c0_2249 : Index := 0#32
  ![v1727.toNat, 0]

def k0_chk44 (v1725 : BitVec 32) : Prop :=
  (∀ a, (k0_off42 v1725) a + S128x128.size a ≤ S4096x128.size a)
theorem k0_off42_inb : ∀ (v1725 : BitVec 32) (k0_hw44 : k0_chk44 v1725), ∀ a, (k0_off42 v1725) a + S128x128.size a ≤ S4096x128.size a := fun v1725 k0_hw44 => k0_hw44

def k0_off43 (v1736 : BitVec 32) : Fin 2 → Nat :=
  let c128_i32_2257 : BitVec 32 := 128#32
  let v1737 : BitVec 32 := Scalar.muli v1736 c128_i32_2257
  let v1738 : Index := Scalar.indexCast v1737
  let c0_2258 : Index := 0#32
  ![v1738.toNat, 0]

def k0_chk45 (v1736 : BitVec 32) : Prop :=
  (∀ a, (k0_off43 v1736) a + S128x128.size a ≤ S4096x128.size a)
theorem k0_off43_inb : ∀ (v1736 : BitVec 32) (k0_hw45 : k0_chk45 v1736), ∀ a, (k0_off43 v1736) a + S128x128.size a ≤ S4096x128.size a := fun v1736 k0_hw45 => k0_hw45

def k0_off44 (v1747 : BitVec 32) : Fin 2 → Nat :=
  let c128_i32_2266 : BitVec 32 := 128#32
  let v1748 : BitVec 32 := Scalar.muli v1747 c128_i32_2266
  let v1749 : Index := Scalar.indexCast v1748
  let c0_2267 : Index := 0#32
  ![v1749.toNat, 0]

def k0_chk46 (v1747 : BitVec 32) : Prop :=
  (∀ a, (k0_off44 v1747) a + S128x128.size a ≤ S4096x128.size a)
theorem k0_off44_inb : ∀ (v1747 : BitVec 32) (k0_hw46 : k0_chk46 v1747), ∀ a, (k0_off44 v1747) a + S128x128.size a ≤ S4096x128.size a := fun v1747 k0_hw46 => k0_hw46

def k0_dev79 (v4 : BitVec 32) : Nat :=
  let c0_i32_2379 : BitVec 32 := 0#32
  let c1_i32_2378 : BitVec 32 := 1#32
  let v1828 : BitVec 32 := Scalar.muli v4 c1_i32_2378
  let v1829 : BitVec 32 := Scalar.addi c0_i32_2379 v1828
  v1829.toNat
def k0_dev80 (v4 : BitVec 32) : Nat :=
  let c0_i32_2393 : BitVec 32 := 0#32
  let c1_i32_2392 : BitVec 32 := 1#32
  let v1836 : BitVec 32 := Scalar.muli v4 c1_i32_2392
  let v1837 : BitVec 32 := Scalar.addi c0_i32_2393 v1836
  v1837.toNat
def k0_dev81 (v3 : BitVec 32) : Nat :=
  let c0_i32_2407 : BitVec 32 := 0#32
  let c1_i32_2406 : BitVec 32 := 1#32
  let v1844 : BitVec 32 := Scalar.muli v3 c1_i32_2406
  let v1845 : BitVec 32 := Scalar.addi c0_i32_2407 v1844
  v1845.toNat
def k0_dev82 (v3 : BitVec 32) : Nat :=
  let c0_i32_2421 : BitVec 32 := 0#32
  let c1_i32_2420 : BitVec 32 := 1#32
  let v1852 : BitVec 32 := Scalar.muli v3 c1_i32_2420
  let v1853 : BitVec 32 := Scalar.addi c0_i32_2421 v1852
  v1853.toNat
def k0_dev83 (v3 : BitVec 32) : Nat :=
  let c0_i32_2431 : BitVec 32 := 0#32
  let c1_i32_2430 : BitVec 32 := 1#32
  let v1854 : BitVec 32 := Scalar.muli v3 c1_i32_2430
  let v1855 : BitVec 32 := Scalar.addi c0_i32_2431 v1854
  v1855.toNat
def k0_dev84 (v3 : BitVec 32) : Nat :=
  let c0_i32_2445 : BitVec 32 := 0#32
  let c1_i32_2444 : BitVec 32 := 1#32
  let v1864 : BitVec 32 := Scalar.muli v3 c1_i32_2444
  let v1865 : BitVec 32 := Scalar.addi c0_i32_2445 v1864
  v1865.toNat
def k0_dev85 (v4 : BitVec 32) : Nat :=
  let c0_i32_2459 : BitVec 32 := 0#32
  let c1_i32_2458 : BitVec 32 := 1#32
  let v1874 : BitVec 32 := Scalar.muli v4 c1_i32_2458
  let v1875 : BitVec 32 := Scalar.addi c0_i32_2459 v1874
  v1875.toNat
def k0_dev86 (v4 : BitVec 32) : Nat :=
  let c0_i32_2473 : BitVec 32 := 0#32
  let c1_i32_2472 : BitVec 32 := 1#32
  let v1884 : BitVec 32 := Scalar.muli v4 c1_i32_2472
  let v1885 : BitVec 32 := Scalar.addi c0_i32_2473 v1884
  v1885.toNat
def k0_off45 (v1894 : BitVec 32) : Fin 2 → Nat :=
  let c128_i32_2478 : BitVec 32 := 128#32
  let v1895 : BitVec 32 := Scalar.muli v1894 c128_i32_2478
  let v1896 : Index := Scalar.indexCast v1895
  let c0_2479 : Index := 0#32
  ![v1896.toNat, 0]

def k0_chk47 (v1894 : BitVec 32) : Prop :=
  (∀ a, (k0_off45 v1894) a + S128x128.size a ≤ S4096x128.size a)
theorem k0_off45_inb : ∀ (v1894 : BitVec 32) (k0_hw47 : k0_chk47 v1894), ∀ a, (k0_off45 v1894) a + S128x128.size a ≤ S4096x128.size a := fun v1894 k0_hw47 => k0_hw47

def k0_off46 (v1905 : BitVec 32) : Fin 2 → Nat :=
  let c128_i32_2487 : BitVec 32 := 128#32
  let v1906 : BitVec 32 := Scalar.muli v1905 c128_i32_2487
  let v1907 : Index := Scalar.indexCast v1906
  let c0_2488 : Index := 0#32
  ![v1907.toNat, 0]

def k0_chk48 (v1905 : BitVec 32) : Prop :=
  (∀ a, (k0_off46 v1905) a + S128x128.size a ≤ S4096x128.size a)
theorem k0_off46_inb : ∀ (v1905 : BitVec 32) (k0_hw48 : k0_chk48 v1905), ∀ a, (k0_off46 v1905) a + S128x128.size a ≤ S4096x128.size a := fun v1905 k0_hw48 => k0_hw48

def k0_off47 (v1916 : BitVec 32) : Fin 2 → Nat :=
  let c128_i32_2496 : BitVec 32 := 128#32
  let v1917 : BitVec 32 := Scalar.muli v1916 c128_i32_2496
  let v1918 : Index := Scalar.indexCast v1917
  let c0_2497 : Index := 0#32
  ![v1918.toNat, 0]

def k0_chk49 (v1916 : BitVec 32) : Prop :=
  (∀ a, (k0_off47 v1916) a + S128x128.size a ≤ S4096x128.size a)
theorem k0_off47_inb : ∀ (v1916 : BitVec 32) (k0_hw49 : k0_chk49 v1916), ∀ a, (k0_off47 v1916) a + S128x128.size a ≤ S4096x128.size a := fun v1916 k0_hw49 => k0_hw49

def k0_off48 (v1927 : BitVec 32) : Fin 2 → Nat :=
  let c128_i32_2505 : BitVec 32 := 128#32
  let v1928 : BitVec 32 := Scalar.muli v1927 c128_i32_2505
  let v1929 : Index := Scalar.indexCast v1928
  let c0_2506 : Index := 0#32
  ![v1929.toNat, 0]

def k0_chk50 (v1927 : BitVec 32) : Prop :=
  (∀ a, (k0_off48 v1927) a + S128x128.size a ≤ S4096x128.size a)
theorem k0_off48_inb : ∀ (v1927 : BitVec 32) (k0_hw50 : k0_chk50 v1927), ∀ a, (k0_off48 v1927) a + S128x128.size a ≤ S4096x128.size a := fun v1927 k0_hw50 => k0_hw50

def k0_dev87 (v4 : BitVec 32) : Nat :=
  let c0_i32_2618 : BitVec 32 := 0#32
  let c1_i32_2617 : BitVec 32 := 1#32
  let v2008 : BitVec 32 := Scalar.muli v4 c1_i32_2617
  let v2009 : BitVec 32 := Scalar.addi c0_i32_2618 v2008
  v2009.toNat
def k0_dev88 (v4 : BitVec 32) : Nat :=
  let c0_i32_2632 : BitVec 32 := 0#32
  let c1_i32_2631 : BitVec 32 := 1#32
  let v2016 : BitVec 32 := Scalar.muli v4 c1_i32_2631
  let v2017 : BitVec 32 := Scalar.addi c0_i32_2632 v2016
  v2017.toNat
def k0_dev89 (v3 : BitVec 32) : Nat :=
  let c0_i32_2646 : BitVec 32 := 0#32
  let c1_i32_2645 : BitVec 32 := 1#32
  let v2024 : BitVec 32 := Scalar.muli v3 c1_i32_2645
  let v2025 : BitVec 32 := Scalar.addi c0_i32_2646 v2024
  v2025.toNat
def k0_dev90 (v3 : BitVec 32) : Nat :=
  let c0_i32_2660 : BitVec 32 := 0#32
  let c1_i32_2659 : BitVec 32 := 1#32
  let v2032 : BitVec 32 := Scalar.muli v3 c1_i32_2659
  let v2033 : BitVec 32 := Scalar.addi c0_i32_2660 v2032
  v2033.toNat
def k0_dev91 (v3 : BitVec 32) : Nat :=
  let c0_i32_2670 : BitVec 32 := 0#32
  let c1_i32_2669 : BitVec 32 := 1#32
  let v2034 : BitVec 32 := Scalar.muli v3 c1_i32_2669
  let v2035 : BitVec 32 := Scalar.addi c0_i32_2670 v2034
  v2035.toNat
def k0_dev92 (v3 : BitVec 32) : Nat :=
  let c0_i32_2684 : BitVec 32 := 0#32
  let c1_i32_2683 : BitVec 32 := 1#32
  let v2044 : BitVec 32 := Scalar.muli v3 c1_i32_2683
  let v2045 : BitVec 32 := Scalar.addi c0_i32_2684 v2044
  v2045.toNat
def k0_dev93 (v4 : BitVec 32) : Nat :=
  let c0_i32_2698 : BitVec 32 := 0#32
  let c1_i32_2697 : BitVec 32 := 1#32
  let v2054 : BitVec 32 := Scalar.muli v4 c1_i32_2697
  let v2055 : BitVec 32 := Scalar.addi c0_i32_2698 v2054
  v2055.toNat
def k0_dev94 (v4 : BitVec 32) : Nat :=
  let c0_i32_2712 : BitVec 32 := 0#32
  let c1_i32_2711 : BitVec 32 := 1#32
  let v2064 : BitVec 32 := Scalar.muli v4 c1_i32_2711
  let v2065 : BitVec 32 := Scalar.addi c0_i32_2712 v2064
  v2065.toNat
def k0_off49 (v2074 : BitVec 32) : Fin 2 → Nat :=
  let c128_i32_2717 : BitVec 32 := 128#32
  let v2075 : BitVec 32 := Scalar.muli v2074 c128_i32_2717
  let v2076 : Index := Scalar.indexCast v2075
  let c0_2718 : Index := 0#32
  ![v2076.toNat, 0]

def k0_chk51 (v2074 : BitVec 32) : Prop :=
  (∀ a, (k0_off49 v2074) a + S128x128.size a ≤ S4096x128.size a)
theorem k0_off49_inb : ∀ (v2074 : BitVec 32) (k0_hw51 : k0_chk51 v2074), ∀ a, (k0_off49 v2074) a + S128x128.size a ≤ S4096x128.size a := fun v2074 k0_hw51 => k0_hw51

def k0_off50 (v2085 : BitVec 32) : Fin 2 → Nat :=
  let c128_i32_2726 : BitVec 32 := 128#32
  let v2086 : BitVec 32 := Scalar.muli v2085 c128_i32_2726
  let v2087 : Index := Scalar.indexCast v2086
  let c0_2727 : Index := 0#32
  ![v2087.toNat, 0]

def k0_chk52 (v2085 : BitVec 32) : Prop :=
  (∀ a, (k0_off50 v2085) a + S128x128.size a ≤ S4096x128.size a)
theorem k0_off50_inb : ∀ (v2085 : BitVec 32) (k0_hw52 : k0_chk52 v2085), ∀ a, (k0_off50 v2085) a + S128x128.size a ≤ S4096x128.size a := fun v2085 k0_hw52 => k0_hw52

def k0_off51 (v2096 : BitVec 32) : Fin 2 → Nat :=
  let c128_i32_2735 : BitVec 32 := 128#32
  let v2097 : BitVec 32 := Scalar.muli v2096 c128_i32_2735
  let v2098 : Index := Scalar.indexCast v2097
  let c0_2736 : Index := 0#32
  ![v2098.toNat, 0]

def k0_chk53 (v2096 : BitVec 32) : Prop :=
  (∀ a, (k0_off51 v2096) a + S128x128.size a ≤ S4096x128.size a)
theorem k0_off51_inb : ∀ (v2096 : BitVec 32) (k0_hw53 : k0_chk53 v2096), ∀ a, (k0_off51 v2096) a + S128x128.size a ≤ S4096x128.size a := fun v2096 k0_hw53 => k0_hw53

def k0_off52 (v2107 : BitVec 32) : Fin 2 → Nat :=
  let c128_i32_2744 : BitVec 32 := 128#32
  let v2108 : BitVec 32 := Scalar.muli v2107 c128_i32_2744
  let v2109 : Index := Scalar.indexCast v2108
  let c0_2745 : Index := 0#32
  ![v2109.toNat, 0]

def k0_chk54 (v2107 : BitVec 32) : Prop :=
  (∀ a, (k0_off52 v2107) a + S128x128.size a ≤ S4096x128.size a)
theorem k0_off52_inb : ∀ (v2107 : BitVec 32) (k0_hw54 : k0_chk54 v2107), ∀ a, (k0_off52 v2107) a + S128x128.size a ≤ S4096x128.size a := fun v2107 k0_hw54 => k0_hw54

def k0_dev95 (v4 : BitVec 32) : Nat :=
  let c0_i32_2857 : BitVec 32 := 0#32
  let c1_i32_2856 : BitVec 32 := 1#32
  let v2188 : BitVec 32 := Scalar.muli v4 c1_i32_2856
  let v2189 : BitVec 32 := Scalar.addi c0_i32_2857 v2188
  v2189.toNat
def k0_dev96 (v4 : BitVec 32) : Nat :=
  let c0_i32_2871 : BitVec 32 := 0#32
  let c1_i32_2870 : BitVec 32 := 1#32
  let v2196 : BitVec 32 := Scalar.muli v4 c1_i32_2870
  let v2197 : BitVec 32 := Scalar.addi c0_i32_2871 v2196
  v2197.toNat
def k0_dev97 (v3 : BitVec 32) : Nat :=
  let c0_i32_2885 : BitVec 32 := 0#32
  let c1_i32_2884 : BitVec 32 := 1#32
  let v2204 : BitVec 32 := Scalar.muli v3 c1_i32_2884
  let v2205 : BitVec 32 := Scalar.addi c0_i32_2885 v2204
  v2205.toNat
def k0_dev98 (v3 : BitVec 32) : Nat :=
  let c0_i32_2899 : BitVec 32 := 0#32
  let c1_i32_2898 : BitVec 32 := 1#32
  let v2212 : BitVec 32 := Scalar.muli v3 c1_i32_2898
  let v2213 : BitVec 32 := Scalar.addi c0_i32_2899 v2212
  v2213.toNat
def k0_dev99 (v3 : BitVec 32) : Nat :=
  let c0_i32_2909 : BitVec 32 := 0#32
  let c1_i32_2908 : BitVec 32 := 1#32
  let v2214 : BitVec 32 := Scalar.muli v3 c1_i32_2908
  let v2215 : BitVec 32 := Scalar.addi c0_i32_2909 v2214
  v2215.toNat
def k0_dev100 (v3 : BitVec 32) : Nat :=
  let c0_i32_2923 : BitVec 32 := 0#32
  let c1_i32_2922 : BitVec 32 := 1#32
  let v2224 : BitVec 32 := Scalar.muli v3 c1_i32_2922
  let v2225 : BitVec 32 := Scalar.addi c0_i32_2923 v2224
  v2225.toNat
def k0_dev101 (v4 : BitVec 32) : Nat :=
  let c0_i32_2937 : BitVec 32 := 0#32
  let c1_i32_2936 : BitVec 32 := 1#32
  let v2234 : BitVec 32 := Scalar.muli v4 c1_i32_2936
  let v2235 : BitVec 32 := Scalar.addi c0_i32_2937 v2234
  v2235.toNat
def k0_dev102 (v4 : BitVec 32) : Nat :=
  let c0_i32_2951 : BitVec 32 := 0#32
  let c1_i32_2950 : BitVec 32 := 1#32
  let v2244 : BitVec 32 := Scalar.muli v4 c1_i32_2950
  let v2245 : BitVec 32 := Scalar.addi c0_i32_2951 v2244
  v2245.toNat
def k0_off53 (v2254 : BitVec 32) : Fin 2 → Nat :=
  let c128_i32_2956 : BitVec 32 := 128#32
  let v2255 : BitVec 32 := Scalar.muli v2254 c128_i32_2956
  let v2256 : Index := Scalar.indexCast v2255
  let c0_2957 : Index := 0#32
  ![v2256.toNat, 0]

def k0_chk55 (v2254 : BitVec 32) : Prop :=
  (∀ a, (k0_off53 v2254) a + S128x128.size a ≤ S4096x128.size a)
theorem k0_off53_inb : ∀ (v2254 : BitVec 32) (k0_hw55 : k0_chk55 v2254), ∀ a, (k0_off53 v2254) a + S128x128.size a ≤ S4096x128.size a := fun v2254 k0_hw55 => k0_hw55

def k0_off54 (v2265 : BitVec 32) : Fin 2 → Nat :=
  let c128_i32_2965 : BitVec 32 := 128#32
  let v2266 : BitVec 32 := Scalar.muli v2265 c128_i32_2965
  let v2267 : Index := Scalar.indexCast v2266
  let c0_2966 : Index := 0#32
  ![v2267.toNat, 0]

def k0_chk56 (v2265 : BitVec 32) : Prop :=
  (∀ a, (k0_off54 v2265) a + S128x128.size a ≤ S4096x128.size a)
theorem k0_off54_inb : ∀ (v2265 : BitVec 32) (k0_hw56 : k0_chk56 v2265), ∀ a, (k0_off54 v2265) a + S128x128.size a ≤ S4096x128.size a := fun v2265 k0_hw56 => k0_hw56

def k0_off55 (v2276 : BitVec 32) : Fin 2 → Nat :=
  let c128_i32_2974 : BitVec 32 := 128#32
  let v2277 : BitVec 32 := Scalar.muli v2276 c128_i32_2974
  let v2278 : Index := Scalar.indexCast v2277
  let c0_2975 : Index := 0#32
  ![v2278.toNat, 0]

def k0_chk57 (v2276 : BitVec 32) : Prop :=
  (∀ a, (k0_off55 v2276) a + S128x128.size a ≤ S4096x128.size a)
theorem k0_off55_inb : ∀ (v2276 : BitVec 32) (k0_hw57 : k0_chk57 v2276), ∀ a, (k0_off55 v2276) a + S128x128.size a ≤ S4096x128.size a := fun v2276 k0_hw57 => k0_hw57

def k0_off56 (v2287 : BitVec 32) : Fin 2 → Nat :=
  let c128_i32_2983 : BitVec 32 := 128#32
  let v2288 : BitVec 32 := Scalar.muli v2287 c128_i32_2983
  let v2289 : Index := Scalar.indexCast v2288
  let c0_2984 : Index := 0#32
  ![v2289.toNat, 0]

def k0_chk58 (v2287 : BitVec 32) : Prop :=
  (∀ a, (k0_off56 v2287) a + S128x128.size a ≤ S4096x128.size a)
theorem k0_off56_inb : ∀ (v2287 : BitVec 32) (k0_hw58 : k0_chk58 v2287), ∀ a, (k0_off56 v2287) a + S128x128.size a ≤ S4096x128.size a := fun v2287 k0_hw58 => k0_hw58

def k0_dev103 (v4 : BitVec 32) : Nat :=
  let c0_i32_3096 : BitVec 32 := 0#32
  let c1_i32_3095 : BitVec 32 := 1#32
  let v2368 : BitVec 32 := Scalar.muli v4 c1_i32_3095
  let v2369 : BitVec 32 := Scalar.addi c0_i32_3096 v2368
  v2369.toNat
def k0_dev104 (v4 : BitVec 32) : Nat :=
  let c0_i32_3110 : BitVec 32 := 0#32
  let c1_i32_3109 : BitVec 32 := 1#32
  let v2376 : BitVec 32 := Scalar.muli v4 c1_i32_3109
  let v2377 : BitVec 32 := Scalar.addi c0_i32_3110 v2376
  v2377.toNat
def k0_dev105 (v3 : BitVec 32) : Nat :=
  let c0_i32_3124 : BitVec 32 := 0#32
  let c1_i32_3123 : BitVec 32 := 1#32
  let v2384 : BitVec 32 := Scalar.muli v3 c1_i32_3123
  let v2385 : BitVec 32 := Scalar.addi c0_i32_3124 v2384
  v2385.toNat
def k0_dev106 (v3 : BitVec 32) : Nat :=
  let c0_i32_3138 : BitVec 32 := 0#32
  let c1_i32_3137 : BitVec 32 := 1#32
  let v2392 : BitVec 32 := Scalar.muli v3 c1_i32_3137
  let v2393 : BitVec 32 := Scalar.addi c0_i32_3138 v2392
  v2393.toNat
def k0_dev107 (v3 : BitVec 32) : Nat :=
  let c0_i32_3148 : BitVec 32 := 0#32
  let c1_i32_3147 : BitVec 32 := 1#32
  let v2394 : BitVec 32 := Scalar.muli v3 c1_i32_3147
  let v2395 : BitVec 32 := Scalar.addi c0_i32_3148 v2394
  v2395.toNat
def k0_dev108 (v3 : BitVec 32) : Nat :=
  let c0_i32_3162 : BitVec 32 := 0#32
  let c1_i32_3161 : BitVec 32 := 1#32
  let v2404 : BitVec 32 := Scalar.muli v3 c1_i32_3161
  let v2405 : BitVec 32 := Scalar.addi c0_i32_3162 v2404
  v2405.toNat
def k0_dev109 (v4 : BitVec 32) : Nat :=
  let c0_i32_3176 : BitVec 32 := 0#32
  let c1_i32_3175 : BitVec 32 := 1#32
  let v2414 : BitVec 32 := Scalar.muli v4 c1_i32_3175
  let v2415 : BitVec 32 := Scalar.addi c0_i32_3176 v2414
  v2415.toNat
def k0_dev110 (v4 : BitVec 32) : Nat :=
  let c0_i32_3190 : BitVec 32 := 0#32
  let c1_i32_3189 : BitVec 32 := 1#32
  let v2424 : BitVec 32 := Scalar.muli v4 c1_i32_3189
  let v2425 : BitVec 32 := Scalar.addi c0_i32_3190 v2424
  v2425.toNat
def k0_off57 (v2434 : BitVec 32) : Fin 2 → Nat :=
  let c128_i32_3195 : BitVec 32 := 128#32
  let v2435 : BitVec 32 := Scalar.muli v2434 c128_i32_3195
  let v2436 : Index := Scalar.indexCast v2435
  let c0_3196 : Index := 0#32
  ![v2436.toNat, 0]

def k0_chk59 (v2434 : BitVec 32) : Prop :=
  (∀ a, (k0_off57 v2434) a + S128x128.size a ≤ S4096x128.size a)
theorem k0_off57_inb : ∀ (v2434 : BitVec 32) (k0_hw59 : k0_chk59 v2434), ∀ a, (k0_off57 v2434) a + S128x128.size a ≤ S4096x128.size a := fun v2434 k0_hw59 => k0_hw59

def k0_off58 (v2445 : BitVec 32) : Fin 2 → Nat :=
  let c128_i32_3204 : BitVec 32 := 128#32
  let v2446 : BitVec 32 := Scalar.muli v2445 c128_i32_3204
  let v2447 : Index := Scalar.indexCast v2446
  let c0_3205 : Index := 0#32
  ![v2447.toNat, 0]

def k0_chk60 (v2445 : BitVec 32) : Prop :=
  (∀ a, (k0_off58 v2445) a + S128x128.size a ≤ S4096x128.size a)
theorem k0_off58_inb : ∀ (v2445 : BitVec 32) (k0_hw60 : k0_chk60 v2445), ∀ a, (k0_off58 v2445) a + S128x128.size a ≤ S4096x128.size a := fun v2445 k0_hw60 => k0_hw60

def k0_off59 (v2456 : BitVec 32) : Fin 2 → Nat :=
  let c128_i32_3213 : BitVec 32 := 128#32
  let v2457 : BitVec 32 := Scalar.muli v2456 c128_i32_3213
  let v2458 : Index := Scalar.indexCast v2457
  let c0_3214 : Index := 0#32
  ![v2458.toNat, 0]

def k0_chk61 (v2456 : BitVec 32) : Prop :=
  (∀ a, (k0_off59 v2456) a + S128x128.size a ≤ S4096x128.size a)
theorem k0_off59_inb : ∀ (v2456 : BitVec 32) (k0_hw61 : k0_chk61 v2456), ∀ a, (k0_off59 v2456) a + S128x128.size a ≤ S4096x128.size a := fun v2456 k0_hw61 => k0_hw61

def k0_off60 (v2467 : BitVec 32) : Fin 2 → Nat :=
  let c128_i32_3222 : BitVec 32 := 128#32
  let v2468 : BitVec 32 := Scalar.muli v2467 c128_i32_3222
  let v2469 : Index := Scalar.indexCast v2468
  let c0_3223 : Index := 0#32
  ![v2469.toNat, 0]

def k0_chk62 (v2467 : BitVec 32) : Prop :=
  (∀ a, (k0_off60 v2467) a + S128x128.size a ≤ S4096x128.size a)
theorem k0_off60_inb : ∀ (v2467 : BitVec 32) (k0_hw62 : k0_chk62 v2467), ∀ a, (k0_off60 v2467) a + S128x128.size a ≤ S4096x128.size a := fun v2467 k0_hw62 => k0_hw62

def k0_dev111 (v4 : BitVec 32) : Nat :=
  let c0_i32_3335 : BitVec 32 := 0#32
  let c1_i32_3334 : BitVec 32 := 1#32
  let v2548 : BitVec 32 := Scalar.muli v4 c1_i32_3334
  let v2549 : BitVec 32 := Scalar.addi c0_i32_3335 v2548
  v2549.toNat
def k0_dev112 (v4 : BitVec 32) : Nat :=
  let c0_i32_3349 : BitVec 32 := 0#32
  let c1_i32_3348 : BitVec 32 := 1#32
  let v2556 : BitVec 32 := Scalar.muli v4 c1_i32_3348
  let v2557 : BitVec 32 := Scalar.addi c0_i32_3349 v2556
  v2557.toNat
def k0_dev113 (v3 : BitVec 32) : Nat :=
  let c0_i32_3363 : BitVec 32 := 0#32
  let c1_i32_3362 : BitVec 32 := 1#32
  let v2564 : BitVec 32 := Scalar.muli v3 c1_i32_3362
  let v2565 : BitVec 32 := Scalar.addi c0_i32_3363 v2564
  v2565.toNat
def k0_dev114 (v3 : BitVec 32) : Nat :=
  let c0_i32_3377 : BitVec 32 := 0#32
  let c1_i32_3376 : BitVec 32 := 1#32
  let v2572 : BitVec 32 := Scalar.muli v3 c1_i32_3376
  let v2573 : BitVec 32 := Scalar.addi c0_i32_3377 v2572
  v2573.toNat
def k0_dev115 (v3 : BitVec 32) : Nat :=
  let c0_i32_3387 : BitVec 32 := 0#32
  let c1_i32_3386 : BitVec 32 := 1#32
  let v2574 : BitVec 32 := Scalar.muli v3 c1_i32_3386
  let v2575 : BitVec 32 := Scalar.addi c0_i32_3387 v2574
  v2575.toNat
def k0_dev116 (v3 : BitVec 32) : Nat :=
  let c0_i32_3401 : BitVec 32 := 0#32
  let c1_i32_3400 : BitVec 32 := 1#32
  let v2584 : BitVec 32 := Scalar.muli v3 c1_i32_3400
  let v2585 : BitVec 32 := Scalar.addi c0_i32_3401 v2584
  v2585.toNat
def k0_dev117 (v4 : BitVec 32) : Nat :=
  let c0_i32_3415 : BitVec 32 := 0#32
  let c1_i32_3414 : BitVec 32 := 1#32
  let v2594 : BitVec 32 := Scalar.muli v4 c1_i32_3414
  let v2595 : BitVec 32 := Scalar.addi c0_i32_3415 v2594
  v2595.toNat
def k0_dev118 (v4 : BitVec 32) : Nat :=
  let c0_i32_3429 : BitVec 32 := 0#32
  let c1_i32_3428 : BitVec 32 := 1#32
  let v2604 : BitVec 32 := Scalar.muli v4 c1_i32_3428
  let v2605 : BitVec 32 := Scalar.addi c0_i32_3429 v2604
  v2605.toNat
def k0_off61 (v2614 : BitVec 32) : Fin 2 → Nat :=
  let c128_i32_3434 : BitVec 32 := 128#32
  let v2615 : BitVec 32 := Scalar.muli v2614 c128_i32_3434
  let v2616 : Index := Scalar.indexCast v2615
  let c0_3435 : Index := 0#32
  ![v2616.toNat, 0]

def k0_chk63 (v2614 : BitVec 32) : Prop :=
  (∀ a, (k0_off61 v2614) a + S128x128.size a ≤ S4096x128.size a)
theorem k0_off61_inb : ∀ (v2614 : BitVec 32) (k0_hw63 : k0_chk63 v2614), ∀ a, (k0_off61 v2614) a + S128x128.size a ≤ S4096x128.size a := fun v2614 k0_hw63 => k0_hw63

def k0_off62 (v2625 : BitVec 32) : Fin 2 → Nat :=
  let c128_i32_3443 : BitVec 32 := 128#32
  let v2626 : BitVec 32 := Scalar.muli v2625 c128_i32_3443
  let v2627 : Index := Scalar.indexCast v2626
  let c0_3444 : Index := 0#32
  ![v2627.toNat, 0]

def k0_chk64 (v2625 : BitVec 32) : Prop :=
  (∀ a, (k0_off62 v2625) a + S128x128.size a ≤ S4096x128.size a)
theorem k0_off62_inb : ∀ (v2625 : BitVec 32) (k0_hw64 : k0_chk64 v2625), ∀ a, (k0_off62 v2625) a + S128x128.size a ≤ S4096x128.size a := fun v2625 k0_hw64 => k0_hw64

def k0_off63 (v2636 : BitVec 32) : Fin 2 → Nat :=
  let c128_i32_3452 : BitVec 32 := 128#32
  let v2637 : BitVec 32 := Scalar.muli v2636 c128_i32_3452
  let v2638 : Index := Scalar.indexCast v2637
  let c0_3453 : Index := 0#32
  ![v2638.toNat, 0]

def k0_chk65 (v2636 : BitVec 32) : Prop :=
  (∀ a, (k0_off63 v2636) a + S128x128.size a ≤ S4096x128.size a)
theorem k0_off63_inb : ∀ (v2636 : BitVec 32) (k0_hw65 : k0_chk65 v2636), ∀ a, (k0_off63 v2636) a + S128x128.size a ≤ S4096x128.size a := fun v2636 k0_hw65 => k0_hw65

def k0_off64 (v2647 : BitVec 32) : Fin 2 → Nat :=
  let c128_i32_3461 : BitVec 32 := 128#32
  let v2648 : BitVec 32 := Scalar.muli v2647 c128_i32_3461
  let v2649 : Index := Scalar.indexCast v2648
  let c0_3462 : Index := 0#32
  ![v2649.toNat, 0]

def k0_chk66 (v2647 : BitVec 32) : Prop :=
  (∀ a, (k0_off64 v2647) a + S128x128.size a ≤ S4096x128.size a)
theorem k0_off64_inb : ∀ (v2647 : BitVec 32) (k0_hw66 : k0_chk66 v2647), ∀ a, (k0_off64 v2647) a + S128x128.size a ≤ S4096x128.size a := fun v2647 k0_hw66 => k0_hw66

def k0_dev119 (v4 : BitVec 32) : Nat :=
  let c0_i32_3574 : BitVec 32 := 0#32
  let c1_i32_3573 : BitVec 32 := 1#32
  let v2728 : BitVec 32 := Scalar.muli v4 c1_i32_3573
  let v2729 : BitVec 32 := Scalar.addi c0_i32_3574 v2728
  v2729.toNat
def k0_dev120 (v4 : BitVec 32) : Nat :=
  let c0_i32_3588 : BitVec 32 := 0#32
  let c1_i32_3587 : BitVec 32 := 1#32
  let v2736 : BitVec 32 := Scalar.muli v4 c1_i32_3587
  let v2737 : BitVec 32 := Scalar.addi c0_i32_3588 v2736
  v2737.toNat
def k0_dev121 (v3 : BitVec 32) : Nat :=
  let c0_i32_3602 : BitVec 32 := 0#32
  let c1_i32_3601 : BitVec 32 := 1#32
  let v2744 : BitVec 32 := Scalar.muli v3 c1_i32_3601
  let v2745 : BitVec 32 := Scalar.addi c0_i32_3602 v2744
  v2745.toNat
def k0_dev122 (v3 : BitVec 32) : Nat :=
  let c0_i32_3616 : BitVec 32 := 0#32
  let c1_i32_3615 : BitVec 32 := 1#32
  let v2752 : BitVec 32 := Scalar.muli v3 c1_i32_3615
  let v2753 : BitVec 32 := Scalar.addi c0_i32_3616 v2752
  v2753.toNat
def k0_dev123 (v3 : BitVec 32) : Nat :=
  let c0_i32_3626 : BitVec 32 := 0#32
  let c1_i32_3625 : BitVec 32 := 1#32
  let v2754 : BitVec 32 := Scalar.muli v3 c1_i32_3625
  let v2755 : BitVec 32 := Scalar.addi c0_i32_3626 v2754
  v2755.toNat
def k0_dev124 (v3 : BitVec 32) : Nat :=
  let c0_i32_3640 : BitVec 32 := 0#32
  let c1_i32_3639 : BitVec 32 := 1#32
  let v2764 : BitVec 32 := Scalar.muli v3 c1_i32_3639
  let v2765 : BitVec 32 := Scalar.addi c0_i32_3640 v2764
  v2765.toNat
def k0_dev125 (v4 : BitVec 32) : Nat :=
  let c0_i32_3654 : BitVec 32 := 0#32
  let c1_i32_3653 : BitVec 32 := 1#32
  let v2774 : BitVec 32 := Scalar.muli v4 c1_i32_3653
  let v2775 : BitVec 32 := Scalar.addi c0_i32_3654 v2774
  v2775.toNat
def k0_dev126 (v4 : BitVec 32) : Nat :=
  let c0_i32_3668 : BitVec 32 := 0#32
  let c1_i32_3667 : BitVec 32 := 1#32
  let v2784 : BitVec 32 := Scalar.muli v4 c1_i32_3667
  let v2785 : BitVec 32 := Scalar.addi c0_i32_3668 v2784
  v2785.toNat
def k0_off65 (v2794 : BitVec 32) : Fin 2 → Nat :=
  let c128_i32_3673 : BitVec 32 := 128#32
  let v2795 : BitVec 32 := Scalar.muli v2794 c128_i32_3673
  let v2796 : Index := Scalar.indexCast v2795
  let c0_3674 : Index := 0#32
  ![v2796.toNat, 0]

def k0_chk67 (v2794 : BitVec 32) : Prop :=
  (∀ a, (k0_off65 v2794) a + S128x128.size a ≤ S4096x128.size a)
theorem k0_off65_inb : ∀ (v2794 : BitVec 32) (k0_hw67 : k0_chk67 v2794), ∀ a, (k0_off65 v2794) a + S128x128.size a ≤ S4096x128.size a := fun v2794 k0_hw67 => k0_hw67

def k0_off66 (v2805 : BitVec 32) : Fin 2 → Nat :=
  let c128_i32_3682 : BitVec 32 := 128#32
  let v2806 : BitVec 32 := Scalar.muli v2805 c128_i32_3682
  let v2807 : Index := Scalar.indexCast v2806
  let c0_3683 : Index := 0#32
  ![v2807.toNat, 0]

def k0_chk68 (v2805 : BitVec 32) : Prop :=
  (∀ a, (k0_off66 v2805) a + S128x128.size a ≤ S4096x128.size a)
theorem k0_off66_inb : ∀ (v2805 : BitVec 32) (k0_hw68 : k0_chk68 v2805), ∀ a, (k0_off66 v2805) a + S128x128.size a ≤ S4096x128.size a := fun v2805 k0_hw68 => k0_hw68

def k0_off67 (v2816 : BitVec 32) : Fin 2 → Nat :=
  let c128_i32_3691 : BitVec 32 := 128#32
  let v2817 : BitVec 32 := Scalar.muli v2816 c128_i32_3691
  let v2818 : Index := Scalar.indexCast v2817
  let c0_3692 : Index := 0#32
  ![v2818.toNat, 0]

def k0_chk69 (v2816 : BitVec 32) : Prop :=
  (∀ a, (k0_off67 v2816) a + S128x128.size a ≤ S4096x128.size a)
theorem k0_off67_inb : ∀ (v2816 : BitVec 32) (k0_hw69 : k0_chk69 v2816), ∀ a, (k0_off67 v2816) a + S128x128.size a ≤ S4096x128.size a := fun v2816 k0_hw69 => k0_hw69

def k0_off68 (v2827 : BitVec 32) : Fin 2 → Nat :=
  let c128_i32_3700 : BitVec 32 := 128#32
  let v2828 : BitVec 32 := Scalar.muli v2827 c128_i32_3700
  let v2829 : Index := Scalar.indexCast v2828
  let c0_3701 : Index := 0#32
  ![v2829.toNat, 0]

def k0_chk70 (v2827 : BitVec 32) : Prop :=
  (∀ a, (k0_off68 v2827) a + S128x128.size a ≤ S4096x128.size a)
theorem k0_off68_inb : ∀ (v2827 : BitVec 32) (k0_hw70 : k0_chk70 v2827), ∀ a, (k0_off68 v2827) a + S128x128.size a ≤ S4096x128.size a := fun v2827 k0_hw70 => k0_hw70

def k0_dev127 (v4 : BitVec 32) : Nat :=
  let c0_i32_3813 : BitVec 32 := 0#32
  let c1_i32_3812 : BitVec 32 := 1#32
  let v2908 : BitVec 32 := Scalar.muli v4 c1_i32_3812
  let v2909 : BitVec 32 := Scalar.addi c0_i32_3813 v2908
  v2909.toNat
def k0_dev128 (v4 : BitVec 32) : Nat :=
  let c0_i32_3827 : BitVec 32 := 0#32
  let c1_i32_3826 : BitVec 32 := 1#32
  let v2916 : BitVec 32 := Scalar.muli v4 c1_i32_3826
  let v2917 : BitVec 32 := Scalar.addi c0_i32_3827 v2916
  v2917.toNat
def k0_dev129 (v3 : BitVec 32) : Nat :=
  let c0_i32_3841 : BitVec 32 := 0#32
  let c1_i32_3840 : BitVec 32 := 1#32
  let v2924 : BitVec 32 := Scalar.muli v3 c1_i32_3840
  let v2925 : BitVec 32 := Scalar.addi c0_i32_3841 v2924
  v2925.toNat
def k0_dev130 (v3 : BitVec 32) : Nat :=
  let c0_i32_3855 : BitVec 32 := 0#32
  let c1_i32_3854 : BitVec 32 := 1#32
  let v2932 : BitVec 32 := Scalar.muli v3 c1_i32_3854
  let v2933 : BitVec 32 := Scalar.addi c0_i32_3855 v2932
  v2933.toNat
def k0_dev131 (v3 : BitVec 32) : Nat :=
  let c0_i32_3865 : BitVec 32 := 0#32
  let c1_i32_3864 : BitVec 32 := 1#32
  let v2934 : BitVec 32 := Scalar.muli v3 c1_i32_3864
  let v2935 : BitVec 32 := Scalar.addi c0_i32_3865 v2934
  v2935.toNat
def k0_dev132 (v3 : BitVec 32) : Nat :=
  let c0_i32_3879 : BitVec 32 := 0#32
  let c1_i32_3878 : BitVec 32 := 1#32
  let v2944 : BitVec 32 := Scalar.muli v3 c1_i32_3878
  let v2945 : BitVec 32 := Scalar.addi c0_i32_3879 v2944
  v2945.toNat
def k0_dev133 (v4 : BitVec 32) : Nat :=
  let c0_i32_3893 : BitVec 32 := 0#32
  let c1_i32_3892 : BitVec 32 := 1#32
  let v2954 : BitVec 32 := Scalar.muli v4 c1_i32_3892
  let v2955 : BitVec 32 := Scalar.addi c0_i32_3893 v2954
  v2955.toNat
def k0_dev134 (v4 : BitVec 32) : Nat :=
  let c0_i32_3907 : BitVec 32 := 0#32
  let c1_i32_3906 : BitVec 32 := 1#32
  let v2964 : BitVec 32 := Scalar.muli v4 c1_i32_3906
  let v2965 : BitVec 32 := Scalar.addi c0_i32_3907 v2964
  v2965.toNat
def k0_off69 (v2974 : BitVec 32) : Fin 2 → Nat :=
  let c128_i32_3912 : BitVec 32 := 128#32
  let v2975 : BitVec 32 := Scalar.muli v2974 c128_i32_3912
  let v2976 : Index := Scalar.indexCast v2975
  let c0_3913 : Index := 0#32
  ![v2976.toNat, 0]

def k0_chk71 (v2974 : BitVec 32) : Prop :=
  (∀ a, (k0_off69 v2974) a + S128x128.size a ≤ S4096x128.size a)
theorem k0_off69_inb : ∀ (v2974 : BitVec 32) (k0_hw71 : k0_chk71 v2974), ∀ a, (k0_off69 v2974) a + S128x128.size a ≤ S4096x128.size a := fun v2974 k0_hw71 => k0_hw71

def k0_off70 (v2985 : BitVec 32) : Fin 2 → Nat :=
  let c128_i32_3921 : BitVec 32 := 128#32
  let v2986 : BitVec 32 := Scalar.muli v2985 c128_i32_3921
  let v2987 : Index := Scalar.indexCast v2986
  let c0_3922 : Index := 0#32
  ![v2987.toNat, 0]

def k0_chk72 (v2985 : BitVec 32) : Prop :=
  (∀ a, (k0_off70 v2985) a + S128x128.size a ≤ S4096x128.size a)
theorem k0_off70_inb : ∀ (v2985 : BitVec 32) (k0_hw72 : k0_chk72 v2985), ∀ a, (k0_off70 v2985) a + S128x128.size a ≤ S4096x128.size a := fun v2985 k0_hw72 => k0_hw72

def k0_off71 (v2996 : BitVec 32) : Fin 2 → Nat :=
  let c128_i32_3930 : BitVec 32 := 128#32
  let v2997 : BitVec 32 := Scalar.muli v2996 c128_i32_3930
  let v2998 : Index := Scalar.indexCast v2997
  let c0_3931 : Index := 0#32
  ![v2998.toNat, 0]

def k0_chk73 (v2996 : BitVec 32) : Prop :=
  (∀ a, (k0_off71 v2996) a + S128x128.size a ≤ S4096x128.size a)
theorem k0_off71_inb : ∀ (v2996 : BitVec 32) (k0_hw73 : k0_chk73 v2996), ∀ a, (k0_off71 v2996) a + S128x128.size a ≤ S4096x128.size a := fun v2996 k0_hw73 => k0_hw73

def k0_off72 (v3007 : BitVec 32) : Fin 2 → Nat :=
  let c128_i32_3939 : BitVec 32 := 128#32
  let v3008 : BitVec 32 := Scalar.muli v3007 c128_i32_3939
  let v3009 : Index := Scalar.indexCast v3008
  let c0_3940 : Index := 0#32
  ![v3009.toNat, 0]

def k0_chk74 (v3007 : BitVec 32) : Prop :=
  (∀ a, (k0_off72 v3007) a + S128x128.size a ≤ S4096x128.size a)
theorem k0_off72_inb : ∀ (v3007 : BitVec 32) (k0_hw74 : k0_chk74 v3007), ∀ a, (k0_off72 v3007) a + S128x128.size a ≤ S4096x128.size a := fun v3007 k0_hw74 => k0_hw74

def k0_dev135 (v4 : BitVec 32) : Nat :=
  let c0_i32_4052 : BitVec 32 := 0#32
  let c1_i32_4051 : BitVec 32 := 1#32
  let v3088 : BitVec 32 := Scalar.muli v4 c1_i32_4051
  let v3089 : BitVec 32 := Scalar.addi c0_i32_4052 v3088
  v3089.toNat
def k0_dev136 (v4 : BitVec 32) : Nat :=
  let c0_i32_4066 : BitVec 32 := 0#32
  let c1_i32_4065 : BitVec 32 := 1#32
  let v3096 : BitVec 32 := Scalar.muli v4 c1_i32_4065
  let v3097 : BitVec 32 := Scalar.addi c0_i32_4066 v3096
  v3097.toNat
def k0_dev137 (v3 : BitVec 32) : Nat :=
  let c0_i32_4080 : BitVec 32 := 0#32
  let c1_i32_4079 : BitVec 32 := 1#32
  let v3104 : BitVec 32 := Scalar.muli v3 c1_i32_4079
  let v3105 : BitVec 32 := Scalar.addi c0_i32_4080 v3104
  v3105.toNat
def k0_dev138 (v3 : BitVec 32) : Nat :=
  let c0_i32_4094 : BitVec 32 := 0#32
  let c1_i32_4093 : BitVec 32 := 1#32
  let v3112 : BitVec 32 := Scalar.muli v3 c1_i32_4093
  let v3113 : BitVec 32 := Scalar.addi c0_i32_4094 v3112
  v3113.toNat
def k0_dev139 (v3 : BitVec 32) : Nat :=
  let c0_i32_4104 : BitVec 32 := 0#32
  let c1_i32_4103 : BitVec 32 := 1#32
  let v3114 : BitVec 32 := Scalar.muli v3 c1_i32_4103
  let v3115 : BitVec 32 := Scalar.addi c0_i32_4104 v3114
  v3115.toNat
def k0_dev140 (v3 : BitVec 32) : Nat :=
  let c0_i32_4118 : BitVec 32 := 0#32
  let c1_i32_4117 : BitVec 32 := 1#32
  let v3124 : BitVec 32 := Scalar.muli v3 c1_i32_4117
  let v3125 : BitVec 32 := Scalar.addi c0_i32_4118 v3124
  v3125.toNat
def k0_dev141 (v4 : BitVec 32) : Nat :=
  let c0_i32_4132 : BitVec 32 := 0#32
  let c1_i32_4131 : BitVec 32 := 1#32
  let v3134 : BitVec 32 := Scalar.muli v4 c1_i32_4131
  let v3135 : BitVec 32 := Scalar.addi c0_i32_4132 v3134
  v3135.toNat
def k0_dev142 (v4 : BitVec 32) : Nat :=
  let c0_i32_4146 : BitVec 32 := 0#32
  let c1_i32_4145 : BitVec 32 := 1#32
  let v3144 : BitVec 32 := Scalar.muli v4 c1_i32_4145
  let v3145 : BitVec 32 := Scalar.addi c0_i32_4146 v3144
  v3145.toNat
def k0_off73 (v3154 : BitVec 32) : Fin 2 → Nat :=
  let c128_i32_4151 : BitVec 32 := 128#32
  let v3155 : BitVec 32 := Scalar.muli v3154 c128_i32_4151
  let v3156 : Index := Scalar.indexCast v3155
  let c0_4152 : Index := 0#32
  ![v3156.toNat, 0]

def k0_chk75 (v3154 : BitVec 32) : Prop :=
  (∀ a, (k0_off73 v3154) a + S128x128.size a ≤ S4096x128.size a)
theorem k0_off73_inb : ∀ (v3154 : BitVec 32) (k0_hw75 : k0_chk75 v3154), ∀ a, (k0_off73 v3154) a + S128x128.size a ≤ S4096x128.size a := fun v3154 k0_hw75 => k0_hw75

def k0_off74 (v3165 : BitVec 32) : Fin 2 → Nat :=
  let c128_i32_4160 : BitVec 32 := 128#32
  let v3166 : BitVec 32 := Scalar.muli v3165 c128_i32_4160
  let v3167 : Index := Scalar.indexCast v3166
  let c0_4161 : Index := 0#32
  ![v3167.toNat, 0]

def k0_chk76 (v3165 : BitVec 32) : Prop :=
  (∀ a, (k0_off74 v3165) a + S128x128.size a ≤ S4096x128.size a)
theorem k0_off74_inb : ∀ (v3165 : BitVec 32) (k0_hw76 : k0_chk76 v3165), ∀ a, (k0_off74 v3165) a + S128x128.size a ≤ S4096x128.size a := fun v3165 k0_hw76 => k0_hw76

def k0_off75 (v3176 : BitVec 32) : Fin 2 → Nat :=
  let c128_i32_4169 : BitVec 32 := 128#32
  let v3177 : BitVec 32 := Scalar.muli v3176 c128_i32_4169
  let v3178 : Index := Scalar.indexCast v3177
  let c0_4170 : Index := 0#32
  ![v3178.toNat, 0]

def k0_chk77 (v3176 : BitVec 32) : Prop :=
  (∀ a, (k0_off75 v3176) a + S128x128.size a ≤ S4096x128.size a)
theorem k0_off75_inb : ∀ (v3176 : BitVec 32) (k0_hw77 : k0_chk77 v3176), ∀ a, (k0_off75 v3176) a + S128x128.size a ≤ S4096x128.size a := fun v3176 k0_hw77 => k0_hw77

def k0_off76 (v3187 : BitVec 32) : Fin 2 → Nat :=
  let c128_i32_4178 : BitVec 32 := 128#32
  let v3188 : BitVec 32 := Scalar.muli v3187 c128_i32_4178
  let v3189 : Index := Scalar.indexCast v3188
  let c0_4179 : Index := 0#32
  ![v3189.toNat, 0]

def k0_chk78 (v3187 : BitVec 32) : Prop :=
  (∀ a, (k0_off76 v3187) a + S128x128.size a ≤ S4096x128.size a)
theorem k0_off76_inb : ∀ (v3187 : BitVec 32) (k0_hw78 : k0_chk78 v3187), ∀ a, (k0_off76 v3187) a + S128x128.size a ≤ S4096x128.size a := fun v3187 k0_hw78 => k0_hw78

def k0_dev143 (v4 : BitVec 32) : Nat :=
  let c0_i32_4291 : BitVec 32 := 0#32
  let c1_i32_4290 : BitVec 32 := 1#32
  let v3268 : BitVec 32 := Scalar.muli v4 c1_i32_4290
  let v3269 : BitVec 32 := Scalar.addi c0_i32_4291 v3268
  v3269.toNat
def k0_dev144 (v4 : BitVec 32) : Nat :=
  let c0_i32_4305 : BitVec 32 := 0#32
  let c1_i32_4304 : BitVec 32 := 1#32
  let v3276 : BitVec 32 := Scalar.muli v4 c1_i32_4304
  let v3277 : BitVec 32 := Scalar.addi c0_i32_4305 v3276
  v3277.toNat
def k0_dev145 (v3 : BitVec 32) : Nat :=
  let c0_i32_4319 : BitVec 32 := 0#32
  let c1_i32_4318 : BitVec 32 := 1#32
  let v3284 : BitVec 32 := Scalar.muli v3 c1_i32_4318
  let v3285 : BitVec 32 := Scalar.addi c0_i32_4319 v3284
  v3285.toNat
def k0_dev146 (v3 : BitVec 32) : Nat :=
  let c0_i32_4333 : BitVec 32 := 0#32
  let c1_i32_4332 : BitVec 32 := 1#32
  let v3292 : BitVec 32 := Scalar.muli v3 c1_i32_4332
  let v3293 : BitVec 32 := Scalar.addi c0_i32_4333 v3292
  v3293.toNat
def k0_dev147 (v3 : BitVec 32) : Nat :=
  let c0_i32_4343 : BitVec 32 := 0#32
  let c1_i32_4342 : BitVec 32 := 1#32
  let v3294 : BitVec 32 := Scalar.muli v3 c1_i32_4342
  let v3295 : BitVec 32 := Scalar.addi c0_i32_4343 v3294
  v3295.toNat
def k0_dev148 (v3 : BitVec 32) : Nat :=
  let c0_i32_4357 : BitVec 32 := 0#32
  let c1_i32_4356 : BitVec 32 := 1#32
  let v3304 : BitVec 32 := Scalar.muli v3 c1_i32_4356
  let v3305 : BitVec 32 := Scalar.addi c0_i32_4357 v3304
  v3305.toNat
def k0_dev149 (v4 : BitVec 32) : Nat :=
  let c0_i32_4371 : BitVec 32 := 0#32
  let c1_i32_4370 : BitVec 32 := 1#32
  let v3314 : BitVec 32 := Scalar.muli v4 c1_i32_4370
  let v3315 : BitVec 32 := Scalar.addi c0_i32_4371 v3314
  v3315.toNat
def k0_dev150 (v4 : BitVec 32) : Nat :=
  let c0_i32_4385 : BitVec 32 := 0#32
  let c1_i32_4384 : BitVec 32 := 1#32
  let v3324 : BitVec 32 := Scalar.muli v4 c1_i32_4384
  let v3325 : BitVec 32 := Scalar.addi c0_i32_4385 v3324
  v3325.toNat
def k0_off77 (v3334 : BitVec 32) : Fin 2 → Nat :=
  let c128_i32_4390 : BitVec 32 := 128#32
  let v3335 : BitVec 32 := Scalar.muli v3334 c128_i32_4390
  let v3336 : Index := Scalar.indexCast v3335
  let c0_4391 : Index := 0#32
  ![v3336.toNat, 0]

def k0_chk79 (v3334 : BitVec 32) : Prop :=
  (∀ a, (k0_off77 v3334) a + S128x128.size a ≤ S4096x128.size a)
theorem k0_off77_inb : ∀ (v3334 : BitVec 32) (k0_hw79 : k0_chk79 v3334), ∀ a, (k0_off77 v3334) a + S128x128.size a ≤ S4096x128.size a := fun v3334 k0_hw79 => k0_hw79

def k0_off78 (v3345 : BitVec 32) : Fin 2 → Nat :=
  let c128_i32_4399 : BitVec 32 := 128#32
  let v3346 : BitVec 32 := Scalar.muli v3345 c128_i32_4399
  let v3347 : Index := Scalar.indexCast v3346
  let c0_4400 : Index := 0#32
  ![v3347.toNat, 0]

def k0_chk80 (v3345 : BitVec 32) : Prop :=
  (∀ a, (k0_off78 v3345) a + S128x128.size a ≤ S4096x128.size a)
theorem k0_off78_inb : ∀ (v3345 : BitVec 32) (k0_hw80 : k0_chk80 v3345), ∀ a, (k0_off78 v3345) a + S128x128.size a ≤ S4096x128.size a := fun v3345 k0_hw80 => k0_hw80

def k0_off79 (v3356 : BitVec 32) : Fin 2 → Nat :=
  let c128_i32_4408 : BitVec 32 := 128#32
  let v3357 : BitVec 32 := Scalar.muli v3356 c128_i32_4408
  let v3358 : Index := Scalar.indexCast v3357
  let c0_4409 : Index := 0#32
  ![v3358.toNat, 0]

def k0_chk81 (v3356 : BitVec 32) : Prop :=
  (∀ a, (k0_off79 v3356) a + S128x128.size a ≤ S4096x128.size a)
theorem k0_off79_inb : ∀ (v3356 : BitVec 32) (k0_hw81 : k0_chk81 v3356), ∀ a, (k0_off79 v3356) a + S128x128.size a ≤ S4096x128.size a := fun v3356 k0_hw81 => k0_hw81

def k0_off80 (v3367 : BitVec 32) : Fin 2 → Nat :=
  let c128_i32_4417 : BitVec 32 := 128#32
  let v3368 : BitVec 32 := Scalar.muli v3367 c128_i32_4417
  let v3369 : Index := Scalar.indexCast v3368
  let c0_4418 : Index := 0#32
  ![v3369.toNat, 0]

def k0_chk82 (v3367 : BitVec 32) : Prop :=
  (∀ a, (k0_off80 v3367) a + S128x128.size a ≤ S4096x128.size a)
theorem k0_off80_inb : ∀ (v3367 : BitVec 32) (k0_hw82 : k0_chk82 v3367), ∀ a, (k0_off80 v3367) a + S128x128.size a ≤ S4096x128.size a := fun v3367 k0_hw82 => k0_hw82

def k0_dev151 (v4 : BitVec 32) : Nat :=
  let c0_i32_4530 : BitVec 32 := 0#32
  let c1_i32_4529 : BitVec 32 := 1#32
  let v3448 : BitVec 32 := Scalar.muli v4 c1_i32_4529
  let v3449 : BitVec 32 := Scalar.addi c0_i32_4530 v3448
  v3449.toNat
def k0_dev152 (v4 : BitVec 32) : Nat :=
  let c0_i32_4544 : BitVec 32 := 0#32
  let c1_i32_4543 : BitVec 32 := 1#32
  let v3456 : BitVec 32 := Scalar.muli v4 c1_i32_4543
  let v3457 : BitVec 32 := Scalar.addi c0_i32_4544 v3456
  v3457.toNat
def k0_dev153 (v3 : BitVec 32) : Nat :=
  let c0_i32_4558 : BitVec 32 := 0#32
  let c1_i32_4557 : BitVec 32 := 1#32
  let v3464 : BitVec 32 := Scalar.muli v3 c1_i32_4557
  let v3465 : BitVec 32 := Scalar.addi c0_i32_4558 v3464
  v3465.toNat
def k0_dev154 (v3 : BitVec 32) : Nat :=
  let c0_i32_4572 : BitVec 32 := 0#32
  let c1_i32_4571 : BitVec 32 := 1#32
  let v3472 : BitVec 32 := Scalar.muli v3 c1_i32_4571
  let v3473 : BitVec 32 := Scalar.addi c0_i32_4572 v3472
  v3473.toNat
def k0_dev155 (v3 : BitVec 32) : Nat :=
  let c0_i32_4582 : BitVec 32 := 0#32
  let c1_i32_4581 : BitVec 32 := 1#32
  let v3474 : BitVec 32 := Scalar.muli v3 c1_i32_4581
  let v3475 : BitVec 32 := Scalar.addi c0_i32_4582 v3474
  v3475.toNat
def k0_dev156 (v3 : BitVec 32) : Nat :=
  let c0_i32_4596 : BitVec 32 := 0#32
  let c1_i32_4595 : BitVec 32 := 1#32
  let v3484 : BitVec 32 := Scalar.muli v3 c1_i32_4595
  let v3485 : BitVec 32 := Scalar.addi c0_i32_4596 v3484
  v3485.toNat
def k0_dev157 (v4 : BitVec 32) : Nat :=
  let c0_i32_4610 : BitVec 32 := 0#32
  let c1_i32_4609 : BitVec 32 := 1#32
  let v3494 : BitVec 32 := Scalar.muli v4 c1_i32_4609
  let v3495 : BitVec 32 := Scalar.addi c0_i32_4610 v3494
  v3495.toNat
def k0_dev158 (v4 : BitVec 32) : Nat :=
  let c0_i32_4624 : BitVec 32 := 0#32
  let c1_i32_4623 : BitVec 32 := 1#32
  let v3504 : BitVec 32 := Scalar.muli v4 c1_i32_4623
  let v3505 : BitVec 32 := Scalar.addi c0_i32_4624 v3504
  v3505.toNat
def k0_off81 (v3514 : BitVec 32) : Fin 2 → Nat :=
  let c128_i32_4629 : BitVec 32 := 128#32
  let v3515 : BitVec 32 := Scalar.muli v3514 c128_i32_4629
  let v3516 : Index := Scalar.indexCast v3515
  let c0_4630 : Index := 0#32
  ![v3516.toNat, 0]

def k0_chk83 (v3514 : BitVec 32) : Prop :=
  (∀ a, (k0_off81 v3514) a + S128x128.size a ≤ S4096x128.size a)
theorem k0_off81_inb : ∀ (v3514 : BitVec 32) (k0_hw83 : k0_chk83 v3514), ∀ a, (k0_off81 v3514) a + S128x128.size a ≤ S4096x128.size a := fun v3514 k0_hw83 => k0_hw83

def k0_off82 (v3525 : BitVec 32) : Fin 2 → Nat :=
  let c128_i32_4638 : BitVec 32 := 128#32
  let v3526 : BitVec 32 := Scalar.muli v3525 c128_i32_4638
  let v3527 : Index := Scalar.indexCast v3526
  let c0_4639 : Index := 0#32
  ![v3527.toNat, 0]

def k0_chk84 (v3525 : BitVec 32) : Prop :=
  (∀ a, (k0_off82 v3525) a + S128x128.size a ≤ S4096x128.size a)
theorem k0_off82_inb : ∀ (v3525 : BitVec 32) (k0_hw84 : k0_chk84 v3525), ∀ a, (k0_off82 v3525) a + S128x128.size a ≤ S4096x128.size a := fun v3525 k0_hw84 => k0_hw84

def k0_off83 (v3536 : BitVec 32) : Fin 2 → Nat :=
  let c128_i32_4647 : BitVec 32 := 128#32
  let v3537 : BitVec 32 := Scalar.muli v3536 c128_i32_4647
  let v3538 : Index := Scalar.indexCast v3537
  let c0_4648 : Index := 0#32
  ![v3538.toNat, 0]

def k0_chk85 (v3536 : BitVec 32) : Prop :=
  (∀ a, (k0_off83 v3536) a + S128x128.size a ≤ S4096x128.size a)
theorem k0_off83_inb : ∀ (v3536 : BitVec 32) (k0_hw85 : k0_chk85 v3536), ∀ a, (k0_off83 v3536) a + S128x128.size a ≤ S4096x128.size a := fun v3536 k0_hw85 => k0_hw85

def k0_off84 (v3547 : BitVec 32) : Fin 2 → Nat :=
  let c128_i32_4656 : BitVec 32 := 128#32
  let v3548 : BitVec 32 := Scalar.muli v3547 c128_i32_4656
  let v3549 : Index := Scalar.indexCast v3548
  let c0_4657 : Index := 0#32
  ![v3549.toNat, 0]

def k0_chk86 (v3547 : BitVec 32) : Prop :=
  (∀ a, (k0_off84 v3547) a + S128x128.size a ≤ S4096x128.size a)
theorem k0_off84_inb : ∀ (v3547 : BitVec 32) (k0_hw86 : k0_chk86 v3547), ∀ a, (k0_off84 v3547) a + S128x128.size a ≤ S4096x128.size a := fun v3547 k0_hw86 => k0_hw86

def k0_dev159 (v4 : BitVec 32) : Nat :=
  let c0_i32_4769 : BitVec 32 := 0#32
  let c1_i32_4768 : BitVec 32 := 1#32
  let v3628 : BitVec 32 := Scalar.muli v4 c1_i32_4768
  let v3629 : BitVec 32 := Scalar.addi c0_i32_4769 v3628
  v3629.toNat
def k0_dev160 (v4 : BitVec 32) : Nat :=
  let c0_i32_4783 : BitVec 32 := 0#32
  let c1_i32_4782 : BitVec 32 := 1#32
  let v3636 : BitVec 32 := Scalar.muli v4 c1_i32_4782
  let v3637 : BitVec 32 := Scalar.addi c0_i32_4783 v3636
  v3637.toNat
def k0_dev161 (v3 : BitVec 32) : Nat :=
  let c0_i32_4797 : BitVec 32 := 0#32
  let c1_i32_4796 : BitVec 32 := 1#32
  let v3644 : BitVec 32 := Scalar.muli v3 c1_i32_4796
  let v3645 : BitVec 32 := Scalar.addi c0_i32_4797 v3644
  v3645.toNat
def k0_dev162 (v3 : BitVec 32) : Nat :=
  let c0_i32_4811 : BitVec 32 := 0#32
  let c1_i32_4810 : BitVec 32 := 1#32
  let v3652 : BitVec 32 := Scalar.muli v3 c1_i32_4810
  let v3653 : BitVec 32 := Scalar.addi c0_i32_4811 v3652
  v3653.toNat
def k0_dev163 (v3 : BitVec 32) : Nat :=
  let c0_i32_4821 : BitVec 32 := 0#32
  let c1_i32_4820 : BitVec 32 := 1#32
  let v3654 : BitVec 32 := Scalar.muli v3 c1_i32_4820
  let v3655 : BitVec 32 := Scalar.addi c0_i32_4821 v3654
  v3655.toNat
def k0_dev164 (v3 : BitVec 32) : Nat :=
  let c0_i32_4835 : BitVec 32 := 0#32
  let c1_i32_4834 : BitVec 32 := 1#32
  let v3664 : BitVec 32 := Scalar.muli v3 c1_i32_4834
  let v3665 : BitVec 32 := Scalar.addi c0_i32_4835 v3664
  v3665.toNat
def k0_dev165 (v4 : BitVec 32) : Nat :=
  let c0_i32_4849 : BitVec 32 := 0#32
  let c1_i32_4848 : BitVec 32 := 1#32
  let v3674 : BitVec 32 := Scalar.muli v4 c1_i32_4848
  let v3675 : BitVec 32 := Scalar.addi c0_i32_4849 v3674
  v3675.toNat
def k0_dev166 (v4 : BitVec 32) : Nat :=
  let c0_i32_4863 : BitVec 32 := 0#32
  let c1_i32_4862 : BitVec 32 := 1#32
  let v3684 : BitVec 32 := Scalar.muli v4 c1_i32_4862
  let v3685 : BitVec 32 := Scalar.addi c0_i32_4863 v3684
  v3685.toNat
def k0_off85 (v3694 : BitVec 32) : Fin 2 → Nat :=
  let c128_i32_4868 : BitVec 32 := 128#32
  let v3695 : BitVec 32 := Scalar.muli v3694 c128_i32_4868
  let v3696 : Index := Scalar.indexCast v3695
  let c0_4869 : Index := 0#32
  ![v3696.toNat, 0]

def k0_chk87 (v3694 : BitVec 32) : Prop :=
  (∀ a, (k0_off85 v3694) a + S128x128.size a ≤ S4096x128.size a)
theorem k0_off85_inb : ∀ (v3694 : BitVec 32) (k0_hw87 : k0_chk87 v3694), ∀ a, (k0_off85 v3694) a + S128x128.size a ≤ S4096x128.size a := fun v3694 k0_hw87 => k0_hw87

def k0_off86 (v3705 : BitVec 32) : Fin 2 → Nat :=
  let c128_i32_4877 : BitVec 32 := 128#32
  let v3706 : BitVec 32 := Scalar.muli v3705 c128_i32_4877
  let v3707 : Index := Scalar.indexCast v3706
  let c0_4878 : Index := 0#32
  ![v3707.toNat, 0]

def k0_chk88 (v3705 : BitVec 32) : Prop :=
  (∀ a, (k0_off86 v3705) a + S128x128.size a ≤ S4096x128.size a)
theorem k0_off86_inb : ∀ (v3705 : BitVec 32) (k0_hw88 : k0_chk88 v3705), ∀ a, (k0_off86 v3705) a + S128x128.size a ≤ S4096x128.size a := fun v3705 k0_hw88 => k0_hw88

def k0_off87 (v3716 : BitVec 32) : Fin 2 → Nat :=
  let c128_i32_4886 : BitVec 32 := 128#32
  let v3717 : BitVec 32 := Scalar.muli v3716 c128_i32_4886
  let v3718 : Index := Scalar.indexCast v3717
  let c0_4887 : Index := 0#32
  ![v3718.toNat, 0]

def k0_chk89 (v3716 : BitVec 32) : Prop :=
  (∀ a, (k0_off87 v3716) a + S128x128.size a ≤ S4096x128.size a)
theorem k0_off87_inb : ∀ (v3716 : BitVec 32) (k0_hw89 : k0_chk89 v3716), ∀ a, (k0_off87 v3716) a + S128x128.size a ≤ S4096x128.size a := fun v3716 k0_hw89 => k0_hw89

def k0_off88 (v3727 : BitVec 32) : Fin 2 → Nat :=
  let c128_i32_4895 : BitVec 32 := 128#32
  let v3728 : BitVec 32 := Scalar.muli v3727 c128_i32_4895
  let v3729 : Index := Scalar.indexCast v3728
  let c0_4896 : Index := 0#32
  ![v3729.toNat, 0]

def k0_chk90 (v3727 : BitVec 32) : Prop :=
  (∀ a, (k0_off88 v3727) a + S128x128.size a ≤ S4096x128.size a)
theorem k0_off88_inb : ∀ (v3727 : BitVec 32) (k0_hw90 : k0_chk90 v3727), ∀ a, (k0_off88 v3727) a + S128x128.size a ≤ S4096x128.size a := fun v3727 k0_hw90 => k0_hw90

def k0_dev167 (v4 : BitVec 32) : Nat :=
  let c0_i32_5008 : BitVec 32 := 0#32
  let c1_i32_5007 : BitVec 32 := 1#32
  let v3808 : BitVec 32 := Scalar.muli v4 c1_i32_5007
  let v3809 : BitVec 32 := Scalar.addi c0_i32_5008 v3808
  v3809.toNat
def k0_dev168 (v4 : BitVec 32) : Nat :=
  let c0_i32_5022 : BitVec 32 := 0#32
  let c1_i32_5021 : BitVec 32 := 1#32
  let v3816 : BitVec 32 := Scalar.muli v4 c1_i32_5021
  let v3817 : BitVec 32 := Scalar.addi c0_i32_5022 v3816
  v3817.toNat
def k0_dev169 (v3 : BitVec 32) : Nat :=
  let c0_i32_5036 : BitVec 32 := 0#32
  let c1_i32_5035 : BitVec 32 := 1#32
  let v3824 : BitVec 32 := Scalar.muli v3 c1_i32_5035
  let v3825 : BitVec 32 := Scalar.addi c0_i32_5036 v3824
  v3825.toNat
def k0_dev170 (v3 : BitVec 32) : Nat :=
  let c0_i32_5050 : BitVec 32 := 0#32
  let c1_i32_5049 : BitVec 32 := 1#32
  let v3832 : BitVec 32 := Scalar.muli v3 c1_i32_5049
  let v3833 : BitVec 32 := Scalar.addi c0_i32_5050 v3832
  v3833.toNat
def k0_dev171 (v3 : BitVec 32) : Nat :=
  let c0_i32_5060 : BitVec 32 := 0#32
  let c1_i32_5059 : BitVec 32 := 1#32
  let v3834 : BitVec 32 := Scalar.muli v3 c1_i32_5059
  let v3835 : BitVec 32 := Scalar.addi c0_i32_5060 v3834
  v3835.toNat
def k0_dev172 (v3 : BitVec 32) : Nat :=
  let c0_i32_5074 : BitVec 32 := 0#32
  let c1_i32_5073 : BitVec 32 := 1#32
  let v3844 : BitVec 32 := Scalar.muli v3 c1_i32_5073
  let v3845 : BitVec 32 := Scalar.addi c0_i32_5074 v3844
  v3845.toNat
def k0_dev173 (v4 : BitVec 32) : Nat :=
  let c0_i32_5088 : BitVec 32 := 0#32
  let c1_i32_5087 : BitVec 32 := 1#32
  let v3854 : BitVec 32 := Scalar.muli v4 c1_i32_5087
  let v3855 : BitVec 32 := Scalar.addi c0_i32_5088 v3854
  v3855.toNat
def k0_dev174 (v4 : BitVec 32) : Nat :=
  let c0_i32_5102 : BitVec 32 := 0#32
  let c1_i32_5101 : BitVec 32 := 1#32
  let v3864 : BitVec 32 := Scalar.muli v4 c1_i32_5101
  let v3865 : BitVec 32 := Scalar.addi c0_i32_5102 v3864
  v3865.toNat
def k0_off89 (v3874 : BitVec 32) : Fin 2 → Nat :=
  let c128_i32_5107 : BitVec 32 := 128#32
  let v3875 : BitVec 32 := Scalar.muli v3874 c128_i32_5107
  let v3876 : Index := Scalar.indexCast v3875
  let c0_5108 : Index := 0#32
  ![v3876.toNat, 0]

def k0_chk91 (v3874 : BitVec 32) : Prop :=
  (∀ a, (k0_off89 v3874) a + S128x128.size a ≤ S4096x128.size a)
theorem k0_off89_inb : ∀ (v3874 : BitVec 32) (k0_hw91 : k0_chk91 v3874), ∀ a, (k0_off89 v3874) a + S128x128.size a ≤ S4096x128.size a := fun v3874 k0_hw91 => k0_hw91

def k0_off90 (v3885 : BitVec 32) : Fin 2 → Nat :=
  let c128_i32_5116 : BitVec 32 := 128#32
  let v3886 : BitVec 32 := Scalar.muli v3885 c128_i32_5116
  let v3887 : Index := Scalar.indexCast v3886
  let c0_5117 : Index := 0#32
  ![v3887.toNat, 0]

def k0_chk92 (v3885 : BitVec 32) : Prop :=
  (∀ a, (k0_off90 v3885) a + S128x128.size a ≤ S4096x128.size a)
theorem k0_off90_inb : ∀ (v3885 : BitVec 32) (k0_hw92 : k0_chk92 v3885), ∀ a, (k0_off90 v3885) a + S128x128.size a ≤ S4096x128.size a := fun v3885 k0_hw92 => k0_hw92

def k0_off91 (v3896 : BitVec 32) : Fin 2 → Nat :=
  let c128_i32_5125 : BitVec 32 := 128#32
  let v3897 : BitVec 32 := Scalar.muli v3896 c128_i32_5125
  let v3898 : Index := Scalar.indexCast v3897
  let c0_5126 : Index := 0#32
  ![v3898.toNat, 0]

def k0_chk93 (v3896 : BitVec 32) : Prop :=
  (∀ a, (k0_off91 v3896) a + S128x128.size a ≤ S4096x128.size a)
theorem k0_off91_inb : ∀ (v3896 : BitVec 32) (k0_hw93 : k0_chk93 v3896), ∀ a, (k0_off91 v3896) a + S128x128.size a ≤ S4096x128.size a := fun v3896 k0_hw93 => k0_hw93

def k0_off92 (v3907 : BitVec 32) : Fin 2 → Nat :=
  let c128_i32_5134 : BitVec 32 := 128#32
  let v3908 : BitVec 32 := Scalar.muli v3907 c128_i32_5134
  let v3909 : Index := Scalar.indexCast v3908
  let c0_5135 : Index := 0#32
  ![v3909.toNat, 0]

def k0_chk94 (v3907 : BitVec 32) : Prop :=
  (∀ a, (k0_off92 v3907) a + S128x128.size a ≤ S4096x128.size a)
theorem k0_off92_inb : ∀ (v3907 : BitVec 32) (k0_hw94 : k0_chk94 v3907), ∀ a, (k0_off92 v3907) a + S128x128.size a ≤ S4096x128.size a := fun v3907 k0_hw94 => k0_hw94

def k0_dev175 (v4 : BitVec 32) : Nat :=
  let c0_i32_5247 : BitVec 32 := 0#32
  let c1_i32_5246 : BitVec 32 := 1#32
  let v3988 : BitVec 32 := Scalar.muli v4 c1_i32_5246
  let v3989 : BitVec 32 := Scalar.addi c0_i32_5247 v3988
  v3989.toNat
def k0_dev176 (v4 : BitVec 32) : Nat :=
  let c0_i32_5261 : BitVec 32 := 0#32
  let c1_i32_5260 : BitVec 32 := 1#32
  let v3996 : BitVec 32 := Scalar.muli v4 c1_i32_5260
  let v3997 : BitVec 32 := Scalar.addi c0_i32_5261 v3996
  v3997.toNat
def k0_dev177 (v3 : BitVec 32) : Nat :=
  let c0_i32_5275 : BitVec 32 := 0#32
  let c1_i32_5274 : BitVec 32 := 1#32
  let v4004 : BitVec 32 := Scalar.muli v3 c1_i32_5274
  let v4005 : BitVec 32 := Scalar.addi c0_i32_5275 v4004
  v4005.toNat
def k0_dev178 (v3 : BitVec 32) : Nat :=
  let c0_i32_5289 : BitVec 32 := 0#32
  let c1_i32_5288 : BitVec 32 := 1#32
  let v4012 : BitVec 32 := Scalar.muli v3 c1_i32_5288
  let v4013 : BitVec 32 := Scalar.addi c0_i32_5289 v4012
  v4013.toNat
def k0_dev179 (v3 : BitVec 32) : Nat :=
  let c0_i32_5299 : BitVec 32 := 0#32
  let c1_i32_5298 : BitVec 32 := 1#32
  let v4014 : BitVec 32 := Scalar.muli v3 c1_i32_5298
  let v4015 : BitVec 32 := Scalar.addi c0_i32_5299 v4014
  v4015.toNat
def k0_dev180 (v3 : BitVec 32) : Nat :=
  let c0_i32_5313 : BitVec 32 := 0#32
  let c1_i32_5312 : BitVec 32 := 1#32
  let v4024 : BitVec 32 := Scalar.muli v3 c1_i32_5312
  let v4025 : BitVec 32 := Scalar.addi c0_i32_5313 v4024
  v4025.toNat
def k0_dev181 (v4 : BitVec 32) : Nat :=
  let c0_i32_5327 : BitVec 32 := 0#32
  let c1_i32_5326 : BitVec 32 := 1#32
  let v4034 : BitVec 32 := Scalar.muli v4 c1_i32_5326
  let v4035 : BitVec 32 := Scalar.addi c0_i32_5327 v4034
  v4035.toNat
def k0_dev182 (v4 : BitVec 32) : Nat :=
  let c0_i32_5341 : BitVec 32 := 0#32
  let c1_i32_5340 : BitVec 32 := 1#32
  let v4044 : BitVec 32 := Scalar.muli v4 c1_i32_5340
  let v4045 : BitVec 32 := Scalar.addi c0_i32_5341 v4044
  v4045.toNat
def k0_off93 (v4054 : BitVec 32) : Fin 2 → Nat :=
  let c128_i32_5346 : BitVec 32 := 128#32
  let v4055 : BitVec 32 := Scalar.muli v4054 c128_i32_5346
  let v4056 : Index := Scalar.indexCast v4055
  let c0_5347 : Index := 0#32
  ![v4056.toNat, 0]

def k0_chk95 (v4054 : BitVec 32) : Prop :=
  (∀ a, (k0_off93 v4054) a + S128x128.size a ≤ S4096x128.size a)
theorem k0_off93_inb : ∀ (v4054 : BitVec 32) (k0_hw95 : k0_chk95 v4054), ∀ a, (k0_off93 v4054) a + S128x128.size a ≤ S4096x128.size a := fun v4054 k0_hw95 => k0_hw95

def k0_off94 (v4065 : BitVec 32) : Fin 2 → Nat :=
  let c128_i32_5355 : BitVec 32 := 128#32
  let v4066 : BitVec 32 := Scalar.muli v4065 c128_i32_5355
  let v4067 : Index := Scalar.indexCast v4066
  let c0_5356 : Index := 0#32
  ![v4067.toNat, 0]

def k0_chk96 (v4065 : BitVec 32) : Prop :=
  (∀ a, (k0_off94 v4065) a + S128x128.size a ≤ S4096x128.size a)
theorem k0_off94_inb : ∀ (v4065 : BitVec 32) (k0_hw96 : k0_chk96 v4065), ∀ a, (k0_off94 v4065) a + S128x128.size a ≤ S4096x128.size a := fun v4065 k0_hw96 => k0_hw96

def k0_off95 (v4076 : BitVec 32) : Fin 2 → Nat :=
  let c128_i32_5364 : BitVec 32 := 128#32
  let v4077 : BitVec 32 := Scalar.muli v4076 c128_i32_5364
  let v4078 : Index := Scalar.indexCast v4077
  let c0_5365 : Index := 0#32
  ![v4078.toNat, 0]

def k0_chk97 (v4076 : BitVec 32) : Prop :=
  (∀ a, (k0_off95 v4076) a + S128x128.size a ≤ S4096x128.size a)
theorem k0_off95_inb : ∀ (v4076 : BitVec 32) (k0_hw97 : k0_chk97 v4076), ∀ a, (k0_off95 v4076) a + S128x128.size a ≤ S4096x128.size a := fun v4076 k0_hw97 => k0_hw97

def k0_off96 (v4087 : BitVec 32) : Fin 2 → Nat :=
  let c128_i32_5373 : BitVec 32 := 128#32
  let v4088 : BitVec 32 := Scalar.muli v4087 c128_i32_5373
  let v4089 : Index := Scalar.indexCast v4088
  let c0_5374 : Index := 0#32
  ![v4089.toNat, 0]

def k0_chk98 (v4087 : BitVec 32) : Prop :=
  (∀ a, (k0_off96 v4087) a + S128x128.size a ≤ S4096x128.size a)
theorem k0_off96_inb : ∀ (v4087 : BitVec 32) (k0_hw98 : k0_chk98 v4087), ∀ a, (k0_off96 v4087) a + S128x128.size a ≤ S4096x128.size a := fun v4087 k0_hw98 => k0_hw98

def k0_dev183 (v4 : BitVec 32) : Nat :=
  let c0_i32_5486 : BitVec 32 := 0#32
  let c1_i32_5485 : BitVec 32 := 1#32
  let v4168 : BitVec 32 := Scalar.muli v4 c1_i32_5485
  let v4169 : BitVec 32 := Scalar.addi c0_i32_5486 v4168
  v4169.toNat
def k0_dev184 (v4 : BitVec 32) : Nat :=
  let c0_i32_5500 : BitVec 32 := 0#32
  let c1_i32_5499 : BitVec 32 := 1#32
  let v4176 : BitVec 32 := Scalar.muli v4 c1_i32_5499
  let v4177 : BitVec 32 := Scalar.addi c0_i32_5500 v4176
  v4177.toNat
def k0_dev185 (v3 : BitVec 32) : Nat :=
  let c0_i32_5514 : BitVec 32 := 0#32
  let c1_i32_5513 : BitVec 32 := 1#32
  let v4184 : BitVec 32 := Scalar.muli v3 c1_i32_5513
  let v4185 : BitVec 32 := Scalar.addi c0_i32_5514 v4184
  v4185.toNat
def k0_dev186 (v3 : BitVec 32) : Nat :=
  let c0_i32_5528 : BitVec 32 := 0#32
  let c1_i32_5527 : BitVec 32 := 1#32
  let v4192 : BitVec 32 := Scalar.muli v3 c1_i32_5527
  let v4193 : BitVec 32 := Scalar.addi c0_i32_5528 v4192
  v4193.toNat
def k0_dev187 (v3 : BitVec 32) : Nat :=
  let c0_i32_5538 : BitVec 32 := 0#32
  let c1_i32_5537 : BitVec 32 := 1#32
  let v4194 : BitVec 32 := Scalar.muli v3 c1_i32_5537
  let v4195 : BitVec 32 := Scalar.addi c0_i32_5538 v4194
  v4195.toNat
def k0_dev188 (v3 : BitVec 32) : Nat :=
  let c0_i32_5552 : BitVec 32 := 0#32
  let c1_i32_5551 : BitVec 32 := 1#32
  let v4204 : BitVec 32 := Scalar.muli v3 c1_i32_5551
  let v4205 : BitVec 32 := Scalar.addi c0_i32_5552 v4204
  v4205.toNat
def k0_dev189 (v4 : BitVec 32) : Nat :=
  let c0_i32_5566 : BitVec 32 := 0#32
  let c1_i32_5565 : BitVec 32 := 1#32
  let v4214 : BitVec 32 := Scalar.muli v4 c1_i32_5565
  let v4215 : BitVec 32 := Scalar.addi c0_i32_5566 v4214
  v4215.toNat
def k0_dev190 (v4 : BitVec 32) : Nat :=
  let c0_i32_5580 : BitVec 32 := 0#32
  let c1_i32_5579 : BitVec 32 := 1#32
  let v4224 : BitVec 32 := Scalar.muli v4 c1_i32_5579
  let v4225 : BitVec 32 := Scalar.addi c0_i32_5580 v4224
  v4225.toNat
def k0_off97 (v4234 : BitVec 32) : Fin 2 → Nat :=
  let c128_i32_5585 : BitVec 32 := 128#32
  let v4235 : BitVec 32 := Scalar.muli v4234 c128_i32_5585
  let v4236 : Index := Scalar.indexCast v4235
  let c0_5586 : Index := 0#32
  ![v4236.toNat, 0]

def k0_chk99 (v4234 : BitVec 32) : Prop :=
  (∀ a, (k0_off97 v4234) a + S128x128.size a ≤ S4096x128.size a)
theorem k0_off97_inb : ∀ (v4234 : BitVec 32) (k0_hw99 : k0_chk99 v4234), ∀ a, (k0_off97 v4234) a + S128x128.size a ≤ S4096x128.size a := fun v4234 k0_hw99 => k0_hw99

def k0_off98 (v4245 : BitVec 32) : Fin 2 → Nat :=
  let c128_i32_5594 : BitVec 32 := 128#32
  let v4246 : BitVec 32 := Scalar.muli v4245 c128_i32_5594
  let v4247 : Index := Scalar.indexCast v4246
  let c0_5595 : Index := 0#32
  ![v4247.toNat, 0]

def k0_chk100 (v4245 : BitVec 32) : Prop :=
  (∀ a, (k0_off98 v4245) a + S128x128.size a ≤ S4096x128.size a)
theorem k0_off98_inb : ∀ (v4245 : BitVec 32) (k0_hw100 : k0_chk100 v4245), ∀ a, (k0_off98 v4245) a + S128x128.size a ≤ S4096x128.size a := fun v4245 k0_hw100 => k0_hw100

def k0_off99 (v4256 : BitVec 32) : Fin 2 → Nat :=
  let c128_i32_5603 : BitVec 32 := 128#32
  let v4257 : BitVec 32 := Scalar.muli v4256 c128_i32_5603
  let v4258 : Index := Scalar.indexCast v4257
  let c0_5604 : Index := 0#32
  ![v4258.toNat, 0]

def k0_chk101 (v4256 : BitVec 32) : Prop :=
  (∀ a, (k0_off99 v4256) a + S128x128.size a ≤ S4096x128.size a)
theorem k0_off99_inb : ∀ (v4256 : BitVec 32) (k0_hw101 : k0_chk101 v4256), ∀ a, (k0_off99 v4256) a + S128x128.size a ≤ S4096x128.size a := fun v4256 k0_hw101 => k0_hw101

def k0_off100 (v4267 : BitVec 32) : Fin 2 → Nat :=
  let c128_i32_5612 : BitVec 32 := 128#32
  let v4268 : BitVec 32 := Scalar.muli v4267 c128_i32_5612
  let v4269 : Index := Scalar.indexCast v4268
  let c0_5613 : Index := 0#32
  ![v4269.toNat, 0]

def k0_chk102 (v4267 : BitVec 32) : Prop :=
  (∀ a, (k0_off100 v4267) a + S128x128.size a ≤ S4096x128.size a)
theorem k0_off100_inb : ∀ (v4267 : BitVec 32) (k0_hw102 : k0_chk102 v4267), ∀ a, (k0_off100 v4267) a + S128x128.size a ≤ S4096x128.size a := fun v4267 k0_hw102 => k0_hw102

def k0_dev191 (v4 : BitVec 32) : Nat :=
  let c0_i32_5725 : BitVec 32 := 0#32
  let c1_i32_5724 : BitVec 32 := 1#32
  let v4348 : BitVec 32 := Scalar.muli v4 c1_i32_5724
  let v4349 : BitVec 32 := Scalar.addi c0_i32_5725 v4348
  v4349.toNat
def k0_dev192 (v4 : BitVec 32) : Nat :=
  let c0_i32_5739 : BitVec 32 := 0#32
  let c1_i32_5738 : BitVec 32 := 1#32
  let v4356 : BitVec 32 := Scalar.muli v4 c1_i32_5738
  let v4357 : BitVec 32 := Scalar.addi c0_i32_5739 v4356
  v4357.toNat
def k0_dev193 (v3 : BitVec 32) : Nat :=
  let c0_i32_5753 : BitVec 32 := 0#32
  let c1_i32_5752 : BitVec 32 := 1#32
  let v4364 : BitVec 32 := Scalar.muli v3 c1_i32_5752
  let v4365 : BitVec 32 := Scalar.addi c0_i32_5753 v4364
  v4365.toNat
def k0_dev194 (v3 : BitVec 32) : Nat :=
  let c0_i32_5767 : BitVec 32 := 0#32
  let c1_i32_5766 : BitVec 32 := 1#32
  let v4372 : BitVec 32 := Scalar.muli v3 c1_i32_5766
  let v4373 : BitVec 32 := Scalar.addi c0_i32_5767 v4372
  v4373.toNat
def k0_dev195 (v3 : BitVec 32) : Nat :=
  let c0_i32_5777 : BitVec 32 := 0#32
  let c1_i32_5776 : BitVec 32 := 1#32
  let v4374 : BitVec 32 := Scalar.muli v3 c1_i32_5776
  let v4375 : BitVec 32 := Scalar.addi c0_i32_5777 v4374
  v4375.toNat
def k0_dev196 (v3 : BitVec 32) : Nat :=
  let c0_i32_5791 : BitVec 32 := 0#32
  let c1_i32_5790 : BitVec 32 := 1#32
  let v4384 : BitVec 32 := Scalar.muli v3 c1_i32_5790
  let v4385 : BitVec 32 := Scalar.addi c0_i32_5791 v4384
  v4385.toNat
def k0_dev197 (v4 : BitVec 32) : Nat :=
  let c0_i32_5805 : BitVec 32 := 0#32
  let c1_i32_5804 : BitVec 32 := 1#32
  let v4394 : BitVec 32 := Scalar.muli v4 c1_i32_5804
  let v4395 : BitVec 32 := Scalar.addi c0_i32_5805 v4394
  v4395.toNat
def k0_dev198 (v4 : BitVec 32) : Nat :=
  let c0_i32_5819 : BitVec 32 := 0#32
  let c1_i32_5818 : BitVec 32 := 1#32
  let v4404 : BitVec 32 := Scalar.muli v4 c1_i32_5818
  let v4405 : BitVec 32 := Scalar.addi c0_i32_5819 v4404
  v4405.toNat
def k0_off101 (v4414 : BitVec 32) : Fin 2 → Nat :=
  let c128_i32_5824 : BitVec 32 := 128#32
  let v4415 : BitVec 32 := Scalar.muli v4414 c128_i32_5824
  let v4416 : Index := Scalar.indexCast v4415
  let c0_5825 : Index := 0#32
  ![v4416.toNat, 0]

def k0_chk103 (v4414 : BitVec 32) : Prop :=
  (∀ a, (k0_off101 v4414) a + S128x128.size a ≤ S4096x128.size a)
theorem k0_off101_inb : ∀ (v4414 : BitVec 32) (k0_hw103 : k0_chk103 v4414), ∀ a, (k0_off101 v4414) a + S128x128.size a ≤ S4096x128.size a := fun v4414 k0_hw103 => k0_hw103

def k0_off102 (v4425 : BitVec 32) : Fin 2 → Nat :=
  let c128_i32_5833 : BitVec 32 := 128#32
  let v4426 : BitVec 32 := Scalar.muli v4425 c128_i32_5833
  let v4427 : Index := Scalar.indexCast v4426
  let c0_5834 : Index := 0#32
  ![v4427.toNat, 0]

def k0_chk104 (v4425 : BitVec 32) : Prop :=
  (∀ a, (k0_off102 v4425) a + S128x128.size a ≤ S4096x128.size a)
theorem k0_off102_inb : ∀ (v4425 : BitVec 32) (k0_hw104 : k0_chk104 v4425), ∀ a, (k0_off102 v4425) a + S128x128.size a ≤ S4096x128.size a := fun v4425 k0_hw104 => k0_hw104

def k0_off103 (v4436 : BitVec 32) : Fin 2 → Nat :=
  let c128_i32_5842 : BitVec 32 := 128#32
  let v4437 : BitVec 32 := Scalar.muli v4436 c128_i32_5842
  let v4438 : Index := Scalar.indexCast v4437
  let c0_5843 : Index := 0#32
  ![v4438.toNat, 0]

def k0_chk105 (v4436 : BitVec 32) : Prop :=
  (∀ a, (k0_off103 v4436) a + S128x128.size a ≤ S4096x128.size a)
theorem k0_off103_inb : ∀ (v4436 : BitVec 32) (k0_hw105 : k0_chk105 v4436), ∀ a, (k0_off103 v4436) a + S128x128.size a ≤ S4096x128.size a := fun v4436 k0_hw105 => k0_hw105

def k0_off104 (v4447 : BitVec 32) : Fin 2 → Nat :=
  let c128_i32_5851 : BitVec 32 := 128#32
  let v4448 : BitVec 32 := Scalar.muli v4447 c128_i32_5851
  let v4449 : Index := Scalar.indexCast v4448
  let c0_5852 : Index := 0#32
  ![v4449.toNat, 0]

def k0_chk106 (v4447 : BitVec 32) : Prop :=
  (∀ a, (k0_off104 v4447) a + S128x128.size a ≤ S4096x128.size a)
theorem k0_off104_inb : ∀ (v4447 : BitVec 32) (k0_hw106 : k0_chk106 v4447), ∀ a, (k0_off104 v4447) a + S128x128.size a ≤ S4096x128.size a := fun v4447 k0_hw106 => k0_hw106

def k0_dev199 (v4 : BitVec 32) : Nat :=
  let c0_i32_5964 : BitVec 32 := 0#32
  let c1_i32_5963 : BitVec 32 := 1#32
  let v4528 : BitVec 32 := Scalar.muli v4 c1_i32_5963
  let v4529 : BitVec 32 := Scalar.addi c0_i32_5964 v4528
  v4529.toNat
def k0_dev200 (v4 : BitVec 32) : Nat :=
  let c0_i32_5978 : BitVec 32 := 0#32
  let c1_i32_5977 : BitVec 32 := 1#32
  let v4536 : BitVec 32 := Scalar.muli v4 c1_i32_5977
  let v4537 : BitVec 32 := Scalar.addi c0_i32_5978 v4536
  v4537.toNat
def k0_dev201 (v3 : BitVec 32) : Nat :=
  let c0_i32_5992 : BitVec 32 := 0#32
  let c1_i32_5991 : BitVec 32 := 1#32
  let v4544 : BitVec 32 := Scalar.muli v3 c1_i32_5991
  let v4545 : BitVec 32 := Scalar.addi c0_i32_5992 v4544
  v4545.toNat
def k0_dev202 (v3 : BitVec 32) : Nat :=
  let c0_i32_6006 : BitVec 32 := 0#32
  let c1_i32_6005 : BitVec 32 := 1#32
  let v4552 : BitVec 32 := Scalar.muli v3 c1_i32_6005
  let v4553 : BitVec 32 := Scalar.addi c0_i32_6006 v4552
  v4553.toNat
def k0_dev203 (v3 : BitVec 32) : Nat :=
  let c0_i32_6016 : BitVec 32 := 0#32
  let c1_i32_6015 : BitVec 32 := 1#32
  let v4554 : BitVec 32 := Scalar.muli v3 c1_i32_6015
  let v4555 : BitVec 32 := Scalar.addi c0_i32_6016 v4554
  v4555.toNat
def k0_dev204 (v3 : BitVec 32) : Nat :=
  let c0_i32_6030 : BitVec 32 := 0#32
  let c1_i32_6029 : BitVec 32 := 1#32
  let v4564 : BitVec 32 := Scalar.muli v3 c1_i32_6029
  let v4565 : BitVec 32 := Scalar.addi c0_i32_6030 v4564
  v4565.toNat
def k0_dev205 (v4 : BitVec 32) : Nat :=
  let c0_i32_6044 : BitVec 32 := 0#32
  let c1_i32_6043 : BitVec 32 := 1#32
  let v4574 : BitVec 32 := Scalar.muli v4 c1_i32_6043
  let v4575 : BitVec 32 := Scalar.addi c0_i32_6044 v4574
  v4575.toNat
def k0_dev206 (v4 : BitVec 32) : Nat :=
  let c0_i32_6058 : BitVec 32 := 0#32
  let c1_i32_6057 : BitVec 32 := 1#32
  let v4584 : BitVec 32 := Scalar.muli v4 c1_i32_6057
  let v4585 : BitVec 32 := Scalar.addi c0_i32_6058 v4584
  v4585.toNat
def k0_off105 (v4594 : BitVec 32) : Fin 2 → Nat :=
  let c128_i32_6063 : BitVec 32 := 128#32
  let v4595 : BitVec 32 := Scalar.muli v4594 c128_i32_6063
  let v4596 : Index := Scalar.indexCast v4595
  let c0_6064 : Index := 0#32
  ![v4596.toNat, 0]

def k0_chk107 (v4594 : BitVec 32) : Prop :=
  (∀ a, (k0_off105 v4594) a + S128x128.size a ≤ S4096x128.size a)
theorem k0_off105_inb : ∀ (v4594 : BitVec 32) (k0_hw107 : k0_chk107 v4594), ∀ a, (k0_off105 v4594) a + S128x128.size a ≤ S4096x128.size a := fun v4594 k0_hw107 => k0_hw107

def k0_off106 (v4605 : BitVec 32) : Fin 2 → Nat :=
  let c128_i32_6072 : BitVec 32 := 128#32
  let v4606 : BitVec 32 := Scalar.muli v4605 c128_i32_6072
  let v4607 : Index := Scalar.indexCast v4606
  let c0_6073 : Index := 0#32
  ![v4607.toNat, 0]

def k0_chk108 (v4605 : BitVec 32) : Prop :=
  (∀ a, (k0_off106 v4605) a + S128x128.size a ≤ S4096x128.size a)
theorem k0_off106_inb : ∀ (v4605 : BitVec 32) (k0_hw108 : k0_chk108 v4605), ∀ a, (k0_off106 v4605) a + S128x128.size a ≤ S4096x128.size a := fun v4605 k0_hw108 => k0_hw108

def k0_off107 (v4616 : BitVec 32) : Fin 2 → Nat :=
  let c128_i32_6081 : BitVec 32 := 128#32
  let v4617 : BitVec 32 := Scalar.muli v4616 c128_i32_6081
  let v4618 : Index := Scalar.indexCast v4617
  let c0_6082 : Index := 0#32
  ![v4618.toNat, 0]

def k0_chk109 (v4616 : BitVec 32) : Prop :=
  (∀ a, (k0_off107 v4616) a + S128x128.size a ≤ S4096x128.size a)
theorem k0_off107_inb : ∀ (v4616 : BitVec 32) (k0_hw109 : k0_chk109 v4616), ∀ a, (k0_off107 v4616) a + S128x128.size a ≤ S4096x128.size a := fun v4616 k0_hw109 => k0_hw109

def k0_off108 (v4627 : BitVec 32) : Fin 2 → Nat :=
  let c128_i32_6090 : BitVec 32 := 128#32
  let v4628 : BitVec 32 := Scalar.muli v4627 c128_i32_6090
  let v4629 : Index := Scalar.indexCast v4628
  let c0_6091 : Index := 0#32
  ![v4629.toNat, 0]

def k0_chk110 (v4627 : BitVec 32) : Prop :=
  (∀ a, (k0_off108 v4627) a + S128x128.size a ≤ S4096x128.size a)
theorem k0_off108_inb : ∀ (v4627 : BitVec 32) (k0_hw110 : k0_chk110 v4627), ∀ a, (k0_off108 v4627) a + S128x128.size a ≤ S4096x128.size a := fun v4627 k0_hw110 => k0_hw110

def k0_dev207 (v4 : BitVec 32) : Nat :=
  let c0_i32_6203 : BitVec 32 := 0#32
  let c1_i32_6202 : BitVec 32 := 1#32
  let v4708 : BitVec 32 := Scalar.muli v4 c1_i32_6202
  let v4709 : BitVec 32 := Scalar.addi c0_i32_6203 v4708
  v4709.toNat
def k0_dev208 (v4 : BitVec 32) : Nat :=
  let c0_i32_6217 : BitVec 32 := 0#32
  let c1_i32_6216 : BitVec 32 := 1#32
  let v4716 : BitVec 32 := Scalar.muli v4 c1_i32_6216
  let v4717 : BitVec 32 := Scalar.addi c0_i32_6217 v4716
  v4717.toNat
def k0_dev209 (v3 : BitVec 32) : Nat :=
  let c0_i32_6231 : BitVec 32 := 0#32
  let c1_i32_6230 : BitVec 32 := 1#32
  let v4724 : BitVec 32 := Scalar.muli v3 c1_i32_6230
  let v4725 : BitVec 32 := Scalar.addi c0_i32_6231 v4724
  v4725.toNat
def k0_dev210 (v3 : BitVec 32) : Nat :=
  let c0_i32_6245 : BitVec 32 := 0#32
  let c1_i32_6244 : BitVec 32 := 1#32
  let v4732 : BitVec 32 := Scalar.muli v3 c1_i32_6244
  let v4733 : BitVec 32 := Scalar.addi c0_i32_6245 v4732
  v4733.toNat
def k0_dev211 (v3 : BitVec 32) : Nat :=
  let c0_i32_6255 : BitVec 32 := 0#32
  let c1_i32_6254 : BitVec 32 := 1#32
  let v4734 : BitVec 32 := Scalar.muli v3 c1_i32_6254
  let v4735 : BitVec 32 := Scalar.addi c0_i32_6255 v4734
  v4735.toNat
def k0_dev212 (v3 : BitVec 32) : Nat :=
  let c0_i32_6269 : BitVec 32 := 0#32
  let c1_i32_6268 : BitVec 32 := 1#32
  let v4744 : BitVec 32 := Scalar.muli v3 c1_i32_6268
  let v4745 : BitVec 32 := Scalar.addi c0_i32_6269 v4744
  v4745.toNat
def k0_dev213 (v4 : BitVec 32) : Nat :=
  let c0_i32_6283 : BitVec 32 := 0#32
  let c1_i32_6282 : BitVec 32 := 1#32
  let v4754 : BitVec 32 := Scalar.muli v4 c1_i32_6282
  let v4755 : BitVec 32 := Scalar.addi c0_i32_6283 v4754
  v4755.toNat
def k0_dev214 (v4 : BitVec 32) : Nat :=
  let c0_i32_6297 : BitVec 32 := 0#32
  let c1_i32_6296 : BitVec 32 := 1#32
  let v4764 : BitVec 32 := Scalar.muli v4 c1_i32_6296
  let v4765 : BitVec 32 := Scalar.addi c0_i32_6297 v4764
  v4765.toNat
def k0_off109 (v4774 : BitVec 32) : Fin 2 → Nat :=
  let c128_i32_6302 : BitVec 32 := 128#32
  let v4775 : BitVec 32 := Scalar.muli v4774 c128_i32_6302
  let v4776 : Index := Scalar.indexCast v4775
  let c0_6303 : Index := 0#32
  ![v4776.toNat, 0]

def k0_chk111 (v4774 : BitVec 32) : Prop :=
  (∀ a, (k0_off109 v4774) a + S128x128.size a ≤ S4096x128.size a)
theorem k0_off109_inb : ∀ (v4774 : BitVec 32) (k0_hw111 : k0_chk111 v4774), ∀ a, (k0_off109 v4774) a + S128x128.size a ≤ S4096x128.size a := fun v4774 k0_hw111 => k0_hw111

def k0_off110 (v4785 : BitVec 32) : Fin 2 → Nat :=
  let c128_i32_6311 : BitVec 32 := 128#32
  let v4786 : BitVec 32 := Scalar.muli v4785 c128_i32_6311
  let v4787 : Index := Scalar.indexCast v4786
  let c0_6312 : Index := 0#32
  ![v4787.toNat, 0]

def k0_chk112 (v4785 : BitVec 32) : Prop :=
  (∀ a, (k0_off110 v4785) a + S128x128.size a ≤ S4096x128.size a)
theorem k0_off110_inb : ∀ (v4785 : BitVec 32) (k0_hw112 : k0_chk112 v4785), ∀ a, (k0_off110 v4785) a + S128x128.size a ≤ S4096x128.size a := fun v4785 k0_hw112 => k0_hw112

def k0_off111 (v4796 : BitVec 32) : Fin 2 → Nat :=
  let c128_i32_6320 : BitVec 32 := 128#32
  let v4797 : BitVec 32 := Scalar.muli v4796 c128_i32_6320
  let v4798 : Index := Scalar.indexCast v4797
  let c0_6321 : Index := 0#32
  ![v4798.toNat, 0]

def k0_chk113 (v4796 : BitVec 32) : Prop :=
  (∀ a, (k0_off111 v4796) a + S128x128.size a ≤ S4096x128.size a)
theorem k0_off111_inb : ∀ (v4796 : BitVec 32) (k0_hw113 : k0_chk113 v4796), ∀ a, (k0_off111 v4796) a + S128x128.size a ≤ S4096x128.size a := fun v4796 k0_hw113 => k0_hw113

def k0_off112 (v4807 : BitVec 32) : Fin 2 → Nat :=
  let c128_i32_6329 : BitVec 32 := 128#32
  let v4808 : BitVec 32 := Scalar.muli v4807 c128_i32_6329
  let v4809 : Index := Scalar.indexCast v4808
  let c0_6330 : Index := 0#32
  ![v4809.toNat, 0]

def k0_chk114 (v4807 : BitVec 32) : Prop :=
  (∀ a, (k0_off112 v4807) a + S128x128.size a ≤ S4096x128.size a)
theorem k0_off112_inb : ∀ (v4807 : BitVec 32) (k0_hw114 : k0_chk114 v4807), ∀ a, (k0_off112 v4807) a + S128x128.size a ≤ S4096x128.size a := fun v4807 k0_hw114 => k0_hw114

def k0_dev215 (v4 : BitVec 32) : Nat :=
  let c0_i32_6442 : BitVec 32 := 0#32
  let c1_i32_6441 : BitVec 32 := 1#32
  let v4888 : BitVec 32 := Scalar.muli v4 c1_i32_6441
  let v4889 : BitVec 32 := Scalar.addi c0_i32_6442 v4888
  v4889.toNat
def k0_dev216 (v4 : BitVec 32) : Nat :=
  let c0_i32_6456 : BitVec 32 := 0#32
  let c1_i32_6455 : BitVec 32 := 1#32
  let v4896 : BitVec 32 := Scalar.muli v4 c1_i32_6455
  let v4897 : BitVec 32 := Scalar.addi c0_i32_6456 v4896
  v4897.toNat
def k0_dev217 (v3 : BitVec 32) : Nat :=
  let c0_i32_6470 : BitVec 32 := 0#32
  let c1_i32_6469 : BitVec 32 := 1#32
  let v4904 : BitVec 32 := Scalar.muli v3 c1_i32_6469
  let v4905 : BitVec 32 := Scalar.addi c0_i32_6470 v4904
  v4905.toNat
def k0_dev218 (v3 : BitVec 32) : Nat :=
  let c0_i32_6484 : BitVec 32 := 0#32
  let c1_i32_6483 : BitVec 32 := 1#32
  let v4912 : BitVec 32 := Scalar.muli v3 c1_i32_6483
  let v4913 : BitVec 32 := Scalar.addi c0_i32_6484 v4912
  v4913.toNat
def k0_dev219 (v3 : BitVec 32) : Nat :=
  let c0_i32_6494 : BitVec 32 := 0#32
  let c1_i32_6493 : BitVec 32 := 1#32
  let v4914 : BitVec 32 := Scalar.muli v3 c1_i32_6493
  let v4915 : BitVec 32 := Scalar.addi c0_i32_6494 v4914
  v4915.toNat
def k0_dev220 (v3 : BitVec 32) : Nat :=
  let c0_i32_6508 : BitVec 32 := 0#32
  let c1_i32_6507 : BitVec 32 := 1#32
  let v4924 : BitVec 32 := Scalar.muli v3 c1_i32_6507
  let v4925 : BitVec 32 := Scalar.addi c0_i32_6508 v4924
  v4925.toNat
def k0_dev221 (v4 : BitVec 32) : Nat :=
  let c0_i32_6522 : BitVec 32 := 0#32
  let c1_i32_6521 : BitVec 32 := 1#32
  let v4934 : BitVec 32 := Scalar.muli v4 c1_i32_6521
  let v4935 : BitVec 32 := Scalar.addi c0_i32_6522 v4934
  v4935.toNat
def k0_dev222 (v4 : BitVec 32) : Nat :=
  let c0_i32_6536 : BitVec 32 := 0#32
  let c1_i32_6535 : BitVec 32 := 1#32
  let v4944 : BitVec 32 := Scalar.muli v4 c1_i32_6535
  let v4945 : BitVec 32 := Scalar.addi c0_i32_6536 v4944
  v4945.toNat
def k0_off113 (v4954 : BitVec 32) : Fin 2 → Nat :=
  let c128_i32_6541 : BitVec 32 := 128#32
  let v4955 : BitVec 32 := Scalar.muli v4954 c128_i32_6541
  let v4956 : Index := Scalar.indexCast v4955
  let c0_6542 : Index := 0#32
  ![v4956.toNat, 0]

def k0_chk115 (v4954 : BitVec 32) : Prop :=
  (∀ a, (k0_off113 v4954) a + S128x128.size a ≤ S4096x128.size a)
theorem k0_off113_inb : ∀ (v4954 : BitVec 32) (k0_hw115 : k0_chk115 v4954), ∀ a, (k0_off113 v4954) a + S128x128.size a ≤ S4096x128.size a := fun v4954 k0_hw115 => k0_hw115

def k0_off114 (v4965 : BitVec 32) : Fin 2 → Nat :=
  let c128_i32_6550 : BitVec 32 := 128#32
  let v4966 : BitVec 32 := Scalar.muli v4965 c128_i32_6550
  let v4967 : Index := Scalar.indexCast v4966
  let c0_6551 : Index := 0#32
  ![v4967.toNat, 0]

def k0_chk116 (v4965 : BitVec 32) : Prop :=
  (∀ a, (k0_off114 v4965) a + S128x128.size a ≤ S4096x128.size a)
theorem k0_off114_inb : ∀ (v4965 : BitVec 32) (k0_hw116 : k0_chk116 v4965), ∀ a, (k0_off114 v4965) a + S128x128.size a ≤ S4096x128.size a := fun v4965 k0_hw116 => k0_hw116

def k0_off115 (v4976 : BitVec 32) : Fin 2 → Nat :=
  let c128_i32_6559 : BitVec 32 := 128#32
  let v4977 : BitVec 32 := Scalar.muli v4976 c128_i32_6559
  let v4978 : Index := Scalar.indexCast v4977
  let c0_6560 : Index := 0#32
  ![v4978.toNat, 0]

def k0_chk117 (v4976 : BitVec 32) : Prop :=
  (∀ a, (k0_off115 v4976) a + S128x128.size a ≤ S4096x128.size a)
theorem k0_off115_inb : ∀ (v4976 : BitVec 32) (k0_hw117 : k0_chk117 v4976), ∀ a, (k0_off115 v4976) a + S128x128.size a ≤ S4096x128.size a := fun v4976 k0_hw117 => k0_hw117

def k0_off116 (v4987 : BitVec 32) : Fin 2 → Nat :=
  let c128_i32_6568 : BitVec 32 := 128#32
  let v4988 : BitVec 32 := Scalar.muli v4987 c128_i32_6568
  let v4989 : Index := Scalar.indexCast v4988
  let c0_6569 : Index := 0#32
  ![v4989.toNat, 0]

def k0_chk118 (v4987 : BitVec 32) : Prop :=
  (∀ a, (k0_off116 v4987) a + S128x128.size a ≤ S4096x128.size a)
theorem k0_off116_inb : ∀ (v4987 : BitVec 32) (k0_hw118 : k0_chk118 v4987), ∀ a, (k0_off116 v4987) a + S128x128.size a ≤ S4096x128.size a := fun v4987 k0_hw118 => k0_hw118

def k0_dev223 (v4 : BitVec 32) : Nat :=
  let c0_i32_6681 : BitVec 32 := 0#32
  let c1_i32_6680 : BitVec 32 := 1#32
  let v5068 : BitVec 32 := Scalar.muli v4 c1_i32_6680
  let v5069 : BitVec 32 := Scalar.addi c0_i32_6681 v5068
  v5069.toNat
def k0_dev224 (v4 : BitVec 32) : Nat :=
  let c0_i32_6695 : BitVec 32 := 0#32
  let c1_i32_6694 : BitVec 32 := 1#32
  let v5076 : BitVec 32 := Scalar.muli v4 c1_i32_6694
  let v5077 : BitVec 32 := Scalar.addi c0_i32_6695 v5076
  v5077.toNat
def k0_dev225 (v3 : BitVec 32) : Nat :=
  let c0_i32_6709 : BitVec 32 := 0#32
  let c1_i32_6708 : BitVec 32 := 1#32
  let v5084 : BitVec 32 := Scalar.muli v3 c1_i32_6708
  let v5085 : BitVec 32 := Scalar.addi c0_i32_6709 v5084
  v5085.toNat
def k0_dev226 (v3 : BitVec 32) : Nat :=
  let c0_i32_6723 : BitVec 32 := 0#32
  let c1_i32_6722 : BitVec 32 := 1#32
  let v5092 : BitVec 32 := Scalar.muli v3 c1_i32_6722
  let v5093 : BitVec 32 := Scalar.addi c0_i32_6723 v5092
  v5093.toNat
def k0_dev227 (v3 : BitVec 32) : Nat :=
  let c0_i32_6733 : BitVec 32 := 0#32
  let c1_i32_6732 : BitVec 32 := 1#32
  let v5094 : BitVec 32 := Scalar.muli v3 c1_i32_6732
  let v5095 : BitVec 32 := Scalar.addi c0_i32_6733 v5094
  v5095.toNat
def k0_dev228 (v3 : BitVec 32) : Nat :=
  let c0_i32_6747 : BitVec 32 := 0#32
  let c1_i32_6746 : BitVec 32 := 1#32
  let v5104 : BitVec 32 := Scalar.muli v3 c1_i32_6746
  let v5105 : BitVec 32 := Scalar.addi c0_i32_6747 v5104
  v5105.toNat
def k0_dev229 (v4 : BitVec 32) : Nat :=
  let c0_i32_6761 : BitVec 32 := 0#32
  let c1_i32_6760 : BitVec 32 := 1#32
  let v5114 : BitVec 32 := Scalar.muli v4 c1_i32_6760
  let v5115 : BitVec 32 := Scalar.addi c0_i32_6761 v5114
  v5115.toNat
def k0_dev230 (v4 : BitVec 32) : Nat :=
  let c0_i32_6775 : BitVec 32 := 0#32
  let c1_i32_6774 : BitVec 32 := 1#32
  let v5124 : BitVec 32 := Scalar.muli v4 c1_i32_6774
  let v5125 : BitVec 32 := Scalar.addi c0_i32_6775 v5124
  v5125.toNat
def k0_off117 (v5134 : BitVec 32) : Fin 2 → Nat :=
  let c128_i32_6780 : BitVec 32 := 128#32
  let v5135 : BitVec 32 := Scalar.muli v5134 c128_i32_6780
  let v5136 : Index := Scalar.indexCast v5135
  let c0_6781 : Index := 0#32
  ![v5136.toNat, 0]

def k0_chk119 (v5134 : BitVec 32) : Prop :=
  (∀ a, (k0_off117 v5134) a + S128x128.size a ≤ S4096x128.size a)
theorem k0_off117_inb : ∀ (v5134 : BitVec 32) (k0_hw119 : k0_chk119 v5134), ∀ a, (k0_off117 v5134) a + S128x128.size a ≤ S4096x128.size a := fun v5134 k0_hw119 => k0_hw119

def k0_off118 (v5145 : BitVec 32) : Fin 2 → Nat :=
  let c128_i32_6789 : BitVec 32 := 128#32
  let v5146 : BitVec 32 := Scalar.muli v5145 c128_i32_6789
  let v5147 : Index := Scalar.indexCast v5146
  let c0_6790 : Index := 0#32
  ![v5147.toNat, 0]

def k0_chk120 (v5145 : BitVec 32) : Prop :=
  (∀ a, (k0_off118 v5145) a + S128x128.size a ≤ S4096x128.size a)
theorem k0_off118_inb : ∀ (v5145 : BitVec 32) (k0_hw120 : k0_chk120 v5145), ∀ a, (k0_off118 v5145) a + S128x128.size a ≤ S4096x128.size a := fun v5145 k0_hw120 => k0_hw120

def k0_off119 (v5156 : BitVec 32) : Fin 2 → Nat :=
  let c128_i32_6798 : BitVec 32 := 128#32
  let v5157 : BitVec 32 := Scalar.muli v5156 c128_i32_6798
  let v5158 : Index := Scalar.indexCast v5157
  let c0_6799 : Index := 0#32
  ![v5158.toNat, 0]

def k0_chk121 (v5156 : BitVec 32) : Prop :=
  (∀ a, (k0_off119 v5156) a + S128x128.size a ≤ S4096x128.size a)
theorem k0_off119_inb : ∀ (v5156 : BitVec 32) (k0_hw121 : k0_chk121 v5156), ∀ a, (k0_off119 v5156) a + S128x128.size a ≤ S4096x128.size a := fun v5156 k0_hw121 => k0_hw121

def k0_off120 (v5167 : BitVec 32) : Fin 2 → Nat :=
  let c128_i32_6807 : BitVec 32 := 128#32
  let v5168 : BitVec 32 := Scalar.muli v5167 c128_i32_6807
  let v5169 : Index := Scalar.indexCast v5168
  let c0_6808 : Index := 0#32
  ![v5169.toNat, 0]

def k0_chk122 (v5167 : BitVec 32) : Prop :=
  (∀ a, (k0_off120 v5167) a + S128x128.size a ≤ S4096x128.size a)
theorem k0_off120_inb : ∀ (v5167 : BitVec 32) (k0_hw122 : k0_chk122 v5167), ∀ a, (k0_off120 v5167) a + S128x128.size a ≤ S4096x128.size a := fun v5167 k0_hw122 => k0_hw122

def k0_dev231 (v4 : BitVec 32) : Nat :=
  let c0_i32_6920 : BitVec 32 := 0#32
  let c1_i32_6919 : BitVec 32 := 1#32
  let v5248 : BitVec 32 := Scalar.muli v4 c1_i32_6919
  let v5249 : BitVec 32 := Scalar.addi c0_i32_6920 v5248
  v5249.toNat
def k0_dev232 (v4 : BitVec 32) : Nat :=
  let c0_i32_6934 : BitVec 32 := 0#32
  let c1_i32_6933 : BitVec 32 := 1#32
  let v5256 : BitVec 32 := Scalar.muli v4 c1_i32_6933
  let v5257 : BitVec 32 := Scalar.addi c0_i32_6934 v5256
  v5257.toNat
def k0_dev233 (v3 : BitVec 32) : Nat :=
  let c0_i32_6948 : BitVec 32 := 0#32
  let c1_i32_6947 : BitVec 32 := 1#32
  let v5264 : BitVec 32 := Scalar.muli v3 c1_i32_6947
  let v5265 : BitVec 32 := Scalar.addi c0_i32_6948 v5264
  v5265.toNat
def k0_dev234 (v3 : BitVec 32) : Nat :=
  let c0_i32_6962 : BitVec 32 := 0#32
  let c1_i32_6961 : BitVec 32 := 1#32
  let v5272 : BitVec 32 := Scalar.muli v3 c1_i32_6961
  let v5273 : BitVec 32 := Scalar.addi c0_i32_6962 v5272
  v5273.toNat
def k0_dev235 (v3 : BitVec 32) : Nat :=
  let c0_i32_6972 : BitVec 32 := 0#32
  let c1_i32_6971 : BitVec 32 := 1#32
  let v5274 : BitVec 32 := Scalar.muli v3 c1_i32_6971
  let v5275 : BitVec 32 := Scalar.addi c0_i32_6972 v5274
  v5275.toNat
def k0_dev236 (v3 : BitVec 32) : Nat :=
  let c0_i32_6986 : BitVec 32 := 0#32
  let c1_i32_6985 : BitVec 32 := 1#32
  let v5284 : BitVec 32 := Scalar.muli v3 c1_i32_6985
  let v5285 : BitVec 32 := Scalar.addi c0_i32_6986 v5284
  v5285.toNat
def k0_dev237 (v4 : BitVec 32) : Nat :=
  let c0_i32_7000 : BitVec 32 := 0#32
  let c1_i32_6999 : BitVec 32 := 1#32
  let v5294 : BitVec 32 := Scalar.muli v4 c1_i32_6999
  let v5295 : BitVec 32 := Scalar.addi c0_i32_7000 v5294
  v5295.toNat
def k0_dev238 (v4 : BitVec 32) : Nat :=
  let c0_i32_7014 : BitVec 32 := 0#32
  let c1_i32_7013 : BitVec 32 := 1#32
  let v5304 : BitVec 32 := Scalar.muli v4 c1_i32_7013
  let v5305 : BitVec 32 := Scalar.addi c0_i32_7014 v5304
  v5305.toNat
def k0_off121 (v5314 : BitVec 32) : Fin 2 → Nat :=
  let c128_i32_7019 : BitVec 32 := 128#32
  let v5315 : BitVec 32 := Scalar.muli v5314 c128_i32_7019
  let v5316 : Index := Scalar.indexCast v5315
  let c0_7020 : Index := 0#32
  ![v5316.toNat, 0]

def k0_chk123 (v5314 : BitVec 32) : Prop :=
  (∀ a, (k0_off121 v5314) a + S128x128.size a ≤ S4096x128.size a)
theorem k0_off121_inb : ∀ (v5314 : BitVec 32) (k0_hw123 : k0_chk123 v5314), ∀ a, (k0_off121 v5314) a + S128x128.size a ≤ S4096x128.size a := fun v5314 k0_hw123 => k0_hw123

def k0_off122 (v5325 : BitVec 32) : Fin 2 → Nat :=
  let c128_i32_7028 : BitVec 32 := 128#32
  let v5326 : BitVec 32 := Scalar.muli v5325 c128_i32_7028
  let v5327 : Index := Scalar.indexCast v5326
  let c0_7029 : Index := 0#32
  ![v5327.toNat, 0]

def k0_chk124 (v5325 : BitVec 32) : Prop :=
  (∀ a, (k0_off122 v5325) a + S128x128.size a ≤ S4096x128.size a)
theorem k0_off122_inb : ∀ (v5325 : BitVec 32) (k0_hw124 : k0_chk124 v5325), ∀ a, (k0_off122 v5325) a + S128x128.size a ≤ S4096x128.size a := fun v5325 k0_hw124 => k0_hw124

def k0_off123 (v5336 : BitVec 32) : Fin 2 → Nat :=
  let c128_i32_7037 : BitVec 32 := 128#32
  let v5337 : BitVec 32 := Scalar.muli v5336 c128_i32_7037
  let v5338 : Index := Scalar.indexCast v5337
  let c0_7038 : Index := 0#32
  ![v5338.toNat, 0]

def k0_chk125 (v5336 : BitVec 32) : Prop :=
  (∀ a, (k0_off123 v5336) a + S128x128.size a ≤ S4096x128.size a)
theorem k0_off123_inb : ∀ (v5336 : BitVec 32) (k0_hw125 : k0_chk125 v5336), ∀ a, (k0_off123 v5336) a + S128x128.size a ≤ S4096x128.size a := fun v5336 k0_hw125 => k0_hw125

def k0_off124 (v5347 : BitVec 32) : Fin 2 → Nat :=
  let c128_i32_7046 : BitVec 32 := 128#32
  let v5348 : BitVec 32 := Scalar.muli v5347 c128_i32_7046
  let v5349 : Index := Scalar.indexCast v5348
  let c0_7047 : Index := 0#32
  ![v5349.toNat, 0]

def k0_chk126 (v5347 : BitVec 32) : Prop :=
  (∀ a, (k0_off124 v5347) a + S128x128.size a ≤ S4096x128.size a)
theorem k0_off124_inb : ∀ (v5347 : BitVec 32) (k0_hw126 : k0_chk126 v5347), ∀ a, (k0_off124 v5347) a + S128x128.size a ≤ S4096x128.size a := fun v5347 k0_hw126 => k0_hw126

def k0_dev239 (v4 : BitVec 32) : Nat :=
  let c0_i32_7159 : BitVec 32 := 0#32
  let c1_i32_7158 : BitVec 32 := 1#32
  let v5428 : BitVec 32 := Scalar.muli v4 c1_i32_7158
  let v5429 : BitVec 32 := Scalar.addi c0_i32_7159 v5428
  v5429.toNat
def k0_dev240 (v4 : BitVec 32) : Nat :=
  let c0_i32_7173 : BitVec 32 := 0#32
  let c1_i32_7172 : BitVec 32 := 1#32
  let v5436 : BitVec 32 := Scalar.muli v4 c1_i32_7172
  let v5437 : BitVec 32 := Scalar.addi c0_i32_7173 v5436
  v5437.toNat
def k0_dev241 (v3 : BitVec 32) : Nat :=
  let c0_i32_7187 : BitVec 32 := 0#32
  let c1_i32_7186 : BitVec 32 := 1#32
  let v5444 : BitVec 32 := Scalar.muli v3 c1_i32_7186
  let v5445 : BitVec 32 := Scalar.addi c0_i32_7187 v5444
  v5445.toNat
def k0_dev242 (v3 : BitVec 32) : Nat :=
  let c0_i32_7201 : BitVec 32 := 0#32
  let c1_i32_7200 : BitVec 32 := 1#32
  let v5452 : BitVec 32 := Scalar.muli v3 c1_i32_7200
  let v5453 : BitVec 32 := Scalar.addi c0_i32_7201 v5452
  v5453.toNat
def k0_dev243 (v3 : BitVec 32) : Nat :=
  let c0_i32_7211 : BitVec 32 := 0#32
  let c1_i32_7210 : BitVec 32 := 1#32
  let v5454 : BitVec 32 := Scalar.muli v3 c1_i32_7210
  let v5455 : BitVec 32 := Scalar.addi c0_i32_7211 v5454
  v5455.toNat
def k0_dev244 (v3 : BitVec 32) : Nat :=
  let c0_i32_7225 : BitVec 32 := 0#32
  let c1_i32_7224 : BitVec 32 := 1#32
  let v5464 : BitVec 32 := Scalar.muli v3 c1_i32_7224
  let v5465 : BitVec 32 := Scalar.addi c0_i32_7225 v5464
  v5465.toNat

def k0_chk5_0 (v3 : BitVec 32) : Prop :=
  ((k0_dev1 v3) < nD) ∧
  ((k0_dev3 v3) < nD) ∧
  ((k0_dev4 v3) < nD) ∧
  ((k0_dev9 v3) < nD) ∧
  ((k0_dev10 v3) < nD) ∧
  ((k0_dev11 v3) < nD) ∧
  ((k0_dev12 v3) < nD) ∧
  ((k0_dev17 v3) < nD) ∧
  ((k0_dev18 v3) < nD) ∧
  ((k0_dev19 v3) < nD) ∧
  ((k0_dev20 v3) < nD) ∧
  ((k0_dev25 v3) < nD) ∧
  ((k0_dev26 v3) < nD) ∧
  ((k0_dev27 v3) < nD) ∧
  ((k0_dev28 v3) < nD) ∧
  ((k0_dev33 v3) < nD) ∧
  ((k0_dev34 v3) < nD) ∧
  ((k0_dev35 v3) < nD) ∧
  ((k0_dev36 v3) < nD) ∧
  ((k0_dev41 v3) < nD) ∧
  ((k0_dev42 v3) < nD) ∧
  ((k0_dev43 v3) < nD) ∧
  ((k0_dev44 v3) < nD) ∧
  ((k0_dev49 v3) < nD) ∧
  ((k0_dev50 v3) < nD) ∧
  ((k0_dev51 v3) < nD) ∧
  ((k0_dev52 v3) < nD) ∧
  ((k0_dev57 v3) < nD) ∧
  ((k0_dev58 v3) < nD) ∧
  ((k0_dev59 v3) < nD) ∧
  ((k0_dev60 v3) < nD) ∧
  ((k0_dev65 v3) < nD)
def k0_chk5_1 (v3 : BitVec 32) : Prop :=
  ((k0_dev66 v3) < nD) ∧
  ((k0_dev67 v3) < nD) ∧
  ((k0_dev68 v3) < nD) ∧
  ((k0_dev73 v3) < nD) ∧
  ((k0_dev74 v3) < nD) ∧
  ((k0_dev75 v3) < nD) ∧
  ((k0_dev76 v3) < nD) ∧
  ((k0_dev81 v3) < nD) ∧
  ((k0_dev82 v3) < nD) ∧
  ((k0_dev83 v3) < nD) ∧
  ((k0_dev84 v3) < nD) ∧
  ((k0_dev89 v3) < nD) ∧
  ((k0_dev90 v3) < nD) ∧
  ((k0_dev91 v3) < nD) ∧
  ((k0_dev92 v3) < nD) ∧
  ((k0_dev97 v3) < nD) ∧
  ((k0_dev98 v3) < nD) ∧
  ((k0_dev99 v3) < nD) ∧
  ((k0_dev100 v3) < nD) ∧
  ((k0_dev105 v3) < nD) ∧
  ((k0_dev106 v3) < nD) ∧
  ((k0_dev107 v3) < nD) ∧
  ((k0_dev108 v3) < nD) ∧
  ((k0_dev113 v3) < nD) ∧
  ((k0_dev114 v3) < nD) ∧
  ((k0_dev115 v3) < nD) ∧
  ((k0_dev116 v3) < nD) ∧
  ((k0_dev121 v3) < nD) ∧
  ((k0_dev122 v3) < nD) ∧
  ((k0_dev123 v3) < nD) ∧
  ((k0_dev124 v3) < nD) ∧
  ((k0_dev129 v3) < nD)
def k0_chk5_2 (v3 : BitVec 32) : Prop :=
  ((k0_dev130 v3) < nD) ∧
  ((k0_dev131 v3) < nD) ∧
  ((k0_dev132 v3) < nD) ∧
  ((k0_dev137 v3) < nD) ∧
  ((k0_dev138 v3) < nD) ∧
  ((k0_dev139 v3) < nD) ∧
  ((k0_dev140 v3) < nD) ∧
  ((k0_dev145 v3) < nD) ∧
  ((k0_dev146 v3) < nD) ∧
  ((k0_dev147 v3) < nD) ∧
  ((k0_dev148 v3) < nD) ∧
  ((k0_dev153 v3) < nD) ∧
  ((k0_dev154 v3) < nD) ∧
  ((k0_dev155 v3) < nD) ∧
  ((k0_dev156 v3) < nD) ∧
  ((k0_dev161 v3) < nD) ∧
  ((k0_dev162 v3) < nD) ∧
  ((k0_dev163 v3) < nD) ∧
  ((k0_dev164 v3) < nD) ∧
  ((k0_dev169 v3) < nD) ∧
  ((k0_dev170 v3) < nD) ∧
  ((k0_dev171 v3) < nD) ∧
  ((k0_dev172 v3) < nD) ∧
  ((k0_dev177 v3) < nD) ∧
  ((k0_dev178 v3) < nD) ∧
  ((k0_dev179 v3) < nD) ∧
  ((k0_dev180 v3) < nD) ∧
  ((k0_dev185 v3) < nD) ∧
  ((k0_dev186 v3) < nD) ∧
  ((k0_dev187 v3) < nD) ∧
  ((k0_dev188 v3) < nD) ∧
  ((k0_dev193 v3) < nD)
def k0_chk5_3 (v3 : BitVec 32) : Prop :=
  ((k0_dev194 v3) < nD) ∧
  ((k0_dev195 v3) < nD) ∧
  ((k0_dev196 v3) < nD) ∧
  ((k0_dev201 v3) < nD) ∧
  ((k0_dev202 v3) < nD) ∧
  ((k0_dev203 v3) < nD) ∧
  ((k0_dev204 v3) < nD) ∧
  ((k0_dev209 v3) < nD) ∧
  ((k0_dev210 v3) < nD) ∧
  ((k0_dev211 v3) < nD) ∧
  ((k0_dev212 v3) < nD) ∧
  ((k0_dev217 v3) < nD) ∧
  ((k0_dev218 v3) < nD) ∧
  ((k0_dev219 v3) < nD) ∧
  ((k0_dev220 v3) < nD) ∧
  ((k0_dev225 v3) < nD) ∧
  ((k0_dev226 v3) < nD) ∧
  ((k0_dev227 v3) < nD) ∧
  ((k0_dev228 v3) < nD) ∧
  ((k0_dev233 v3) < nD) ∧
  ((k0_dev234 v3) < nD) ∧
  ((k0_dev235 v3) < nD) ∧
  ((k0_dev236 v3) < nD) ∧
  ((k0_dev241 v3) < nD) ∧
  ((k0_dev242 v3) < nD) ∧
  ((k0_dev243 v3) < nD) ∧
  ((k0_dev244 v3) < nD)
def k0_chk5 (v3 : BitVec 32) : Prop :=
  k0_chk5_0 v3 ∧
  k0_chk5_1 v3 ∧
  k0_chk5_2 v3 ∧
  k0_chk5_3 v3
theorem k0_dev1_lt : ∀ (v3 : BitVec 32) (k0_hw5 : k0_chk5 v3), (k0_dev1 v3) < nD := fun v3 k0_hw5 => k0_hw5.1.1
theorem k0_dev3_lt : ∀ (v3 : BitVec 32) (k0_hw5 : k0_chk5 v3), (k0_dev3 v3) < nD := fun v3 k0_hw5 => k0_hw5.1.2.1
theorem k0_dev4_lt : ∀ (v3 : BitVec 32) (k0_hw5 : k0_chk5 v3), (k0_dev4 v3) < nD := fun v3 k0_hw5 => k0_hw5.1.2.2.1
theorem k0_dev9_lt : ∀ (v3 : BitVec 32) (k0_hw5 : k0_chk5 v3), (k0_dev9 v3) < nD := fun v3 k0_hw5 => k0_hw5.1.2.2.2.1
theorem k0_dev10_lt : ∀ (v3 : BitVec 32) (k0_hw5 : k0_chk5 v3), (k0_dev10 v3) < nD := fun v3 k0_hw5 => k0_hw5.1.2.2.2.2.1
theorem k0_dev11_lt : ∀ (v3 : BitVec 32) (k0_hw5 : k0_chk5 v3), (k0_dev11 v3) < nD := fun v3 k0_hw5 => k0_hw5.1.2.2.2.2.2.1
theorem k0_dev12_lt : ∀ (v3 : BitVec 32) (k0_hw5 : k0_chk5 v3), (k0_dev12 v3) < nD := fun v3 k0_hw5 => k0_hw5.1.2.2.2.2.2.2.1
theorem k0_dev17_lt : ∀ (v3 : BitVec 32) (k0_hw5 : k0_chk5 v3), (k0_dev17 v3) < nD := fun v3 k0_hw5 => k0_hw5.1.2.2.2.2.2.2.2.1
theorem k0_dev18_lt : ∀ (v3 : BitVec 32) (k0_hw5 : k0_chk5 v3), (k0_dev18 v3) < nD := fun v3 k0_hw5 => k0_hw5.1.2.2.2.2.2.2.2.2.1
theorem k0_dev19_lt : ∀ (v3 : BitVec 32) (k0_hw5 : k0_chk5 v3), (k0_dev19 v3) < nD := fun v3 k0_hw5 => k0_hw5.1.2.2.2.2.2.2.2.2.2.1
theorem k0_dev20_lt : ∀ (v3 : BitVec 32) (k0_hw5 : k0_chk5 v3), (k0_dev20 v3) < nD := fun v3 k0_hw5 => k0_hw5.1.2.2.2.2.2.2.2.2.2.2.1
theorem k0_dev25_lt : ∀ (v3 : BitVec 32) (k0_hw5 : k0_chk5 v3), (k0_dev25 v3) < nD := fun v3 k0_hw5 => k0_hw5.1.2.2.2.2.2.2.2.2.2.2.2.1
theorem k0_dev26_lt : ∀ (v3 : BitVec 32) (k0_hw5 : k0_chk5 v3), (k0_dev26 v3) < nD := fun v3 k0_hw5 => k0_hw5.1.2.2.2.2.2.2.2.2.2.2.2.2.1
theorem k0_dev27_lt : ∀ (v3 : BitVec 32) (k0_hw5 : k0_chk5 v3), (k0_dev27 v3) < nD := fun v3 k0_hw5 => k0_hw5.1.2.2.2.2.2.2.2.2.2.2.2.2.2.1
theorem k0_dev28_lt : ∀ (v3 : BitVec 32) (k0_hw5 : k0_chk5 v3), (k0_dev28 v3) < nD := fun v3 k0_hw5 => k0_hw5.1.2.2.2.2.2.2.2.2.2.2.2.2.2.2.1
theorem k0_dev33_lt : ∀ (v3 : BitVec 32) (k0_hw5 : k0_chk5 v3), (k0_dev33 v3) < nD := fun v3 k0_hw5 => k0_hw5.1.2.2.2.2.2.2.2.2.2.2.2.2.2.2.2.1
theorem k0_dev34_lt : ∀ (v3 : BitVec 32) (k0_hw5 : k0_chk5 v3), (k0_dev34 v3) < nD := fun v3 k0_hw5 => k0_hw5.1.2.2.2.2.2.2.2.2.2.2.2.2.2.2.2.2.1
theorem k0_dev35_lt : ∀ (v3 : BitVec 32) (k0_hw5 : k0_chk5 v3), (k0_dev35 v3) < nD := fun v3 k0_hw5 => k0_hw5.1.2.2.2.2.2.2.2.2.2.2.2.2.2.2.2.2.2.1
theorem k0_dev36_lt : ∀ (v3 : BitVec 32) (k0_hw5 : k0_chk5 v3), (k0_dev36 v3) < nD := fun v3 k0_hw5 => k0_hw5.1.2.2.2.2.2.2.2.2.2.2.2.2.2.2.2.2.2.2.1
theorem k0_dev41_lt : ∀ (v3 : BitVec 32) (k0_hw5 : k0_chk5 v3), (k0_dev41 v3) < nD := fun v3 k0_hw5 => k0_hw5.1.2.2.2.2.2.2.2.2.2.2.2.2.2.2.2.2.2.2.2.1
theorem k0_dev42_lt : ∀ (v3 : BitVec 32) (k0_hw5 : k0_chk5 v3), (k0_dev42 v3) < nD := fun v3 k0_hw5 => k0_hw5.1.2.2.2.2.2.2.2.2.2.2.2.2.2.2.2.2.2.2.2.2.1
theorem k0_dev43_lt : ∀ (v3 : BitVec 32) (k0_hw5 : k0_chk5 v3), (k0_dev43 v3) < nD := fun v3 k0_hw5 => k0_hw5.1.2.2.2.2.2.2.2.2.2.2.2.2.2.2.2.2.2.2.2.2.2.1
theorem k0_dev44_lt : ∀ (v3 : BitVec 32) (k0_hw5 : k0_chk5 v3), (k0_dev44 v3) < nD := fun v3 k0_hw5 => k0_hw5.1.2.2.2.2.2.2.2.2.2.2.2.2.2.2.2.2.2.2.2.2.2.2.1
theorem k0_dev49_lt : ∀ (v3 : BitVec 32) (k0_hw5 : k0_chk5 v3), (k0_dev49 v3) < nD := fun v3 k0_hw5 => k0_hw5.1.2.2.2.2.2.2.2.2.2.2.2.2.2.2.2.2.2.2.2.2.2.2.2.1
theorem k0_dev50_lt : ∀ (v3 : BitVec 32) (k0_hw5 : k0_chk5 v3), (k0_dev50 v3) < nD := fun v3 k0_hw5 => k0_hw5.1.2.2.2.2.2.2.2.2.2.2.2.2.2.2.2.2.2.2.2.2.2.2.2.2.1
theorem k0_dev51_lt : ∀ (v3 : BitVec 32) (k0_hw5 : k0_chk5 v3), (k0_dev51 v3) < nD := fun v3 k0_hw5 => k0_hw5.1.2.2.2.2.2.2.2.2.2.2.2.2.2.2.2.2.2.2.2.2.2.2.2.2.2.1
theorem k0_dev52_lt : ∀ (v3 : BitVec 32) (k0_hw5 : k0_chk5 v3), (k0_dev52 v3) < nD := fun v3 k0_hw5 => k0_hw5.1.2.2.2.2.2.2.2.2.2.2.2.2.2.2.2.2.2.2.2.2.2.2.2.2.2.2.1
theorem k0_dev57_lt : ∀ (v3 : BitVec 32) (k0_hw5 : k0_chk5 v3), (k0_dev57 v3) < nD := fun v3 k0_hw5 => k0_hw5.1.2.2.2.2.2.2.2.2.2.2.2.2.2.2.2.2.2.2.2.2.2.2.2.2.2.2.2.1
theorem k0_dev58_lt : ∀ (v3 : BitVec 32) (k0_hw5 : k0_chk5 v3), (k0_dev58 v3) < nD := fun v3 k0_hw5 => k0_hw5.1.2.2.2.2.2.2.2.2.2.2.2.2.2.2.2.2.2.2.2.2.2.2.2.2.2.2.2.2.1
theorem k0_dev59_lt : ∀ (v3 : BitVec 32) (k0_hw5 : k0_chk5 v3), (k0_dev59 v3) < nD := fun v3 k0_hw5 => k0_hw5.1.2.2.2.2.2.2.2.2.2.2.2.2.2.2.2.2.2.2.2.2.2.2.2.2.2.2.2.2.2.1
theorem k0_dev60_lt : ∀ (v3 : BitVec 32) (k0_hw5 : k0_chk5 v3), (k0_dev60 v3) < nD := fun v3 k0_hw5 => k0_hw5.1.2.2.2.2.2.2.2.2.2.2.2.2.2.2.2.2.2.2.2.2.2.2.2.2.2.2.2.2.2.2.1
theorem k0_dev65_lt : ∀ (v3 : BitVec 32) (k0_hw5 : k0_chk5 v3), (k0_dev65 v3) < nD := fun v3 k0_hw5 => k0_hw5.1.2.2.2.2.2.2.2.2.2.2.2.2.2.2.2.2.2.2.2.2.2.2.2.2.2.2.2.2.2.2.2
theorem k0_dev66_lt : ∀ (v3 : BitVec 32) (k0_hw5 : k0_chk5 v3), (k0_dev66 v3) < nD := fun v3 k0_hw5 => k0_hw5.2.1.1
theorem k0_dev67_lt : ∀ (v3 : BitVec 32) (k0_hw5 : k0_chk5 v3), (k0_dev67 v3) < nD := fun v3 k0_hw5 => k0_hw5.2.1.2.1
theorem k0_dev68_lt : ∀ (v3 : BitVec 32) (k0_hw5 : k0_chk5 v3), (k0_dev68 v3) < nD := fun v3 k0_hw5 => k0_hw5.2.1.2.2.1
theorem k0_dev73_lt : ∀ (v3 : BitVec 32) (k0_hw5 : k0_chk5 v3), (k0_dev73 v3) < nD := fun v3 k0_hw5 => k0_hw5.2.1.2.2.2.1
theorem k0_dev74_lt : ∀ (v3 : BitVec 32) (k0_hw5 : k0_chk5 v3), (k0_dev74 v3) < nD := fun v3 k0_hw5 => k0_hw5.2.1.2.2.2.2.1
theorem k0_dev75_lt : ∀ (v3 : BitVec 32) (k0_hw5 : k0_chk5 v3), (k0_dev75 v3) < nD := fun v3 k0_hw5 => k0_hw5.2.1.2.2.2.2.2.1
theorem k0_dev76_lt : ∀ (v3 : BitVec 32) (k0_hw5 : k0_chk5 v3), (k0_dev76 v3) < nD := fun v3 k0_hw5 => k0_hw5.2.1.2.2.2.2.2.2.1
theorem k0_dev81_lt : ∀ (v3 : BitVec 32) (k0_hw5 : k0_chk5 v3), (k0_dev81 v3) < nD := fun v3 k0_hw5 => k0_hw5.2.1.2.2.2.2.2.2.2.1
theorem k0_dev82_lt : ∀ (v3 : BitVec 32) (k0_hw5 : k0_chk5 v3), (k0_dev82 v3) < nD := fun v3 k0_hw5 => k0_hw5.2.1.2.2.2.2.2.2.2.2.1
theorem k0_dev83_lt : ∀ (v3 : BitVec 32) (k0_hw5 : k0_chk5 v3), (k0_dev83 v3) < nD := fun v3 k0_hw5 => k0_hw5.2.1.2.2.2.2.2.2.2.2.2.1
theorem k0_dev84_lt : ∀ (v3 : BitVec 32) (k0_hw5 : k0_chk5 v3), (k0_dev84 v3) < nD := fun v3 k0_hw5 => k0_hw5.2.1.2.2.2.2.2.2.2.2.2.2.1
theorem k0_dev89_lt : ∀ (v3 : BitVec 32) (k0_hw5 : k0_chk5 v3), (k0_dev89 v3) < nD := fun v3 k0_hw5 => k0_hw5.2.1.2.2.2.2.2.2.2.2.2.2.2.1
theorem k0_dev90_lt : ∀ (v3 : BitVec 32) (k0_hw5 : k0_chk5 v3), (k0_dev90 v3) < nD := fun v3 k0_hw5 => k0_hw5.2.1.2.2.2.2.2.2.2.2.2.2.2.2.1
theorem k0_dev91_lt : ∀ (v3 : BitVec 32) (k0_hw5 : k0_chk5 v3), (k0_dev91 v3) < nD := fun v3 k0_hw5 => k0_hw5.2.1.2.2.2.2.2.2.2.2.2.2.2.2.2.1
theorem k0_dev92_lt : ∀ (v3 : BitVec 32) (k0_hw5 : k0_chk5 v3), (k0_dev92 v3) < nD := fun v3 k0_hw5 => k0_hw5.2.1.2.2.2.2.2.2.2.2.2.2.2.2.2.2.1
theorem k0_dev97_lt : ∀ (v3 : BitVec 32) (k0_hw5 : k0_chk5 v3), (k0_dev97 v3) < nD := fun v3 k0_hw5 => k0_hw5.2.1.2.2.2.2.2.2.2.2.2.2.2.2.2.2.2.1
theorem k0_dev98_lt : ∀ (v3 : BitVec 32) (k0_hw5 : k0_chk5 v3), (k0_dev98 v3) < nD := fun v3 k0_hw5 => k0_hw5.2.1.2.2.2.2.2.2.2.2.2.2.2.2.2.2.2.2.1
theorem k0_dev99_lt : ∀ (v3 : BitVec 32) (k0_hw5 : k0_chk5 v3), (k0_dev99 v3) < nD := fun v3 k0_hw5 => k0_hw5.2.1.2.2.2.2.2.2.2.2.2.2.2.2.2.2.2.2.2.1
theorem k0_dev100_lt : ∀ (v3 : BitVec 32) (k0_hw5 : k0_chk5 v3), (k0_dev100 v3) < nD := fun v3 k0_hw5 => k0_hw5.2.1.2.2.2.2.2.2.2.2.2.2.2.2.2.2.2.2.2.2.1
theorem k0_dev105_lt : ∀ (v3 : BitVec 32) (k0_hw5 : k0_chk5 v3), (k0_dev105 v3) < nD := fun v3 k0_hw5 => k0_hw5.2.1.2.2.2.2.2.2.2.2.2.2.2.2.2.2.2.2.2.2.2.1
theorem k0_dev106_lt : ∀ (v3 : BitVec 32) (k0_hw5 : k0_chk5 v3), (k0_dev106 v3) < nD := fun v3 k0_hw5 => k0_hw5.2.1.2.2.2.2.2.2.2.2.2.2.2.2.2.2.2.2.2.2.2.2.1
theorem k0_dev107_lt : ∀ (v3 : BitVec 32) (k0_hw5 : k0_chk5 v3), (k0_dev107 v3) < nD := fun v3 k0_hw5 => k0_hw5.2.1.2.2.2.2.2.2.2.2.2.2.2.2.2.2.2.2.2.2.2.2.2.1
theorem k0_dev108_lt : ∀ (v3 : BitVec 32) (k0_hw5 : k0_chk5 v3), (k0_dev108 v3) < nD := fun v3 k0_hw5 => k0_hw5.2.1.2.2.2.2.2.2.2.2.2.2.2.2.2.2.2.2.2.2.2.2.2.2.1
theorem k0_dev113_lt : ∀ (v3 : BitVec 32) (k0_hw5 : k0_chk5 v3), (k0_dev113 v3) < nD := fun v3 k0_hw5 => k0_hw5.2.1.2.2.2.2.2.2.2.2.2.2.2.2.2.2.2.2.2.2.2.2.2.2.2.1
theorem k0_dev114_lt : ∀ (v3 : BitVec 32) (k0_hw5 : k0_chk5 v3), (k0_dev114 v3) < nD := fun v3 k0_hw5 => k0_hw5.2.1.2.2.2.2.2.2.2.2.2.2.2.2.2.2.2.2.2.2.2.2.2.2.2.2.1
theorem k0_dev115_lt : ∀ (v3 : BitVec 32) (k0_hw5 : k0_chk5 v3), (k0_dev115 v3) < nD := fun v3 k0_hw5 => k0_hw5.2.1.2.2.2.2.2.2.2.2.2.2.2.2.2.2.2.2.2.2.2.2.2.2.2.2.2.1
theorem k0_dev116_lt : ∀ (v3 : BitVec 32) (k0_hw5 : k0_chk5 v3), (k0_dev116 v3) < nD := fun v3 k0_hw5 => k0_hw5.2.1.2.2.2.2.2.2.2.2.2.2.2.2.2.2.2.2.2.2.2.2.2.2.2.2.2.2.1
theorem k0_dev121_lt : ∀ (v3 : BitVec 32) (k0_hw5 : k0_chk5 v3), (k0_dev121 v3) < nD := fun v3 k0_hw5 => k0_hw5.2.1.2.2.2.2.2.2.2.2.2.2.2.2.2.2.2.2.2.2.2.2.2.2.2.2.2.2.2.1
theorem k0_dev122_lt : ∀ (v3 : BitVec 32) (k0_hw5 : k0_chk5 v3), (k0_dev122 v3) < nD := fun v3 k0_hw5 => k0_hw5.2.1.2.2.2.2.2.2.2.2.2.2.2.2.2.2.2.2.2.2.2.2.2.2.2.2.2.2.2.2.1
theorem k0_dev123_lt : ∀ (v3 : BitVec 32) (k0_hw5 : k0_chk5 v3), (k0_dev123 v3) < nD := fun v3 k0_hw5 => k0_hw5.2.1.2.2.2.2.2.2.2.2.2.2.2.2.2.2.2.2.2.2.2.2.2.2.2.2.2.2.2.2.2.1
theorem k0_dev124_lt : ∀ (v3 : BitVec 32) (k0_hw5 : k0_chk5 v3), (k0_dev124 v3) < nD := fun v3 k0_hw5 => k0_hw5.2.1.2.2.2.2.2.2.2.2.2.2.2.2.2.2.2.2.2.2.2.2.2.2.2.2.2.2.2.2.2.2.1
theorem k0_dev129_lt : ∀ (v3 : BitVec 32) (k0_hw5 : k0_chk5 v3), (k0_dev129 v3) < nD := fun v3 k0_hw5 => k0_hw5.2.1.2.2.2.2.2.2.2.2.2.2.2.2.2.2.2.2.2.2.2.2.2.2.2.2.2.2.2.2.2.2.2
theorem k0_dev130_lt : ∀ (v3 : BitVec 32) (k0_hw5 : k0_chk5 v3), (k0_dev130 v3) < nD := fun v3 k0_hw5 => k0_hw5.2.2.1.1
theorem k0_dev131_lt : ∀ (v3 : BitVec 32) (k0_hw5 : k0_chk5 v3), (k0_dev131 v3) < nD := fun v3 k0_hw5 => k0_hw5.2.2.1.2.1
theorem k0_dev132_lt : ∀ (v3 : BitVec 32) (k0_hw5 : k0_chk5 v3), (k0_dev132 v3) < nD := fun v3 k0_hw5 => k0_hw5.2.2.1.2.2.1
theorem k0_dev137_lt : ∀ (v3 : BitVec 32) (k0_hw5 : k0_chk5 v3), (k0_dev137 v3) < nD := fun v3 k0_hw5 => k0_hw5.2.2.1.2.2.2.1
theorem k0_dev138_lt : ∀ (v3 : BitVec 32) (k0_hw5 : k0_chk5 v3), (k0_dev138 v3) < nD := fun v3 k0_hw5 => k0_hw5.2.2.1.2.2.2.2.1
theorem k0_dev139_lt : ∀ (v3 : BitVec 32) (k0_hw5 : k0_chk5 v3), (k0_dev139 v3) < nD := fun v3 k0_hw5 => k0_hw5.2.2.1.2.2.2.2.2.1
theorem k0_dev140_lt : ∀ (v3 : BitVec 32) (k0_hw5 : k0_chk5 v3), (k0_dev140 v3) < nD := fun v3 k0_hw5 => k0_hw5.2.2.1.2.2.2.2.2.2.1
theorem k0_dev145_lt : ∀ (v3 : BitVec 32) (k0_hw5 : k0_chk5 v3), (k0_dev145 v3) < nD := fun v3 k0_hw5 => k0_hw5.2.2.1.2.2.2.2.2.2.2.1
theorem k0_dev146_lt : ∀ (v3 : BitVec 32) (k0_hw5 : k0_chk5 v3), (k0_dev146 v3) < nD := fun v3 k0_hw5 => k0_hw5.2.2.1.2.2.2.2.2.2.2.2.1
theorem k0_dev147_lt : ∀ (v3 : BitVec 32) (k0_hw5 : k0_chk5 v3), (k0_dev147 v3) < nD := fun v3 k0_hw5 => k0_hw5.2.2.1.2.2.2.2.2.2.2.2.2.1
theorem k0_dev148_lt : ∀ (v3 : BitVec 32) (k0_hw5 : k0_chk5 v3), (k0_dev148 v3) < nD := fun v3 k0_hw5 => k0_hw5.2.2.1.2.2.2.2.2.2.2.2.2.2.1
theorem k0_dev153_lt : ∀ (v3 : BitVec 32) (k0_hw5 : k0_chk5 v3), (k0_dev153 v3) < nD := fun v3 k0_hw5 => k0_hw5.2.2.1.2.2.2.2.2.2.2.2.2.2.2.1
theorem k0_dev154_lt : ∀ (v3 : BitVec 32) (k0_hw5 : k0_chk5 v3), (k0_dev154 v3) < nD := fun v3 k0_hw5 => k0_hw5.2.2.1.2.2.2.2.2.2.2.2.2.2.2.2.1
theorem k0_dev155_lt : ∀ (v3 : BitVec 32) (k0_hw5 : k0_chk5 v3), (k0_dev155 v3) < nD := fun v3 k0_hw5 => k0_hw5.2.2.1.2.2.2.2.2.2.2.2.2.2.2.2.2.1
theorem k0_dev156_lt : ∀ (v3 : BitVec 32) (k0_hw5 : k0_chk5 v3), (k0_dev156 v3) < nD := fun v3 k0_hw5 => k0_hw5.2.2.1.2.2.2.2.2.2.2.2.2.2.2.2.2.2.1
theorem k0_dev161_lt : ∀ (v3 : BitVec 32) (k0_hw5 : k0_chk5 v3), (k0_dev161 v3) < nD := fun v3 k0_hw5 => k0_hw5.2.2.1.2.2.2.2.2.2.2.2.2.2.2.2.2.2.2.1
theorem k0_dev162_lt : ∀ (v3 : BitVec 32) (k0_hw5 : k0_chk5 v3), (k0_dev162 v3) < nD := fun v3 k0_hw5 => k0_hw5.2.2.1.2.2.2.2.2.2.2.2.2.2.2.2.2.2.2.2.1
theorem k0_dev163_lt : ∀ (v3 : BitVec 32) (k0_hw5 : k0_chk5 v3), (k0_dev163 v3) < nD := fun v3 k0_hw5 => k0_hw5.2.2.1.2.2.2.2.2.2.2.2.2.2.2.2.2.2.2.2.2.1
theorem k0_dev164_lt : ∀ (v3 : BitVec 32) (k0_hw5 : k0_chk5 v3), (k0_dev164 v3) < nD := fun v3 k0_hw5 => k0_hw5.2.2.1.2.2.2.2.2.2.2.2.2.2.2.2.2.2.2.2.2.2.1
theorem k0_dev169_lt : ∀ (v3 : BitVec 32) (k0_hw5 : k0_chk5 v3), (k0_dev169 v3) < nD := fun v3 k0_hw5 => k0_hw5.2.2.1.2.2.2.2.2.2.2.2.2.2.2.2.2.2.2.2.2.2.2.1
theorem k0_dev170_lt : ∀ (v3 : BitVec 32) (k0_hw5 : k0_chk5 v3), (k0_dev170 v3) < nD := fun v3 k0_hw5 => k0_hw5.2.2.1.2.2.2.2.2.2.2.2.2.2.2.2.2.2.2.2.2.2.2.2.1
theorem k0_dev171_lt : ∀ (v3 : BitVec 32) (k0_hw5 : k0_chk5 v3), (k0_dev171 v3) < nD := fun v3 k0_hw5 => k0_hw5.2.2.1.2.2.2.2.2.2.2.2.2.2.2.2.2.2.2.2.2.2.2.2.2.1
theorem k0_dev172_lt : ∀ (v3 : BitVec 32) (k0_hw5 : k0_chk5 v3), (k0_dev172 v3) < nD := fun v3 k0_hw5 => k0_hw5.2.2.1.2.2.2.2.2.2.2.2.2.2.2.2.2.2.2.2.2.2.2.2.2.2.1
theorem k0_dev177_lt : ∀ (v3 : BitVec 32) (k0_hw5 : k0_chk5 v3), (k0_dev177 v3) < nD := fun v3 k0_hw5 => k0_hw5.2.2.1.2.2.2.2.2.2.2.2.2.2.2.2.2.2.2.2.2.2.2.2.2.2.2.1
theorem k0_dev178_lt : ∀ (v3 : BitVec 32) (k0_hw5 : k0_chk5 v3), (k0_dev178 v3) < nD := fun v3 k0_hw5 => k0_hw5.2.2.1.2.2.2.2.2.2.2.2.2.2.2.2.2.2.2.2.2.2.2.2.2.2.2.2.1
theorem k0_dev179_lt : ∀ (v3 : BitVec 32) (k0_hw5 : k0_chk5 v3), (k0_dev179 v3) < nD := fun v3 k0_hw5 => k0_hw5.2.2.1.2.2.2.2.2.2.2.2.2.2.2.2.2.2.2.2.2.2.2.2.2.2.2.2.2.1
theorem k0_dev180_lt : ∀ (v3 : BitVec 32) (k0_hw5 : k0_chk5 v3), (k0_dev180 v3) < nD := fun v3 k0_hw5 => k0_hw5.2.2.1.2.2.2.2.2.2.2.2.2.2.2.2.2.2.2.2.2.2.2.2.2.2.2.2.2.2.1
theorem k0_dev185_lt : ∀ (v3 : BitVec 32) (k0_hw5 : k0_chk5 v3), (k0_dev185 v3) < nD := fun v3 k0_hw5 => k0_hw5.2.2.1.2.2.2.2.2.2.2.2.2.2.2.2.2.2.2.2.2.2.2.2.2.2.2.2.2.2.2.1
theorem k0_dev186_lt : ∀ (v3 : BitVec 32) (k0_hw5 : k0_chk5 v3), (k0_dev186 v3) < nD := fun v3 k0_hw5 => k0_hw5.2.2.1.2.2.2.2.2.2.2.2.2.2.2.2.2.2.2.2.2.2.2.2.2.2.2.2.2.2.2.2.1
theorem k0_dev187_lt : ∀ (v3 : BitVec 32) (k0_hw5 : k0_chk5 v3), (k0_dev187 v3) < nD := fun v3 k0_hw5 => k0_hw5.2.2.1.2.2.2.2.2.2.2.2.2.2.2.2.2.2.2.2.2.2.2.2.2.2.2.2.2.2.2.2.2.1
theorem k0_dev188_lt : ∀ (v3 : BitVec 32) (k0_hw5 : k0_chk5 v3), (k0_dev188 v3) < nD := fun v3 k0_hw5 => k0_hw5.2.2.1.2.2.2.2.2.2.2.2.2.2.2.2.2.2.2.2.2.2.2.2.2.2.2.2.2.2.2.2.2.2.1
theorem k0_dev193_lt : ∀ (v3 : BitVec 32) (k0_hw5 : k0_chk5 v3), (k0_dev193 v3) < nD := fun v3 k0_hw5 => k0_hw5.2.2.1.2.2.2.2.2.2.2.2.2.2.2.2.2.2.2.2.2.2.2.2.2.2.2.2.2.2.2.2.2.2.2
theorem k0_dev194_lt : ∀ (v3 : BitVec 32) (k0_hw5 : k0_chk5 v3), (k0_dev194 v3) < nD := fun v3 k0_hw5 => k0_hw5.2.2.2.1
theorem k0_dev195_lt : ∀ (v3 : BitVec 32) (k0_hw5 : k0_chk5 v3), (k0_dev195 v3) < nD := fun v3 k0_hw5 => k0_hw5.2.2.2.2.1
theorem k0_dev196_lt : ∀ (v3 : BitVec 32) (k0_hw5 : k0_chk5 v3), (k0_dev196 v3) < nD := fun v3 k0_hw5 => k0_hw5.2.2.2.2.2.1
theorem k0_dev201_lt : ∀ (v3 : BitVec 32) (k0_hw5 : k0_chk5 v3), (k0_dev201 v3) < nD := fun v3 k0_hw5 => k0_hw5.2.2.2.2.2.2.1
theorem k0_dev202_lt : ∀ (v3 : BitVec 32) (k0_hw5 : k0_chk5 v3), (k0_dev202 v3) < nD := fun v3 k0_hw5 => k0_hw5.2.2.2.2.2.2.2.1
theorem k0_dev203_lt : ∀ (v3 : BitVec 32) (k0_hw5 : k0_chk5 v3), (k0_dev203 v3) < nD := fun v3 k0_hw5 => k0_hw5.2.2.2.2.2.2.2.2.1
theorem k0_dev204_lt : ∀ (v3 : BitVec 32) (k0_hw5 : k0_chk5 v3), (k0_dev204 v3) < nD := fun v3 k0_hw5 => k0_hw5.2.2.2.2.2.2.2.2.2.1
theorem k0_dev209_lt : ∀ (v3 : BitVec 32) (k0_hw5 : k0_chk5 v3), (k0_dev209 v3) < nD := fun v3 k0_hw5 => k0_hw5.2.2.2.2.2.2.2.2.2.2.1
theorem k0_dev210_lt : ∀ (v3 : BitVec 32) (k0_hw5 : k0_chk5 v3), (k0_dev210 v3) < nD := fun v3 k0_hw5 => k0_hw5.2.2.2.2.2.2.2.2.2.2.2.1
theorem k0_dev211_lt : ∀ (v3 : BitVec 32) (k0_hw5 : k0_chk5 v3), (k0_dev211 v3) < nD := fun v3 k0_hw5 => k0_hw5.2.2.2.2.2.2.2.2.2.2.2.2.1
theorem k0_dev212_lt : ∀ (v3 : BitVec 32) (k0_hw5 : k0_chk5 v3), (k0_dev212 v3) < nD := fun v3 k0_hw5 => k0_hw5.2.2.2.2.2.2.2.2.2.2.2.2.2.1
theorem k0_dev217_lt : ∀ (v3 : BitVec 32) (k0_hw5 : k0_chk5 v3), (k0_dev217 v3) < nD := fun v3 k0_hw5 => k0_hw5.2.2.2.2.2.2.2.2.2.2.2.2.2.2.1
theorem k0_dev218_lt : ∀ (v3 : BitVec 32) (k0_hw5 : k0_chk5 v3), (k0_dev218 v3) < nD := fun v3 k0_hw5 => k0_hw5.2.2.2.2.2.2.2.2.2.2.2.2.2.2.2.1
theorem k0_dev219_lt : ∀ (v3 : BitVec 32) (k0_hw5 : k0_chk5 v3), (k0_dev219 v3) < nD := fun v3 k0_hw5 => k0_hw5.2.2.2.2.2.2.2.2.2.2.2.2.2.2.2.2.1
theorem k0_dev220_lt : ∀ (v3 : BitVec 32) (k0_hw5 : k0_chk5 v3), (k0_dev220 v3) < nD := fun v3 k0_hw5 => k0_hw5.2.2.2.2.2.2.2.2.2.2.2.2.2.2.2.2.2.1
theorem k0_dev225_lt : ∀ (v3 : BitVec 32) (k0_hw5 : k0_chk5 v3), (k0_dev225 v3) < nD := fun v3 k0_hw5 => k0_hw5.2.2.2.2.2.2.2.2.2.2.2.2.2.2.2.2.2.2.1
theorem k0_dev226_lt : ∀ (v3 : BitVec 32) (k0_hw5 : k0_chk5 v3), (k0_dev226 v3) < nD := fun v3 k0_hw5 => k0_hw5.2.2.2.2.2.2.2.2.2.2.2.2.2.2.2.2.2.2.2.1
theorem k0_dev227_lt : ∀ (v3 : BitVec 32) (k0_hw5 : k0_chk5 v3), (k0_dev227 v3) < nD := fun v3 k0_hw5 => k0_hw5.2.2.2.2.2.2.2.2.2.2.2.2.2.2.2.2.2.2.2.2.1
theorem k0_dev228_lt : ∀ (v3 : BitVec 32) (k0_hw5 : k0_chk5 v3), (k0_dev228 v3) < nD := fun v3 k0_hw5 => k0_hw5.2.2.2.2.2.2.2.2.2.2.2.2.2.2.2.2.2.2.2.2.2.1
theorem k0_dev233_lt : ∀ (v3 : BitVec 32) (k0_hw5 : k0_chk5 v3), (k0_dev233 v3) < nD := fun v3 k0_hw5 => k0_hw5.2.2.2.2.2.2.2.2.2.2.2.2.2.2.2.2.2.2.2.2.2.2.1
theorem k0_dev234_lt : ∀ (v3 : BitVec 32) (k0_hw5 : k0_chk5 v3), (k0_dev234 v3) < nD := fun v3 k0_hw5 => k0_hw5.2.2.2.2.2.2.2.2.2.2.2.2.2.2.2.2.2.2.2.2.2.2.2.1
theorem k0_dev235_lt : ∀ (v3 : BitVec 32) (k0_hw5 : k0_chk5 v3), (k0_dev235 v3) < nD := fun v3 k0_hw5 => k0_hw5.2.2.2.2.2.2.2.2.2.2.2.2.2.2.2.2.2.2.2.2.2.2.2.2.1
theorem k0_dev236_lt : ∀ (v3 : BitVec 32) (k0_hw5 : k0_chk5 v3), (k0_dev236 v3) < nD := fun v3 k0_hw5 => k0_hw5.2.2.2.2.2.2.2.2.2.2.2.2.2.2.2.2.2.2.2.2.2.2.2.2.2.1
theorem k0_dev241_lt : ∀ (v3 : BitVec 32) (k0_hw5 : k0_chk5 v3), (k0_dev241 v3) < nD := fun v3 k0_hw5 => k0_hw5.2.2.2.2.2.2.2.2.2.2.2.2.2.2.2.2.2.2.2.2.2.2.2.2.2.2.1
theorem k0_dev242_lt : ∀ (v3 : BitVec 32) (k0_hw5 : k0_chk5 v3), (k0_dev242 v3) < nD := fun v3 k0_hw5 => k0_hw5.2.2.2.2.2.2.2.2.2.2.2.2.2.2.2.2.2.2.2.2.2.2.2.2.2.2.2.1
theorem k0_dev243_lt : ∀ (v3 : BitVec 32) (k0_hw5 : k0_chk5 v3), (k0_dev243 v3) < nD := fun v3 k0_hw5 => k0_hw5.2.2.2.2.2.2.2.2.2.2.2.2.2.2.2.2.2.2.2.2.2.2.2.2.2.2.2.2.1
theorem k0_dev244_lt : ∀ (v3 : BitVec 32) (k0_hw5 : k0_chk5 v3), (k0_dev244 v3) < nD := fun v3 k0_hw5 => k0_hw5.2.2.2.2.2.2.2.2.2.2.2.2.2.2.2.2.2.2.2.2.2.2.2.2.2.2.2.2.2

def k0_dev245 (v4 : BitVec 32) : Nat :=
  let c0_i32_7239 : BitVec 32 := 0#32
  let c1_i32_7238 : BitVec 32 := 1#32
  let v5474 : BitVec 32 := Scalar.muli v4 c1_i32_7238
  let v5475 : BitVec 32 := Scalar.addi c0_i32_7239 v5474
  v5475.toNat
def k0_dev246 (v4 : BitVec 32) : Nat :=
  let c0_i32_7253 : BitVec 32 := 0#32
  let c1_i32_7252 : BitVec 32 := 1#32
  let v5484 : BitVec 32 := Scalar.muli v4 c1_i32_7252
  let v5485 : BitVec 32 := Scalar.addi c0_i32_7253 v5484
  v5485.toNat

def k0_chk6_0 (v4 : BitVec 32) : Prop :=
  ((k0_dev2 v4) < nD) ∧
  ((k0_dev5 v4) < nD) ∧
  ((k0_dev6 v4) < nD) ∧
  ((k0_dev7 v4) < nD) ∧
  ((k0_dev8 v4) < nD) ∧
  ((k0_dev13 v4) < nD) ∧
  ((k0_dev14 v4) < nD) ∧
  ((k0_dev15 v4) < nD) ∧
  ((k0_dev16 v4) < nD) ∧
  ((k0_dev21 v4) < nD) ∧
  ((k0_dev22 v4) < nD) ∧
  ((k0_dev23 v4) < nD) ∧
  ((k0_dev24 v4) < nD) ∧
  ((k0_dev29 v4) < nD) ∧
  ((k0_dev30 v4) < nD) ∧
  ((k0_dev31 v4) < nD) ∧
  ((k0_dev32 v4) < nD) ∧
  ((k0_dev37 v4) < nD) ∧
  ((k0_dev38 v4) < nD) ∧
  ((k0_dev39 v4) < nD) ∧
  ((k0_dev40 v4) < nD) ∧
  ((k0_dev45 v4) < nD) ∧
  ((k0_dev46 v4) < nD) ∧
  ((k0_dev47 v4) < nD) ∧
  ((k0_dev48 v4) < nD) ∧
  ((k0_dev53 v4) < nD) ∧
  ((k0_dev54 v4) < nD) ∧
  ((k0_dev55 v4) < nD) ∧
  ((k0_dev56 v4) < nD) ∧
  ((k0_dev61 v4) < nD) ∧
  ((k0_dev62 v4) < nD) ∧
  ((k0_dev63 v4) < nD)
def k0_chk6_1 (v4 : BitVec 32) : Prop :=
  ((k0_dev64 v4) < nD) ∧
  ((k0_dev69 v4) < nD) ∧
  ((k0_dev70 v4) < nD) ∧
  ((k0_dev71 v4) < nD) ∧
  ((k0_dev72 v4) < nD) ∧
  ((k0_dev77 v4) < nD) ∧
  ((k0_dev78 v4) < nD) ∧
  ((k0_dev79 v4) < nD) ∧
  ((k0_dev80 v4) < nD) ∧
  ((k0_dev85 v4) < nD) ∧
  ((k0_dev86 v4) < nD) ∧
  ((k0_dev87 v4) < nD) ∧
  ((k0_dev88 v4) < nD) ∧
  ((k0_dev93 v4) < nD) ∧
  ((k0_dev94 v4) < nD) ∧
  ((k0_dev95 v4) < nD) ∧
  ((k0_dev96 v4) < nD) ∧
  ((k0_dev101 v4) < nD) ∧
  ((k0_dev102 v4) < nD) ∧
  ((k0_dev103 v4) < nD) ∧
  ((k0_dev104 v4) < nD) ∧
  ((k0_dev109 v4) < nD) ∧
  ((k0_dev110 v4) < nD) ∧
  ((k0_dev111 v4) < nD) ∧
  ((k0_dev112 v4) < nD) ∧
  ((k0_dev117 v4) < nD) ∧
  ((k0_dev118 v4) < nD) ∧
  ((k0_dev119 v4) < nD) ∧
  ((k0_dev120 v4) < nD) ∧
  ((k0_dev125 v4) < nD) ∧
  ((k0_dev126 v4) < nD) ∧
  ((k0_dev127 v4) < nD)
def k0_chk6_2 (v4 : BitVec 32) : Prop :=
  ((k0_dev128 v4) < nD) ∧
  ((k0_dev133 v4) < nD) ∧
  ((k0_dev134 v4) < nD) ∧
  ((k0_dev135 v4) < nD) ∧
  ((k0_dev136 v4) < nD) ∧
  ((k0_dev141 v4) < nD) ∧
  ((k0_dev142 v4) < nD) ∧
  ((k0_dev143 v4) < nD) ∧
  ((k0_dev144 v4) < nD) ∧
  ((k0_dev149 v4) < nD) ∧
  ((k0_dev150 v4) < nD) ∧
  ((k0_dev151 v4) < nD) ∧
  ((k0_dev152 v4) < nD) ∧
  ((k0_dev157 v4) < nD) ∧
  ((k0_dev158 v4) < nD) ∧
  ((k0_dev159 v4) < nD) ∧
  ((k0_dev160 v4) < nD) ∧
  ((k0_dev165 v4) < nD) ∧
  ((k0_dev166 v4) < nD) ∧
  ((k0_dev167 v4) < nD) ∧
  ((k0_dev168 v4) < nD) ∧
  ((k0_dev173 v4) < nD) ∧
  ((k0_dev174 v4) < nD) ∧
  ((k0_dev175 v4) < nD) ∧
  ((k0_dev176 v4) < nD) ∧
  ((k0_dev181 v4) < nD) ∧
  ((k0_dev182 v4) < nD) ∧
  ((k0_dev183 v4) < nD) ∧
  ((k0_dev184 v4) < nD) ∧
  ((k0_dev189 v4) < nD) ∧
  ((k0_dev190 v4) < nD) ∧
  ((k0_dev191 v4) < nD)
def k0_chk6_3 (v4 : BitVec 32) : Prop :=
  ((k0_dev192 v4) < nD) ∧
  ((k0_dev197 v4) < nD) ∧
  ((k0_dev198 v4) < nD) ∧
  ((k0_dev199 v4) < nD) ∧
  ((k0_dev200 v4) < nD) ∧
  ((k0_dev205 v4) < nD) ∧
  ((k0_dev206 v4) < nD) ∧
  ((k0_dev207 v4) < nD) ∧
  ((k0_dev208 v4) < nD) ∧
  ((k0_dev213 v4) < nD) ∧
  ((k0_dev214 v4) < nD) ∧
  ((k0_dev215 v4) < nD) ∧
  ((k0_dev216 v4) < nD) ∧
  ((k0_dev221 v4) < nD) ∧
  ((k0_dev222 v4) < nD) ∧
  ((k0_dev223 v4) < nD) ∧
  ((k0_dev224 v4) < nD) ∧
  ((k0_dev229 v4) < nD) ∧
  ((k0_dev230 v4) < nD) ∧
  ((k0_dev231 v4) < nD) ∧
  ((k0_dev232 v4) < nD) ∧
  ((k0_dev237 v4) < nD) ∧
  ((k0_dev238 v4) < nD) ∧
  ((k0_dev239 v4) < nD) ∧
  ((k0_dev240 v4) < nD) ∧
  ((k0_dev245 v4) < nD) ∧
  ((k0_dev246 v4) < nD)
def k0_chk6 (v4 : BitVec 32) : Prop :=
  k0_chk6_0 v4 ∧
  k0_chk6_1 v4 ∧
  k0_chk6_2 v4 ∧
  k0_chk6_3 v4
theorem k0_dev2_lt : ∀ (v4 : BitVec 32) (k0_hw6 : k0_chk6 v4), (k0_dev2 v4) < nD := fun v4 k0_hw6 => k0_hw6.1.1
theorem k0_dev5_lt : ∀ (v4 : BitVec 32) (k0_hw6 : k0_chk6 v4), (k0_dev5 v4) < nD := fun v4 k0_hw6 => k0_hw6.1.2.1
theorem k0_dev6_lt : ∀ (v4 : BitVec 32) (k0_hw6 : k0_chk6 v4), (k0_dev6 v4) < nD := fun v4 k0_hw6 => k0_hw6.1.2.2.1
theorem k0_dev7_lt : ∀ (v4 : BitVec 32) (k0_hw6 : k0_chk6 v4), (k0_dev7 v4) < nD := fun v4 k0_hw6 => k0_hw6.1.2.2.2.1
theorem k0_dev8_lt : ∀ (v4 : BitVec 32) (k0_hw6 : k0_chk6 v4), (k0_dev8 v4) < nD := fun v4 k0_hw6 => k0_hw6.1.2.2.2.2.1
theorem k0_dev13_lt : ∀ (v4 : BitVec 32) (k0_hw6 : k0_chk6 v4), (k0_dev13 v4) < nD := fun v4 k0_hw6 => k0_hw6.1.2.2.2.2.2.1
theorem k0_dev14_lt : ∀ (v4 : BitVec 32) (k0_hw6 : k0_chk6 v4), (k0_dev14 v4) < nD := fun v4 k0_hw6 => k0_hw6.1.2.2.2.2.2.2.1
theorem k0_dev15_lt : ∀ (v4 : BitVec 32) (k0_hw6 : k0_chk6 v4), (k0_dev15 v4) < nD := fun v4 k0_hw6 => k0_hw6.1.2.2.2.2.2.2.2.1
theorem k0_dev16_lt : ∀ (v4 : BitVec 32) (k0_hw6 : k0_chk6 v4), (k0_dev16 v4) < nD := fun v4 k0_hw6 => k0_hw6.1.2.2.2.2.2.2.2.2.1
theorem k0_dev21_lt : ∀ (v4 : BitVec 32) (k0_hw6 : k0_chk6 v4), (k0_dev21 v4) < nD := fun v4 k0_hw6 => k0_hw6.1.2.2.2.2.2.2.2.2.2.1
theorem k0_dev22_lt : ∀ (v4 : BitVec 32) (k0_hw6 : k0_chk6 v4), (k0_dev22 v4) < nD := fun v4 k0_hw6 => k0_hw6.1.2.2.2.2.2.2.2.2.2.2.1
theorem k0_dev23_lt : ∀ (v4 : BitVec 32) (k0_hw6 : k0_chk6 v4), (k0_dev23 v4) < nD := fun v4 k0_hw6 => k0_hw6.1.2.2.2.2.2.2.2.2.2.2.2.1
theorem k0_dev24_lt : ∀ (v4 : BitVec 32) (k0_hw6 : k0_chk6 v4), (k0_dev24 v4) < nD := fun v4 k0_hw6 => k0_hw6.1.2.2.2.2.2.2.2.2.2.2.2.2.1
theorem k0_dev29_lt : ∀ (v4 : BitVec 32) (k0_hw6 : k0_chk6 v4), (k0_dev29 v4) < nD := fun v4 k0_hw6 => k0_hw6.1.2.2.2.2.2.2.2.2.2.2.2.2.2.1
theorem k0_dev30_lt : ∀ (v4 : BitVec 32) (k0_hw6 : k0_chk6 v4), (k0_dev30 v4) < nD := fun v4 k0_hw6 => k0_hw6.1.2.2.2.2.2.2.2.2.2.2.2.2.2.2.1
theorem k0_dev31_lt : ∀ (v4 : BitVec 32) (k0_hw6 : k0_chk6 v4), (k0_dev31 v4) < nD := fun v4 k0_hw6 => k0_hw6.1.2.2.2.2.2.2.2.2.2.2.2.2.2.2.2.1
theorem k0_dev32_lt : ∀ (v4 : BitVec 32) (k0_hw6 : k0_chk6 v4), (k0_dev32 v4) < nD := fun v4 k0_hw6 => k0_hw6.1.2.2.2.2.2.2.2.2.2.2.2.2.2.2.2.2.1
theorem k0_dev37_lt : ∀ (v4 : BitVec 32) (k0_hw6 : k0_chk6 v4), (k0_dev37 v4) < nD := fun v4 k0_hw6 => k0_hw6.1.2.2.2.2.2.2.2.2.2.2.2.2.2.2.2.2.2.1
theorem k0_dev38_lt : ∀ (v4 : BitVec 32) (k0_hw6 : k0_chk6 v4), (k0_dev38 v4) < nD := fun v4 k0_hw6 => k0_hw6.1.2.2.2.2.2.2.2.2.2.2.2.2.2.2.2.2.2.2.1
theorem k0_dev39_lt : ∀ (v4 : BitVec 32) (k0_hw6 : k0_chk6 v4), (k0_dev39 v4) < nD := fun v4 k0_hw6 => k0_hw6.1.2.2.2.2.2.2.2.2.2.2.2.2.2.2.2.2.2.2.2.1
theorem k0_dev40_lt : ∀ (v4 : BitVec 32) (k0_hw6 : k0_chk6 v4), (k0_dev40 v4) < nD := fun v4 k0_hw6 => k0_hw6.1.2.2.2.2.2.2.2.2.2.2.2.2.2.2.2.2.2.2.2.2.1
theorem k0_dev45_lt : ∀ (v4 : BitVec 32) (k0_hw6 : k0_chk6 v4), (k0_dev45 v4) < nD := fun v4 k0_hw6 => k0_hw6.1.2.2.2.2.2.2.2.2.2.2.2.2.2.2.2.2.2.2.2.2.2.1
theorem k0_dev46_lt : ∀ (v4 : BitVec 32) (k0_hw6 : k0_chk6 v4), (k0_dev46 v4) < nD := fun v4 k0_hw6 => k0_hw6.1.2.2.2.2.2.2.2.2.2.2.2.2.2.2.2.2.2.2.2.2.2.2.1
theorem k0_dev47_lt : ∀ (v4 : BitVec 32) (k0_hw6 : k0_chk6 v4), (k0_dev47 v4) < nD := fun v4 k0_hw6 => k0_hw6.1.2.2.2.2.2.2.2.2.2.2.2.2.2.2.2.2.2.2.2.2.2.2.2.1
theorem k0_dev48_lt : ∀ (v4 : BitVec 32) (k0_hw6 : k0_chk6 v4), (k0_dev48 v4) < nD := fun v4 k0_hw6 => k0_hw6.1.2.2.2.2.2.2.2.2.2.2.2.2.2.2.2.2.2.2.2.2.2.2.2.2.1
theorem k0_dev53_lt : ∀ (v4 : BitVec 32) (k0_hw6 : k0_chk6 v4), (k0_dev53 v4) < nD := fun v4 k0_hw6 => k0_hw6.1.2.2.2.2.2.2.2.2.2.2.2.2.2.2.2.2.2.2.2.2.2.2.2.2.2.1
theorem k0_dev54_lt : ∀ (v4 : BitVec 32) (k0_hw6 : k0_chk6 v4), (k0_dev54 v4) < nD := fun v4 k0_hw6 => k0_hw6.1.2.2.2.2.2.2.2.2.2.2.2.2.2.2.2.2.2.2.2.2.2.2.2.2.2.2.1
theorem k0_dev55_lt : ∀ (v4 : BitVec 32) (k0_hw6 : k0_chk6 v4), (k0_dev55 v4) < nD := fun v4 k0_hw6 => k0_hw6.1.2.2.2.2.2.2.2.2.2.2.2.2.2.2.2.2.2.2.2.2.2.2.2.2.2.2.2.1
theorem k0_dev56_lt : ∀ (v4 : BitVec 32) (k0_hw6 : k0_chk6 v4), (k0_dev56 v4) < nD := fun v4 k0_hw6 => k0_hw6.1.2.2.2.2.2.2.2.2.2.2.2.2.2.2.2.2.2.2.2.2.2.2.2.2.2.2.2.2.1
theorem k0_dev61_lt : ∀ (v4 : BitVec 32) (k0_hw6 : k0_chk6 v4), (k0_dev61 v4) < nD := fun v4 k0_hw6 => k0_hw6.1.2.2.2.2.2.2.2.2.2.2.2.2.2.2.2.2.2.2.2.2.2.2.2.2.2.2.2.2.2.1
theorem k0_dev62_lt : ∀ (v4 : BitVec 32) (k0_hw6 : k0_chk6 v4), (k0_dev62 v4) < nD := fun v4 k0_hw6 => k0_hw6.1.2.2.2.2.2.2.2.2.2.2.2.2.2.2.2.2.2.2.2.2.2.2.2.2.2.2.2.2.2.2.1
theorem k0_dev63_lt : ∀ (v4 : BitVec 32) (k0_hw6 : k0_chk6 v4), (k0_dev63 v4) < nD := fun v4 k0_hw6 => k0_hw6.1.2.2.2.2.2.2.2.2.2.2.2.2.2.2.2.2.2.2.2.2.2.2.2.2.2.2.2.2.2.2.2
theorem k0_dev64_lt : ∀ (v4 : BitVec 32) (k0_hw6 : k0_chk6 v4), (k0_dev64 v4) < nD := fun v4 k0_hw6 => k0_hw6.2.1.1
theorem k0_dev69_lt : ∀ (v4 : BitVec 32) (k0_hw6 : k0_chk6 v4), (k0_dev69 v4) < nD := fun v4 k0_hw6 => k0_hw6.2.1.2.1
theorem k0_dev70_lt : ∀ (v4 : BitVec 32) (k0_hw6 : k0_chk6 v4), (k0_dev70 v4) < nD := fun v4 k0_hw6 => k0_hw6.2.1.2.2.1
theorem k0_dev71_lt : ∀ (v4 : BitVec 32) (k0_hw6 : k0_chk6 v4), (k0_dev71 v4) < nD := fun v4 k0_hw6 => k0_hw6.2.1.2.2.2.1
theorem k0_dev72_lt : ∀ (v4 : BitVec 32) (k0_hw6 : k0_chk6 v4), (k0_dev72 v4) < nD := fun v4 k0_hw6 => k0_hw6.2.1.2.2.2.2.1
theorem k0_dev77_lt : ∀ (v4 : BitVec 32) (k0_hw6 : k0_chk6 v4), (k0_dev77 v4) < nD := fun v4 k0_hw6 => k0_hw6.2.1.2.2.2.2.2.1
theorem k0_dev78_lt : ∀ (v4 : BitVec 32) (k0_hw6 : k0_chk6 v4), (k0_dev78 v4) < nD := fun v4 k0_hw6 => k0_hw6.2.1.2.2.2.2.2.2.1
theorem k0_dev79_lt : ∀ (v4 : BitVec 32) (k0_hw6 : k0_chk6 v4), (k0_dev79 v4) < nD := fun v4 k0_hw6 => k0_hw6.2.1.2.2.2.2.2.2.2.1
theorem k0_dev80_lt : ∀ (v4 : BitVec 32) (k0_hw6 : k0_chk6 v4), (k0_dev80 v4) < nD := fun v4 k0_hw6 => k0_hw6.2.1.2.2.2.2.2.2.2.2.1
theorem k0_dev85_lt : ∀ (v4 : BitVec 32) (k0_hw6 : k0_chk6 v4), (k0_dev85 v4) < nD := fun v4 k0_hw6 => k0_hw6.2.1.2.2.2.2.2.2.2.2.2.1
theorem k0_dev86_lt : ∀ (v4 : BitVec 32) (k0_hw6 : k0_chk6 v4), (k0_dev86 v4) < nD := fun v4 k0_hw6 => k0_hw6.2.1.2.2.2.2.2.2.2.2.2.2.1
theorem k0_dev87_lt : ∀ (v4 : BitVec 32) (k0_hw6 : k0_chk6 v4), (k0_dev87 v4) < nD := fun v4 k0_hw6 => k0_hw6.2.1.2.2.2.2.2.2.2.2.2.2.2.1
theorem k0_dev88_lt : ∀ (v4 : BitVec 32) (k0_hw6 : k0_chk6 v4), (k0_dev88 v4) < nD := fun v4 k0_hw6 => k0_hw6.2.1.2.2.2.2.2.2.2.2.2.2.2.2.1
theorem k0_dev93_lt : ∀ (v4 : BitVec 32) (k0_hw6 : k0_chk6 v4), (k0_dev93 v4) < nD := fun v4 k0_hw6 => k0_hw6.2.1.2.2.2.2.2.2.2.2.2.2.2.2.2.1
theorem k0_dev94_lt : ∀ (v4 : BitVec 32) (k0_hw6 : k0_chk6 v4), (k0_dev94 v4) < nD := fun v4 k0_hw6 => k0_hw6.2.1.2.2.2.2.2.2.2.2.2.2.2.2.2.2.1
theorem k0_dev95_lt : ∀ (v4 : BitVec 32) (k0_hw6 : k0_chk6 v4), (k0_dev95 v4) < nD := fun v4 k0_hw6 => k0_hw6.2.1.2.2.2.2.2.2.2.2.2.2.2.2.2.2.2.1
theorem k0_dev96_lt : ∀ (v4 : BitVec 32) (k0_hw6 : k0_chk6 v4), (k0_dev96 v4) < nD := fun v4 k0_hw6 => k0_hw6.2.1.2.2.2.2.2.2.2.2.2.2.2.2.2.2.2.2.1
theorem k0_dev101_lt : ∀ (v4 : BitVec 32) (k0_hw6 : k0_chk6 v4), (k0_dev101 v4) < nD := fun v4 k0_hw6 => k0_hw6.2.1.2.2.2.2.2.2.2.2.2.2.2.2.2.2.2.2.2.1
theorem k0_dev102_lt : ∀ (v4 : BitVec 32) (k0_hw6 : k0_chk6 v4), (k0_dev102 v4) < nD := fun v4 k0_hw6 => k0_hw6.2.1.2.2.2.2.2.2.2.2.2.2.2.2.2.2.2.2.2.2.1
theorem k0_dev103_lt : ∀ (v4 : BitVec 32) (k0_hw6 : k0_chk6 v4), (k0_dev103 v4) < nD := fun v4 k0_hw6 => k0_hw6.2.1.2.2.2.2.2.2.2.2.2.2.2.2.2.2.2.2.2.2.2.1
theorem k0_dev104_lt : ∀ (v4 : BitVec 32) (k0_hw6 : k0_chk6 v4), (k0_dev104 v4) < nD := fun v4 k0_hw6 => k0_hw6.2.1.2.2.2.2.2.2.2.2.2.2.2.2.2.2.2.2.2.2.2.2.1
theorem k0_dev109_lt : ∀ (v4 : BitVec 32) (k0_hw6 : k0_chk6 v4), (k0_dev109 v4) < nD := fun v4 k0_hw6 => k0_hw6.2.1.2.2.2.2.2.2.2.2.2.2.2.2.2.2.2.2.2.2.2.2.2.1
theorem k0_dev110_lt : ∀ (v4 : BitVec 32) (k0_hw6 : k0_chk6 v4), (k0_dev110 v4) < nD := fun v4 k0_hw6 => k0_hw6.2.1.2.2.2.2.2.2.2.2.2.2.2.2.2.2.2.2.2.2.2.2.2.2.1
theorem k0_dev111_lt : ∀ (v4 : BitVec 32) (k0_hw6 : k0_chk6 v4), (k0_dev111 v4) < nD := fun v4 k0_hw6 => k0_hw6.2.1.2.2.2.2.2.2.2.2.2.2.2.2.2.2.2.2.2.2.2.2.2.2.2.1
theorem k0_dev112_lt : ∀ (v4 : BitVec 32) (k0_hw6 : k0_chk6 v4), (k0_dev112 v4) < nD := fun v4 k0_hw6 => k0_hw6.2.1.2.2.2.2.2.2.2.2.2.2.2.2.2.2.2.2.2.2.2.2.2.2.2.2.1
theorem k0_dev117_lt : ∀ (v4 : BitVec 32) (k0_hw6 : k0_chk6 v4), (k0_dev117 v4) < nD := fun v4 k0_hw6 => k0_hw6.2.1.2.2.2.2.2.2.2.2.2.2.2.2.2.2.2.2.2.2.2.2.2.2.2.2.2.1
theorem k0_dev118_lt : ∀ (v4 : BitVec 32) (k0_hw6 : k0_chk6 v4), (k0_dev118 v4) < nD := fun v4 k0_hw6 => k0_hw6.2.1.2.2.2.2.2.2.2.2.2.2.2.2.2.2.2.2.2.2.2.2.2.2.2.2.2.2.1
theorem k0_dev119_lt : ∀ (v4 : BitVec 32) (k0_hw6 : k0_chk6 v4), (k0_dev119 v4) < nD := fun v4 k0_hw6 => k0_hw6.2.1.2.2.2.2.2.2.2.2.2.2.2.2.2.2.2.2.2.2.2.2.2.2.2.2.2.2.2.1
theorem k0_dev120_lt : ∀ (v4 : BitVec 32) (k0_hw6 : k0_chk6 v4), (k0_dev120 v4) < nD := fun v4 k0_hw6 => k0_hw6.2.1.2.2.2.2.2.2.2.2.2.2.2.2.2.2.2.2.2.2.2.2.2.2.2.2.2.2.2.2.1
theorem k0_dev125_lt : ∀ (v4 : BitVec 32) (k0_hw6 : k0_chk6 v4), (k0_dev125 v4) < nD := fun v4 k0_hw6 => k0_hw6.2.1.2.2.2.2.2.2.2.2.2.2.2.2.2.2.2.2.2.2.2.2.2.2.2.2.2.2.2.2.2.1
theorem k0_dev126_lt : ∀ (v4 : BitVec 32) (k0_hw6 : k0_chk6 v4), (k0_dev126 v4) < nD := fun v4 k0_hw6 => k0_hw6.2.1.2.2.2.2.2.2.2.2.2.2.2.2.2.2.2.2.2.2.2.2.2.2.2.2.2.2.2.2.2.2.1
theorem k0_dev127_lt : ∀ (v4 : BitVec 32) (k0_hw6 : k0_chk6 v4), (k0_dev127 v4) < nD := fun v4 k0_hw6 => k0_hw6.2.1.2.2.2.2.2.2.2.2.2.2.2.2.2.2.2.2.2.2.2.2.2.2.2.2.2.2.2.2.2.2.2
theorem k0_dev128_lt : ∀ (v4 : BitVec 32) (k0_hw6 : k0_chk6 v4), (k0_dev128 v4) < nD := fun v4 k0_hw6 => k0_hw6.2.2.1.1
theorem k0_dev133_lt : ∀ (v4 : BitVec 32) (k0_hw6 : k0_chk6 v4), (k0_dev133 v4) < nD := fun v4 k0_hw6 => k0_hw6.2.2.1.2.1
theorem k0_dev134_lt : ∀ (v4 : BitVec 32) (k0_hw6 : k0_chk6 v4), (k0_dev134 v4) < nD := fun v4 k0_hw6 => k0_hw6.2.2.1.2.2.1
theorem k0_dev135_lt : ∀ (v4 : BitVec 32) (k0_hw6 : k0_chk6 v4), (k0_dev135 v4) < nD := fun v4 k0_hw6 => k0_hw6.2.2.1.2.2.2.1
theorem k0_dev136_lt : ∀ (v4 : BitVec 32) (k0_hw6 : k0_chk6 v4), (k0_dev136 v4) < nD := fun v4 k0_hw6 => k0_hw6.2.2.1.2.2.2.2.1
theorem k0_dev141_lt : ∀ (v4 : BitVec 32) (k0_hw6 : k0_chk6 v4), (k0_dev141 v4) < nD := fun v4 k0_hw6 => k0_hw6.2.2.1.2.2.2.2.2.1
theorem k0_dev142_lt : ∀ (v4 : BitVec 32) (k0_hw6 : k0_chk6 v4), (k0_dev142 v4) < nD := fun v4 k0_hw6 => k0_hw6.2.2.1.2.2.2.2.2.2.1
theorem k0_dev143_lt : ∀ (v4 : BitVec 32) (k0_hw6 : k0_chk6 v4), (k0_dev143 v4) < nD := fun v4 k0_hw6 => k0_hw6.2.2.1.2.2.2.2.2.2.2.1
theorem k0_dev144_lt : ∀ (v4 : BitVec 32) (k0_hw6 : k0_chk6 v4), (k0_dev144 v4) < nD := fun v4 k0_hw6 => k0_hw6.2.2.1.2.2.2.2.2.2.2.2.1
theorem k0_dev149_lt : ∀ (v4 : BitVec 32) (k0_hw6 : k0_chk6 v4), (k0_dev149 v4) < nD := fun v4 k0_hw6 => k0_hw6.2.2.1.2.2.2.2.2.2.2.2.2.1
theorem k0_dev150_lt : ∀ (v4 : BitVec 32) (k0_hw6 : k0_chk6 v4), (k0_dev150 v4) < nD := fun v4 k0_hw6 => k0_hw6.2.2.1.2.2.2.2.2.2.2.2.2.2.1
theorem k0_dev151_lt : ∀ (v4 : BitVec 32) (k0_hw6 : k0_chk6 v4), (k0_dev151 v4) < nD := fun v4 k0_hw6 => k0_hw6.2.2.1.2.2.2.2.2.2.2.2.2.2.2.1
theorem k0_dev152_lt : ∀ (v4 : BitVec 32) (k0_hw6 : k0_chk6 v4), (k0_dev152 v4) < nD := fun v4 k0_hw6 => k0_hw6.2.2.1.2.2.2.2.2.2.2.2.2.2.2.2.1
theorem k0_dev157_lt : ∀ (v4 : BitVec 32) (k0_hw6 : k0_chk6 v4), (k0_dev157 v4) < nD := fun v4 k0_hw6 => k0_hw6.2.2.1.2.2.2.2.2.2.2.2.2.2.2.2.2.1
theorem k0_dev158_lt : ∀ (v4 : BitVec 32) (k0_hw6 : k0_chk6 v4), (k0_dev158 v4) < nD := fun v4 k0_hw6 => k0_hw6.2.2.1.2.2.2.2.2.2.2.2.2.2.2.2.2.2.1
theorem k0_dev159_lt : ∀ (v4 : BitVec 32) (k0_hw6 : k0_chk6 v4), (k0_dev159 v4) < nD := fun v4 k0_hw6 => k0_hw6.2.2.1.2.2.2.2.2.2.2.2.2.2.2.2.2.2.2.1
theorem k0_dev160_lt : ∀ (v4 : BitVec 32) (k0_hw6 : k0_chk6 v4), (k0_dev160 v4) < nD := fun v4 k0_hw6 => k0_hw6.2.2.1.2.2.2.2.2.2.2.2.2.2.2.2.2.2.2.2.1
theorem k0_dev165_lt : ∀ (v4 : BitVec 32) (k0_hw6 : k0_chk6 v4), (k0_dev165 v4) < nD := fun v4 k0_hw6 => k0_hw6.2.2.1.2.2.2.2.2.2.2.2.2.2.2.2.2.2.2.2.2.1
theorem k0_dev166_lt : ∀ (v4 : BitVec 32) (k0_hw6 : k0_chk6 v4), (k0_dev166 v4) < nD := fun v4 k0_hw6 => k0_hw6.2.2.1.2.2.2.2.2.2.2.2.2.2.2.2.2.2.2.2.2.2.1
theorem k0_dev167_lt : ∀ (v4 : BitVec 32) (k0_hw6 : k0_chk6 v4), (k0_dev167 v4) < nD := fun v4 k0_hw6 => k0_hw6.2.2.1.2.2.2.2.2.2.2.2.2.2.2.2.2.2.2.2.2.2.2.1
theorem k0_dev168_lt : ∀ (v4 : BitVec 32) (k0_hw6 : k0_chk6 v4), (k0_dev168 v4) < nD := fun v4 k0_hw6 => k0_hw6.2.2.1.2.2.2.2.2.2.2.2.2.2.2.2.2.2.2.2.2.2.2.2.1
theorem k0_dev173_lt : ∀ (v4 : BitVec 32) (k0_hw6 : k0_chk6 v4), (k0_dev173 v4) < nD := fun v4 k0_hw6 => k0_hw6.2.2.1.2.2.2.2.2.2.2.2.2.2.2.2.2.2.2.2.2.2.2.2.2.1
theorem k0_dev174_lt : ∀ (v4 : BitVec 32) (k0_hw6 : k0_chk6 v4), (k0_dev174 v4) < nD := fun v4 k0_hw6 => k0_hw6.2.2.1.2.2.2.2.2.2.2.2.2.2.2.2.2.2.2.2.2.2.2.2.2.2.1
theorem k0_dev175_lt : ∀ (v4 : BitVec 32) (k0_hw6 : k0_chk6 v4), (k0_dev175 v4) < nD := fun v4 k0_hw6 => k0_hw6.2.2.1.2.2.2.2.2.2.2.2.2.2.2.2.2.2.2.2.2.2.2.2.2.2.2.1
theorem k0_dev176_lt : ∀ (v4 : BitVec 32) (k0_hw6 : k0_chk6 v4), (k0_dev176 v4) < nD := fun v4 k0_hw6 => k0_hw6.2.2.1.2.2.2.2.2.2.2.2.2.2.2.2.2.2.2.2.2.2.2.2.2.2.2.2.1
theorem k0_dev181_lt : ∀ (v4 : BitVec 32) (k0_hw6 : k0_chk6 v4), (k0_dev181 v4) < nD := fun v4 k0_hw6 => k0_hw6.2.2.1.2.2.2.2.2.2.2.2.2.2.2.2.2.2.2.2.2.2.2.2.2.2.2.2.2.1
theorem k0_dev182_lt : ∀ (v4 : BitVec 32) (k0_hw6 : k0_chk6 v4), (k0_dev182 v4) < nD := fun v4 k0_hw6 => k0_hw6.2.2.1.2.2.2.2.2.2.2.2.2.2.2.2.2.2.2.2.2.2.2.2.2.2.2.2.2.2.1
theorem k0_dev183_lt : ∀ (v4 : BitVec 32) (k0_hw6 : k0_chk6 v4), (k0_dev183 v4) < nD := fun v4 k0_hw6 => k0_hw6.2.2.1.2.2.2.2.2.2.2.2.2.2.2.2.2.2.2.2.2.2.2.2.2.2.2.2.2.2.2.1
theorem k0_dev184_lt : ∀ (v4 : BitVec 32) (k0_hw6 : k0_chk6 v4), (k0_dev184 v4) < nD := fun v4 k0_hw6 => k0_hw6.2.2.1.2.2.2.2.2.2.2.2.2.2.2.2.2.2.2.2.2.2.2.2.2.2.2.2.2.2.2.2.1
theorem k0_dev189_lt : ∀ (v4 : BitVec 32) (k0_hw6 : k0_chk6 v4), (k0_dev189 v4) < nD := fun v4 k0_hw6 => k0_hw6.2.2.1.2.2.2.2.2.2.2.2.2.2.2.2.2.2.2.2.2.2.2.2.2.2.2.2.2.2.2.2.2.1
theorem k0_dev190_lt : ∀ (v4 : BitVec 32) (k0_hw6 : k0_chk6 v4), (k0_dev190 v4) < nD := fun v4 k0_hw6 => k0_hw6.2.2.1.2.2.2.2.2.2.2.2.2.2.2.2.2.2.2.2.2.2.2.2.2.2.2.2.2.2.2.2.2.2.1
theorem k0_dev191_lt : ∀ (v4 : BitVec 32) (k0_hw6 : k0_chk6 v4), (k0_dev191 v4) < nD := fun v4 k0_hw6 => k0_hw6.2.2.1.2.2.2.2.2.2.2.2.2.2.2.2.2.2.2.2.2.2.2.2.2.2.2.2.2.2.2.2.2.2.2
theorem k0_dev192_lt : ∀ (v4 : BitVec 32) (k0_hw6 : k0_chk6 v4), (k0_dev192 v4) < nD := fun v4 k0_hw6 => k0_hw6.2.2.2.1
theorem k0_dev197_lt : ∀ (v4 : BitVec 32) (k0_hw6 : k0_chk6 v4), (k0_dev197 v4) < nD := fun v4 k0_hw6 => k0_hw6.2.2.2.2.1
theorem k0_dev198_lt : ∀ (v4 : BitVec 32) (k0_hw6 : k0_chk6 v4), (k0_dev198 v4) < nD := fun v4 k0_hw6 => k0_hw6.2.2.2.2.2.1
theorem k0_dev199_lt : ∀ (v4 : BitVec 32) (k0_hw6 : k0_chk6 v4), (k0_dev199 v4) < nD := fun v4 k0_hw6 => k0_hw6.2.2.2.2.2.2.1
theorem k0_dev200_lt : ∀ (v4 : BitVec 32) (k0_hw6 : k0_chk6 v4), (k0_dev200 v4) < nD := fun v4 k0_hw6 => k0_hw6.2.2.2.2.2.2.2.1
theorem k0_dev205_lt : ∀ (v4 : BitVec 32) (k0_hw6 : k0_chk6 v4), (k0_dev205 v4) < nD := fun v4 k0_hw6 => k0_hw6.2.2.2.2.2.2.2.2.1
theorem k0_dev206_lt : ∀ (v4 : BitVec 32) (k0_hw6 : k0_chk6 v4), (k0_dev206 v4) < nD := fun v4 k0_hw6 => k0_hw6.2.2.2.2.2.2.2.2.2.1
theorem k0_dev207_lt : ∀ (v4 : BitVec 32) (k0_hw6 : k0_chk6 v4), (k0_dev207 v4) < nD := fun v4 k0_hw6 => k0_hw6.2.2.2.2.2.2.2.2.2.2.1
theorem k0_dev208_lt : ∀ (v4 : BitVec 32) (k0_hw6 : k0_chk6 v4), (k0_dev208 v4) < nD := fun v4 k0_hw6 => k0_hw6.2.2.2.2.2.2.2.2.2.2.2.1
theorem k0_dev213_lt : ∀ (v4 : BitVec 32) (k0_hw6 : k0_chk6 v4), (k0_dev213 v4) < nD := fun v4 k0_hw6 => k0_hw6.2.2.2.2.2.2.2.2.2.2.2.2.1
theorem k0_dev214_lt : ∀ (v4 : BitVec 32) (k0_hw6 : k0_chk6 v4), (k0_dev214 v4) < nD := fun v4 k0_hw6 => k0_hw6.2.2.2.2.2.2.2.2.2.2.2.2.2.1
theorem k0_dev215_lt : ∀ (v4 : BitVec 32) (k0_hw6 : k0_chk6 v4), (k0_dev215 v4) < nD := fun v4 k0_hw6 => k0_hw6.2.2.2.2.2.2.2.2.2.2.2.2.2.2.1
theorem k0_dev216_lt : ∀ (v4 : BitVec 32) (k0_hw6 : k0_chk6 v4), (k0_dev216 v4) < nD := fun v4 k0_hw6 => k0_hw6.2.2.2.2.2.2.2.2.2.2.2.2.2.2.2.1
theorem k0_dev221_lt : ∀ (v4 : BitVec 32) (k0_hw6 : k0_chk6 v4), (k0_dev221 v4) < nD := fun v4 k0_hw6 => k0_hw6.2.2.2.2.2.2.2.2.2.2.2.2.2.2.2.2.1
theorem k0_dev222_lt : ∀ (v4 : BitVec 32) (k0_hw6 : k0_chk6 v4), (k0_dev222 v4) < nD := fun v4 k0_hw6 => k0_hw6.2.2.2.2.2.2.2.2.2.2.2.2.2.2.2.2.2.1
theorem k0_dev223_lt : ∀ (v4 : BitVec 32) (k0_hw6 : k0_chk6 v4), (k0_dev223 v4) < nD := fun v4 k0_hw6 => k0_hw6.2.2.2.2.2.2.2.2.2.2.2.2.2.2.2.2.2.2.1
theorem k0_dev224_lt : ∀ (v4 : BitVec 32) (k0_hw6 : k0_chk6 v4), (k0_dev224 v4) < nD := fun v4 k0_hw6 => k0_hw6.2.2.2.2.2.2.2.2.2.2.2.2.2.2.2.2.2.2.2.1
theorem k0_dev229_lt : ∀ (v4 : BitVec 32) (k0_hw6 : k0_chk6 v4), (k0_dev229 v4) < nD := fun v4 k0_hw6 => k0_hw6.2.2.2.2.2.2.2.2.2.2.2.2.2.2.2.2.2.2.2.2.1
theorem k0_dev230_lt : ∀ (v4 : BitVec 32) (k0_hw6 : k0_chk6 v4), (k0_dev230 v4) < nD := fun v4 k0_hw6 => k0_hw6.2.2.2.2.2.2.2.2.2.2.2.2.2.2.2.2.2.2.2.2.2.1
theorem k0_dev231_lt : ∀ (v4 : BitVec 32) (k0_hw6 : k0_chk6 v4), (k0_dev231 v4) < nD := fun v4 k0_hw6 => k0_hw6.2.2.2.2.2.2.2.2.2.2.2.2.2.2.2.2.2.2.2.2.2.2.1
theorem k0_dev232_lt : ∀ (v4 : BitVec 32) (k0_hw6 : k0_chk6 v4), (k0_dev232 v4) < nD := fun v4 k0_hw6 => k0_hw6.2.2.2.2.2.2.2.2.2.2.2.2.2.2.2.2.2.2.2.2.2.2.2.1
theorem k0_dev237_lt : ∀ (v4 : BitVec 32) (k0_hw6 : k0_chk6 v4), (k0_dev237 v4) < nD := fun v4 k0_hw6 => k0_hw6.2.2.2.2.2.2.2.2.2.2.2.2.2.2.2.2.2.2.2.2.2.2.2.2.1
theorem k0_dev238_lt : ∀ (v4 : BitVec 32) (k0_hw6 : k0_chk6 v4), (k0_dev238 v4) < nD := fun v4 k0_hw6 => k0_hw6.2.2.2.2.2.2.2.2.2.2.2.2.2.2.2.2.2.2.2.2.2.2.2.2.2.1
theorem k0_dev239_lt : ∀ (v4 : BitVec 32) (k0_hw6 : k0_chk6 v4), (k0_dev239 v4) < nD := fun v4 k0_hw6 => k0_hw6.2.2.2.2.2.2.2.2.2.2.2.2.2.2.2.2.2.2.2.2.2.2.2.2.2.2.1
theorem k0_dev240_lt : ∀ (v4 : BitVec 32) (k0_hw6 : k0_chk6 v4), (k0_dev240 v4) < nD := fun v4 k0_hw6 => k0_hw6.2.2.2.2.2.2.2.2.2.2.2.2.2.2.2.2.2.2.2.2.2.2.2.2.2.2.2.1
theorem k0_dev245_lt : ∀ (v4 : BitVec 32) (k0_hw6 : k0_chk6 v4), (k0_dev245 v4) < nD := fun v4 k0_hw6 => k0_hw6.2.2.2.2.2.2.2.2.2.2.2.2.2.2.2.2.2.2.2.2.2.2.2.2.2.2.2.2.1
theorem k0_dev246_lt : ∀ (v4 : BitVec 32) (k0_hw6 : k0_chk6 v4), (k0_dev246 v4) < nD := fun v4 k0_hw6 => k0_hw6.2.2.2.2.2.2.2.2.2.2.2.2.2.2.2.2.2.2.2.2.2.2.2.2.2.2.2.2.2

def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_7258 : BitVec 32 := 128#32
  let v5494 : BitVec 32 := Scalar.muli v2 c128_i32_7258
  let v5495 : Index := Scalar.indexCast v5494
  let c0_7259 : Index := 0#32
  ![v5495.toNat, 0]
abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S31 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S31 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Body.lean ====
/- The kernel body written once, by channel and step.

   The printed body is a long straight line: a prologue, thirty steps that differ only in the numbers they
   name, and an epilogue. Here each piece is a definition over the channel and the step, and `body_eq` says
   that the printed body is their sequence. Everything after this module reasons about the pieces. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Hand

open Idealize.ShloMosaic Idealize.SL.Sem
open Cert.KernelIdeal Facts₀ Facts
open Cert.KernelIdeal.Gen (k0_pay1 k0_pay5 k0_pay9 k0_pay306)

variable {F : FTy → Type} [FloatOps F]

/-- Programs of the kernel that return nothing. -/
abbrev Code (F : FTy → Type) [FloatOps F] : Type 1 := Prog (TpuEff nD τ sig (Elt F) Λ₀ .tc) PUnit

/-- The staged operands and the staged result the body is called with. -/
structure Ops where
  /-- the next device on the ring -/
  nxt : Memref sig .tc .smem S1 .i32
  /-- the previous device on the ring -/
  prv : Memref sig .tc .smem S1 .i32
  /-- the row block of each step, for the channels that go forward -/
  fwd : Memref sig .tc .smem S31 .i32
  /-- the row block of each step, for the channels that go backward -/
  rev : Memref sig .tc .smem S31 .i32
  /-- the device's columns of the left operand -/
  x : Memref sig .tc .vmem S4096x128 .f32
  /-- the device's rows of the right operand -/
  w : Memref sig .tc .vmem S128x2048 .f32
  /-- the result -/
  o : Memref sig .tc .vmem S128x2048 .f32

/-- The double buffer the channels travel through: channel, then slot. -/
abbrev commM : Memref sig .tc .vmem S4x2x128x512 .f32 := Memref.whole cc0_scratch0
/-- The products waiting to be added: by channel. -/
abbrev pbufM : Memref sig .tc .vmem S4x128x512 .f32 := Memref.whole cc0_scratch1

theorem inb_slot (ch : Fin 4) (p : Fin 2) :
    ∀ a, (![ch.val, p.val, 0, 0] : Fin 4 → Nat) a + S1x1x128x512.size a ≤ S4x2x128x512.size a := by
  revert ch p; decide

theorem inb_pbuf (ch : Fin 4) :
    ∀ a, (![ch.val, 0, 0] : Fin 3 → Nat) a + S1x128x512.size a ≤ S4x128x512.size a := by
  revert ch; decide

theorem inb_cols (ch : Fin 4) :
    ∀ a, (![0, 512 * ch.val] : Fin 2 → Nat) a + S128x512.size a ≤ S128x2048.size a := by
  revert ch; decide

theorem inb_step (s : Fin 31) :
    ∀ a, (![s.val] : Fin 1 → Nat) a + S1.size a ≤ S31.size a := by
  revert s; decide

theorem inb_sem (p : Fin 2) :
    ∀ a, (![p.val] : Fin 1 → Nat) a + S1.size a ≤ S2.size a := by
  revert p; decide

/-- Step `s` taken below 31. -/
def st (s : Nat) : Fin 31 := ⟨s % 31, Nat.mod_lt _ (by decide)⟩
/-- The slot of step `s`. -/
def par (s : Nat) : Fin 2 := ⟨s % 2, Nat.mod_lt _ (by decide)⟩

/-- The rectangle of one slot of one channel. -/
abbrev slotR (ch : Fin 4) (p : Fin 2) := Rect.unit (s := S4x2x128x512) ![ch.val, p.val, 0, 0] S1x1x128x512.size (inb_slot ch p)
/-- One slot of one channel, as the copies name it. -/
abbrev slotM (ch : Fin 4) (p : Fin 2) : Memref sig .tc .vmem S128x512 .f32 :=
  (commM.slice (slotR ch p) (fun _ => rfl)).squeeze S128x512 squeezes_S1x1x128x512_S128x512
/-- The rectangle of one channel's product. -/
abbrev pbufR (ch : Fin 4) := Rect.unit (s := S4x128x512) ![ch.val, 0, 0] S1x128x512.size (inb_pbuf ch)
/-- The columns of one channel. -/
abbrev colsR (ch : Fin 4) := Rect.unit (s := S128x2048) ![0, 512 * ch.val] S128x512.size (inb_cols ch)
/-- The table entry of step `s`. -/
abbrev stepR (s : Nat) := Rect.unit (s := S31) ![(st s).val] S1.size (inb_step (st s))

/-- The send semaphores of a channel. -/
def sendA (ch : Fin 4) : DmaSems sig S2 := ![cc0_scratch2, cc0_scratch3, cc0_scratch4, cc0_scratch5] ch
/-- The receive semaphores of a channel. -/
def recvA (ch : Fin 4) : DmaSems sig S2 := ![cc0_scratch6, cc0_scratch7, cc0_scratch8, cc0_scratch9] ch
/-- The credit semaphore of a channel. -/
def credA (ch : Fin 4) : Sems sig S_ := ![cc0_scratch10, cc0_scratch11, cc0_scratch12, cc0_scratch13] ch
/-- One send semaphore. -/
def sendS (ch : Fin 4) (p : Fin 2) : DmaSem sig :=
  (((sendA ch).slice (Rect.unit (s := S2) ![p.val] S1.size (inb_sem p))).squeeze S_ squeezes_S1_S_).sem
/-- One receive semaphore. -/
def recvS (ch : Fin 4) (p : Fin 2) : DmaSem sig :=
  (((recvA ch).slice (Rect.unit (s := S2) ![p.val] S1.size (inb_sem p))).squeeze S_ squeezes_S1_S_).sem
/-- One credit semaphore. -/
def credS (ch : Fin 4) : Sem sig := (credA ch).sem
/-- The barrier semaphore. -/
def barS : Sem sig := (SemArray.scalar (sig.barrier 0 rfl) : Sems sig S_).sem

/-- The two neighbours as the body has checked them: the device numbers read from the tables. -/
structure Nbrs where
  /-- the next device -/
  nxt : Dev nD
  /-- the previous device -/
  prv : Dev nD

/-- The device a channel sends to. -/
def Nbrs.dst (n : Nbrs) (ch : Fin 4) : Dev nD := ![n.nxt, n.nxt, n.prv, n.prv] ch
/-- The device a channel receives from. -/
def Nbrs.src (n : Nbrs) (ch : Fin 4) : Dev nD := ![n.prv, n.prv, n.nxt, n.nxt] ch

variable (a : Ops)

/-- The table of a channel's row blocks. -/
def Ops.tbl (a : Ops) (ch : Fin 4) : Memref sig .tc .smem S31 .i32 := ![a.fwd, a.fwd, a.rev, a.rev] ch

/-- One channel's first product, stored into its slot 0. -/
def dot0 (ch : Fin 4) : Code F := do
  let v : Elt F .i32 ← smemLoad (a.tbl ch) (stepR 0) numel1_S1 rfl
  have hw : k0_chk1 v := (← Prog.lift (TpuEff.assume (k0_chk1 v) (k0_chk1.dec v))).down
  let vx : Vec F S128x128 .f32 ← Prog.lift (.load a.x (Rect.unit (s := S4096x128) (k0_off1 v) S128x128.size (k0_off1_inb v hw)).toLoadRect (View.loadsAt_vmem h_S128x128))
  let vw : Vec F S128x512 .f32 ← Prog.lift (.load a.w (colsR ch).toLoadRect (View.loadsAt_vmem h_S128x512))
  let _ : Vec F S1x1x128x512 .f32 ← Prog.lift (.load commM (slotR ch 0).toLoadRect (View.loadsAt_vmem h_S1x1x128x512))
  Prog.lift (.store commM (slotR ch 0) (k0_pay1 vx vw) Finset.univ (View.stores_vmem_bits_univ h_S1x1x128x512 rfl) (.inl rfl))

/-- One channel's product at step `s`, stored among the products. -/
def dot (s : Nat) (ch : Fin 4) : Code F := do
  let v : Elt F .i32 ← smemLoad (a.tbl ch) (stepR s) numel1_S1 rfl
  have hw : k0_chk1 v := (← Prog.lift (TpuEff.assume (k0_chk1 v) (k0_chk1.dec v))).down
  let vx : Vec F S128x128 .f32 ← Prog.lift (.load a.x (Rect.unit (s := S4096x128) (k0_off1 v) S128x128.size (k0_off1_inb v hw)).toLoadRect (View.loadsAt_vmem h_S128x128))
  let vw : Vec F S128x512 .f32 ← Prog.lift (.load a.w (colsR ch).toLoadRect (View.loadsAt_vmem h_S128x512))
  let _ : Vec F S1x128x512 .f32 ← Prog.lift (.load pbufM (pbufR ch).toLoadRect (View.loadsAt_vmem h_S1x128x512))
  Prog.lift (.store pbufM (pbufR ch) (k0_pay5 vx vw) Finset.univ (View.stores_vmem_bits_univ h_S1x128x512 rfl) (.inl rfl))

/-- One channel's product of the device's own row block. -/
def dotOwn (d : Dev nD) (ch : Fin 4) : Code F := do
  let vx : Vec F S128x128 .f32 ← Prog.lift (.load a.x (Rect.unit (s := S4096x128) (k0_off125 d) S128x128.size (k0_off125_inb d)).toLoadRect (View.loadsAt_vmem h_S128x128))
  let vw : Vec F S128x512 .f32 ← Prog.lift (.load a.w (colsR ch).toLoadRect (View.loadsAt_vmem h_S128x512))
  let _ : Vec F S1x128x512 .f32 ← Prog.lift (.load pbufM (pbufR ch).toLoadRect (View.loadsAt_vmem h_S1x128x512))
  Prog.lift (.store pbufM (pbufR ch) (k0_pay5 vx vw) Finset.univ (View.stores_vmem_bits_univ h_S1x128x512 rfl) (.inl rfl))

/-- The wait for the copy that lands in slot `p` of a channel. -/
def waitRecv (ch : Fin 4) (p : Fin 2) : Code F :=
  Prog.lift (.waitDma2 (recvS ch p) (slotM ch (1 - p)) (slotM ch p) ((View.wordExact_bits rfl).reshape _ _) ((View.wordExact_bits rfl).reshape _ _))

/-- The wait for the copy that reads slot `p` of a channel. -/
def waitSend (ch : Fin 4) (p : Fin 2) : Code F :=
  Prog.lift (.waitDma2 (sendS ch p) (slotM ch (1 - p)) (slotM ch p) ((View.wordExact_bits rfl).reshape _ _) ((View.wordExact_bits rfl).reshape _ _))

/-- The copy of slot `p` of a channel to the other slot on device `d`. -/
def copy (d : Dev nD) (ch : Fin 4) (p : Fin 2) : Code F :=
  Prog.lift (.enqueueDma (slotM ch p) (.remote (Dev.tc d) (slotM ch (1 - p)) (.dma (sendS ch p))) (.dma (recvS ch (1 - p))) ((View.wordExact_bits rfl).reshape _ _) ((View.wordExact_bits rfl).reshape _ _) ⟨⟨rfl, Or.inl rfl⟩, trivial⟩)

/-- The landed slot plus the channel's product, stored back. -/
def accum (ch : Fin 4) (p : Fin 2) : Code F := do
  let vc : Vec F S1x1x128x512 .f32 ← Prog.lift (.load commM (slotR ch p).toLoadRect (View.loadsAt_vmem h_S1x1x128x512))
  let vp : Vec F S1x128x512 .f32 ← Prog.lift (.load pbufM (pbufR ch).toLoadRect (View.loadsAt_vmem h_S1x128x512))
  let _ : Vec F S1x1x128x512 .f32 ← Prog.lift (.load commM (slotR ch p).toLoadRect (View.loadsAt_vmem h_S1x1x128x512))
  Prog.lift (.store commM (slotR ch p) (k0_pay9 vc vp) Finset.univ (View.stores_vmem_bits_univ h_S1x1x128x512 rfl) (.inl rfl))

/-- The landed slot plus the channel's product, stored into the channel's columns of the result. -/
def finish (ch : Fin 4) : Code F := do
  let vc : Vec F S1x1x128x512 .f32 ← Prog.lift (.load commM (slotR ch 1).toLoadRect (View.loadsAt_vmem h_S1x1x128x512))
  let vp : Vec F S1x128x512 .f32 ← Prog.lift (.load pbufM (pbufR ch).toLoadRect (View.loadsAt_vmem h_S1x128x512))
  let _ : Vec F S128x512 .f32 ← Prog.lift (.load a.o (colsR ch).toLoadRect (View.loadsAt_vmem h_S128x512))
  Prog.lift (.store a.o (colsR ch) (k0_pay306 vc vp) Finset.univ (View.stores_vmem_bits_univ h_S128x512 rfl) (.inl rfl))

/-- The four channels one after the other, then the rest. -/
def chans (f : Fin 4 → Code F) (k : Code F) : Code F :=
  f 0 >>= fun _ => f 1 >>= fun _ => f 2 >>= fun _ => f 3 >>= fun _ => k

/-- Step `s`, then the rest. -/
def step (n : Nbrs) (s : Nat) (k : Code F) : Code F :=
  chans (dot a s) <|
  chans (fun ch => waitRecv ch (par s) >>= fun _ => accum ch (par s)) <|
  chans (fun ch => waitSend ch (1 - par s) >>= fun _ => semSignalWord (n.src ch) (credS ch) 1#32) <|
  chans (fun ch => semWaitWord (credS ch) 1#32 >>= fun _ => copy (n.dst ch) ch (par s)) k

/-- The `k` steps from step `s` on, then the rest. -/
def steps (n : Nbrs) : Nat → Nat → Code F → Code F
  | _, 0, r => r
  | s, k + 1, r => step a n s (steps n (s + 1) k r)

/-- What precedes the steps once the neighbours are known: the first products, the meeting with both
   neighbours, and the first copies. -/
def prologue (n : Nbrs) (k : Code F) : Code F :=
  chans (dot0 a) <|
  semSignalWord n.nxt barS 1#32 >>= fun _ => semSignalWord n.prv barS 1#32 >>= fun _ =>
  semWaitWord barS 2#32 >>= fun _ => chans (fun ch => copy (n.dst ch) ch 0) k

/-- What follows the steps. -/
def epilogue (d : Dev nD) : Code F :=
  chans (dotOwn a d) <|
  chans (fun ch => waitRecv ch 1 >>= fun _ => finish a ch) <|
  waitSend 0 0 >>= fun _ => waitSend 1 0 >>= fun _ => waitSend 2 0 >>= fun _ => waitSend 3 0

/-- The whole body. -/
def body : Code F := do
  let d : Dev nD ← Prog.lift .deviceId
  let v3 : Elt F .i32 ← smemLoad a.nxt (Rect.unit (s := S1) ![0] S1.size inb_S1_S1_0) numel1_S1 rfl
  have h3 : k0_chk5 v3 := (← Prog.lift (TpuEff.assume (k0_chk5 v3) (k0_chk5.dec v3))).down
  let v4 : Elt F .i32 ← smemLoad a.prv (Rect.unit (s := S1) ![0] S1.size inb_S1_S1_0) numel1_S1 rfl
  have h4 : k0_chk6 v4 := (← Prog.lift (TpuEff.assume (k0_chk6 v4) (k0_chk6.dec v4))).down
  let n : Nbrs := ⟨⟨k0_dev1 v3, k0_dev1_lt v3 h3⟩, ⟨k0_dev2 v4, k0_dev2_lt v4 h4⟩⟩
  prologue a n (steps a n 1 30 (epilogue a d))

open Pipeline in
/-- The printed body is the sequence of its pieces. -/
theorem body_eq (h0 : a.nxt.IsWhole) (h1 : a.prv.IsWhole) (h2 : a.fwd.IsWhole) (h3 : a.rev.IsWhole)
    (h4 : a.x.IsWhole) (h5 : a.w.IsWhole) (h6 : a.o.IsWhole) :
    (cc0_body a.nxt h0 a.prv h1 a.fwd h2 a.rev h3 a.x h4 a.w h5 a.o h6 commM (Memref.isWhole_whole _)
      pbufM (Memref.isWhole_whole _) cc0_scratch2 cc0_scratch3 cc0_scratch4 cc0_scratch5 cc0_scratch6
      cc0_scratch7 cc0_scratch8 cc0_scratch9 cc0_scratch10 cc0_scratch11 cc0_scratch12 cc0_scratch13 : Code F)
    = body a := by
  chain_rfl

end Cert.KernelIdeal.Hand
-- ==== Proof.Proto.lean ====
/- The protocol the devices follow: the ring, the cells, what each payment hands over, and the levels.

   Device `d` sends on channel `ch` to `dst d ch` and receives from `src d ch`. Copy `s` (0 to 30) leaves slot
   `s % 2` and lands in slot `(s + 1) % 2`. Before copy `s ≥ 1` the receiver pays one credit, which hands the
   sender the slot the copy lands in; before copy 0 the meeting at the barrier does. -/
module

public import proofs.«01_k».proof.Proof.Body
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.PureOps

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Facts₀ Facts
open Cert.KernelIdeal.Gen (k0_pay1 k0_pay5 k0_pay9 k0_pay306)

variable {F : FTy → Type} [FloatOps F]

/-- The two copies of the rounds algebra: the pipeline's and this protocol's. -/
abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## The ring -/

/-- The next device on the ring. -/
def nxtD : Dev nD → Dev nD :=
  ![3, 0, 1, 4, 7, 2, 5, 15, 9, 17, 13, 19, 11, 21, 6, 23, 8, 25, 10, 27, 12, 29, 14, 31, 16, 26, 18, 24, 20, 30, 22, 28]
/-- The previous device on the ring. -/
def prvD : Dev nD → Dev nD :=
  ![1, 2, 5, 0, 3, 6, 14, 4, 16, 8, 18, 12, 20, 10, 22, 7, 24, 9, 26, 11, 28, 13, 30, 15, 27, 17, 25, 19, 31, 21, 29, 23]
theorem prv_nxt (d : Dev nD) : prvD (nxtD d) = d := by revert d; decide
theorem nxt_prv (d : Dev nD) : nxtD (prvD d) = d := by revert d; decide

/-- Device `d`'s neighbours. -/
def nb (d : Dev nD) : Nbrs := ⟨nxtD d, prvD d⟩
/-- The device `d` sends to on channel `ch`. -/
def dst (d : Dev nD) (ch : Fin 4) : Dev nD := (nb d).dst ch
/-- The device `d` receives from on channel `ch`. -/
def src (d : Dev nD) (ch : Fin 4) : Dev nD := (nb d).src ch
theorem src_dst (d : Dev nD) (ch : Fin 4) : src (dst d ch) ch = d := by
  fin_cases ch <;> first | exact prv_nxt d | exact nxt_prv d
theorem dst_src (d : Dev nD) (ch : Fin 4) : dst (src d ch) ch = d := by
  fin_cases ch <;> first | exact prv_nxt d | exact nxt_prv d

/-- `k` devices further along channel `ch`. -/
def along (ch : Fin 4) : Nat → Dev nD → Dev nD
  | 0, d => d
  | k + 1, d => along ch k (dst d ch)

/-- The row block device `d` adds on channel `ch` at step `s`: the one that ends `31 - s` devices further on. -/
def row (d : Dev nD) (ch : Fin 4) (s : Nat) : Dev nD := along ch (31 - s) d

theorem row_src (d : Dev nD) (ch : Fin 4) (s : Nat) (hs : s < 31) : row (src d ch) ch s = row d ch (s + 1) := by
  unfold row
  obtain ⟨k, hk⟩ : ∃ k, 31 - s = k + 1 := ⟨30 - s, by omega⟩
  rw [hk, show 31 - (s + 1) = k by omega]
  show along ch k (dst (src d ch) ch) = _
  rw [dst_src]

/-! ## Parity -/

theorem par_add_two (s : Nat) : par (s + 2) = par s := Fin.ext (by simp [par])
theorem one_sub_par (s : Nat) : 1 - par s = par (s + 1) := by
  rcases Nat.mod_two_eq_zero_or_one s with h | h
  · have e1 : par s = 0 := Fin.ext (by simpa [par] using h)
    have e2 : par (s + 1) = 1 := Fin.ext (by show (s + 1) % 2 = 1; omega)
    rw [e1, e2]; rfl
  · have e1 : par s = 1 := Fin.ext (by simpa [par] using h)
    have e2 : par (s + 1) = 0 := Fin.ext (by show (s + 1) % 2 = 0; omega)
    rw [e1, e2]; rfl
theorem one_sub_par_succ (s : Nat) : 1 - par (s + 1) = par s := by rw [one_sub_par, par_add_two]

/-! ## The values -/

/-- Each device's operands. -/
structure Vals (F : FTy → Type) where
  /-- its columns of the left operand -/
  x : Dev nD → Vec F S4096x128 .f32
  /-- its rows of the right operand -/
  w : Dev nD → Vec F S128x2048 .f32

theorem inb_rows (r : Dev nD) :
    ∀ a, (![128 * r.val, 0] : Fin 2 → Nat) a + S128x128.size a ≤ S4096x128.size a := by
  intro a; fin_cases a
  · show 128 * r.val + 128 ≤ 4096; have : r.val < 32 := r.isLt; omega
  · show 0 + 128 ≤ 128; omega

/-- Row block `r` of the left operand. -/
abbrev rowsR (r : Dev nD) := Rect.unit (s := S4096x128) ![128 * r.val, 0] S128x128.size (inb_rows r)

/-- Device `d`'s part of row block `r`. -/
def Vals.xb (V : Vals F) (d r : Dev nD) : Vec F S128x128 .f32 := fun i => V.x d ((rowsR r).emb i)
/-- Device `d`'s part of the columns of channel `ch`. -/
def Vals.wb (V : Vals F) (d : Dev nD) (ch : Fin 4) : Vec F S128x512 .f32 := fun i => V.w d ((colsR ch).emb i)

/-- The product device `d` adds on channel `ch` at step `s`. -/
def part (V : Vals F) (d : Dev nD) (ch : Fin 4) (s : Nat) : Vec F S1x128x512 .f32 := k0_pay5 (V.xb d (row d ch s)) (V.wb d ch)

/-- What device `d` sends on channel `ch` at step `s`. -/
def acc (V : Vals F) (ch : Fin 4) : Nat → Dev nD → Vec F S1x1x128x512 .f32
  | 0, d => k0_pay1 (V.xb d (row d ch 0)) (V.wb d ch)
  | s + 1, d => k0_pay9 (acc V ch s (src d ch)) (part V d ch (s + 1))

/-- Device `d`'s columns of the result, channel `ch`. -/
def fin (V : Vals F) (d : Dev nD) (ch : Fin 4) : Vec F S128x512 .f32 :=
  k0_pay306 (acc V ch 30 (src d ch)) (k0_pay5 (V.xb d d) (V.wb d ch))

/-! ## Memory pieces -/

/-- One slot of one channel, as the loads and stores name it. -/
abbrev slM (ch : Fin 4) (p : Fin 2) : Memref sig .tc .vmem S1x1x128x512 .f32 := commM.slice (slotR ch p) (fun _ => rfl)
/-- One channel's product. -/
abbrev pbM (ch : Fin 4) : Memref sig .tc .vmem S1x128x512 .f32 := pbufM.slice (pbufR ch) (fun _ => rfl)

/-- Device `d` holds a slot at `v`. -/
abbrev slotIs (d : Dev nD) (ch : Fin 4) (p : Fin 2) (v : Vec F S1x1x128x512 .f32) : sProp 𝕄 :=
  owns (d : Thread nD τ) (slM ch p) fullShare v
/-- Device `d` holds a slot at some contents. -/
abbrev slotAny (d : Dev nD) (ch : Fin 4) (p : Fin 2) : sProp 𝕄 := iprop(∃ v, slotIs (F := F) d ch p v)
/-- Device `d` holds a channel's product at `v`. -/
abbrev pbIs (d : Dev nD) (ch : Fin 4) (v : Vec F S1x128x512 .f32) : sProp 𝕄 :=
  owns (d : Thread nD τ) (pbM ch) fullShare v
abbrev pbAny (d : Dev nD) (ch : Fin 4) : sProp 𝕄 := iprop(∃ v, pbIs (F := F) d ch v)

/-! ## The cells -/

/-- The semaphores of the protocol. -/
inductive Key where
  | bar
  | send (ch : Fin 4) (p : Fin 2)
  | recv (ch : Fin 4) (p : Fin 2)
  | cred (ch : Fin 4)
deriving DecidableEq

instance : Fintype Key where
  elems := {.bar} ∪ Finset.univ.image (fun x : Fin 4 × Fin 2 => .send x.1 x.2)
    ∪ Finset.univ.image (fun x : Fin 4 × Fin 2 => .recv x.1 x.2) ∪ Finset.univ.image .cred
  complete k := by cases k <;> simp

/-- Where a key's semaphore is. -/
def Key.loc : Key → SemLoc sig
  | .bar => .reg barS
  | .send ch p => .dma (sendS ch p)
  | .recv ch p => .dma (recvS ch p)
  | .cred ch => .reg (credS ch)

/-- The key of a semaphore of the protocol. -/
def keyOf : SemLoc sig → Option Key
  | .reg i => if h : i.val < 4 then some (.cred ⟨i.val, h⟩) else some .bar
  | .dma i => if i.val < 7 then none
      else if i.val < 15 then some (.send ⟨(i.val - 7) / 2 % 4, Nat.mod_lt _ (by decide)⟩ ⟨(i.val - 7) % 2, Nat.mod_lt _ (by decide)⟩)
      else some (.recv ⟨(i.val - 15) / 2 % 4, Nat.mod_lt _ (by decide)⟩ ⟨(i.val - 15) % 2, Nat.mod_lt _ (by decide)⟩)

theorem keyOf_loc (k : Key) : keyOf k.loc = some k := by
  rcases k with _ | ⟨ch, p⟩ | ⟨ch, p⟩ | ch
  · rfl
  · fin_cases ch <;> fin_cases p <;> rfl
  · fin_cases ch <;> fin_cases p <;> rfl
  · fin_cases ch <;> rfl

theorem loc_inj : Function.Injective Key.loc := fun a b h => by
  have := congrArg keyOf h; rw [keyOf_loc, keyOf_loc] at this; exact Option.some.inj this

/-- Device `d`'s cell of a key. -/
abbrev cell (d : Dev nD) (k : Key) : GSem nD τ sig := ((d : Thread nD τ), k.loc)

theorem cell_inj : Function.Injective fun x : Dev nD × Key => cell x.1 x.2 := by
  rintro ⟨d, k⟩ ⟨d', k'⟩ h
  have h1 : d = d' := congrArg (fun g : GSem nD τ sig => g.1.1) h
  have h2 : k = k' := loc_inj (congrArg (fun g : GSem nD τ sig => g.2) h)
  rw [h1, h2]

/-! ## The schedule -/

/-- What a copy moves, in the units its semaphores count. -/
abbrev N : ℕ := (slotM 0 0).view.dmaCredit
theorem N_pos : 0 < N := View.dmaCredit_pos _ (by decide)
theorem credit_eq (ch : Fin 4) (p : Fin 2) : (slotM ch p).view.dmaCredit = N := rfl

/-- What the sender of channel `ch` gets before copy 0: the slot on the receiver, and the receiver's cell open. -/
def landing (d : Dev nD) (ch : Fin 4) : sProp 𝕄 :=
  iprop(slotAny (F := F) (dst d ch) ch 1 ∗ reached ER (cell (dst d ch) (.recv ch 1)) 0)

/-- The number of a key's rounds. -/
def rounds : Key → Nat
  | .bar => 1
  | .send _ p => 16 - p.val
  | .recv _ p => 15 + p.val
  | .cred _ => 30

/-- What a payment hands to device `d`. -/
def pay (V : Vals F) (d : Dev nD) (r : ℕ) (b : Bool) : Key → sProp 𝕄
  | .bar => if b then iprop(landing d 2 ∗ landing d 3) else iprop(landing d 0 ∗ landing d 1)
  | .send ch p => slotAny d ch p
  | .recv ch p => iprop(slotIs d ch p (acc V ch (2 * r + (1 - p.val)) (src d ch))
      ∗ reached ER (cell (src d ch) (.cred ch)) (2 * r + (1 - p.val)))
  | .cred ch => iprop(slotAny (F := F) (dst d ch) ch (par r) ∗ reached ER (cell (dst d ch) (.recv ch (par r))) ((r + 1) / 2))

/-- Who pays in a round: both neighbours at the barrier, one payer elsewhere. -/
def payers : Key → Finset Bool
  | .bar => {true, false}
  | _ => {true}

theorem payers_single {k : Key} (h : k ≠ .bar) : payers k = {true} := by
  cases k <;> first | exact absurd rfl h | rfl

/-- How much one payment is. -/
def unit : Key → ℕ
  | .send _ _ => N
  | .recv _ _ => N
  | _ => 1

theorem unit_pos (k : Key) : 0 < unit k := by
  cases k <;> first | exact Nat.one_pos | exact N_pos

/-- The protocol as a schedule of payments. -/
def rd (V : Vals F) : Rounds.Schedule (GSem nD τ sig) Bool 𝕄 where
  duties g r := if g.1.2 = .tc then (match keyOf g.2 with | some k => if r < rounds k then payers k else ∅ | none => ∅) else ∅
  unitless _ := False
  amount g _ _ := match keyOf g.2 with | some k => unit k | none => 1
  payload g r b := match keyOf g.2 with | some k => pay V g.1.1 r b k | none => iprop(emp)
  amount_pos g _ _ _ := by split <;> first | exact unit_pos _ | exact Nat.one_pos

instance rd_storable (V : Vals F) (g : GSem nD τ sig) (r : ℕ) (d : Bool) :
    BI.Storable (upEmb : UEmb _ 𝕄) ((rd V).payload g r d) := by
  show BI.Storable upEmb (match keyOf g.2 with | some k => pay V g.1.1 r d k | none => iprop(emp))
  split
  · rename_i k _
    cases k <;> unfold pay <;> dsimp only
    · unfold landing; split <;> infer_instance
    all_goals infer_instance
  · infer_instance

section Sched

variable (V : Vals F) (d : Dev nD) (k : Key) (r : ℕ)

theorem duties_cell (h : r < rounds k) : (rd V).duties (cell d k) r = payers k := by
  dsimp only [rd]; rw [if_pos rfl, keyOf_loc]; exact if_pos h
theorem duties_done (h : rounds k ≤ r) : (rd V).duties (cell d k) r = ∅ := by
  dsimp only [rd]; rw [if_pos rfl, keyOf_loc]; exact if_neg (Nat.not_lt.mpr h)
theorem amount_cell (b : Bool) : (rd V).amount (cell d k) r b = unit k := by dsimp only [rd]; rw [keyOf_loc]
theorem payload_cell (b : Bool) : (rd V).payload (cell d k) r b = pay V d r b k := by dsimp only [rd]; rw [keyOf_loc]

theorem mem_duties (h : r < rounds k) : true ∈ (rd V).duties (cell d k) r := by
  rw [duties_cell V d k r h]; cases k <;> simp [payers]

theorem expect_cell (h : r < rounds k) : (rd V).expect (cell d k) r = (payers k).card * unit k := by
  unfold Schedule.expect Schedule.amountOf
  rw [duties_cell V d k r h, Finset.sum_congr rfl fun b _ => amount_cell V d k r b, Finset.sum_const, smul_eq_mul]

theorem rest_cell (h : r < rounds k) (hk : k ≠ .bar) :
    bigSep ((rd V).duties (cell d k) r \ ∅) (fun b => (rd V).payload (cell d k) r b) = pay V d r true k := by
  rw [Finset.sdiff_empty, duties_cell V d k r h, payers_single hk,
    bigSep_singleton, payload_cell]

theorem rest_bar :
    bigSep ((rd V).duties (cell d .bar) 0 \ ∅) (fun b => (rd V).payload (cell d .bar) 0 b)
      = iprop((landing d 2 ∗ landing d 3) ∗ (landing d 0 ∗ landing d 1)) := by
  rw [Finset.sdiff_empty, duties_cell V d .bar 0 Nat.one_pos, show payers .bar = {true, false} from rfl,
    bigSep_insert (by decide), bigSep_singleton, payload_cell, payload_cell]
  rfl

end Sched

/-! ## What each device owes; the levels -/

/-- The indices of a cell. -/
def L (g : GSem nD τ sig) : Finset ℕ := if g.1.2 = .tc then Finset.range 32 else ∅
/-- The level of a payment: the barrier first, then credit and copy step by step; the rest below. -/
def lv (g : GSem nD τ sig) (i : ℕ) : ℕ :=
  match keyOf g.2 with
  | some .bar => 1
  | some (.cred _) => 4 * i
  | some (.recv _ _) => 4 * i + 2
  | _ => 0
theorem L_of_ne (g : GSem nD τ sig) (h : g.1.2 ≠ .tc) : L g = ∅ := if_neg h
theorem L_tc (c : Dev nD) (sm : SemLoc sig) : L ((c : Thread nD τ), sm) = Finset.range 32 := if_pos rfl
theorem lv_bar (d : Dev nD) (i : ℕ) : lv (cell d .bar) i = 1 := by unfold lv; rw [keyOf_loc]
theorem lv_cred (d : Dev nD) (ch : Fin 4) (i : ℕ) : lv (cell d (.cred ch)) i = 4 * i := by unfold lv; rw [keyOf_loc]
theorem lv_recv (d : Dev nD) (ch : Fin 4) (p : Fin 2) (i : ℕ) : lv (cell d (.recv ch p)) i = 4 * i + 2 := by unfold lv; rw [keyOf_loc]
theorem lv_send (d : Dev nD) (ch : Fin 4) (p : Fin 2) (i : ℕ) : lv (cell d (.send ch p)) i = 0 := by unfold lv; rw [keyOf_loc]

/-- Everything owed is levelled above `n`. -/
def Above (n : ℕ) (O : CellTallies nD τ sig ℕ) : Prop := ∀ g i, 0 < O g i → i ∈ L g ∧ n < lv g i

theorem Above.zero (n : ℕ) : Above n 0 := fun g i h => absurd h (Nat.lt_irrefl 0)
theorem Above.add {n : ℕ} {O O' : CellTallies nD τ sig ℕ} (h : Above n O) (h' : Above n O') : Above n (O + O') := fun g i hp => by
  have : 0 < O g i + O' g i := hp
  rcases Nat.eq_zero_or_pos (O g i) with e | e
  · exact h' g i (by omega)
  · exact h g i e
theorem Above.mono {n n' : ℕ} {O : CellTallies nD τ sig ℕ} (h : Above n O) (hn : n' ≤ n) : Above n' O := fun g i hp =>
  ⟨(h g i hp).1, Nat.lt_of_le_of_lt hn (h g i hp).2⟩
theorem Above.single {n : ℕ} (d : Dev nD) (k : Key) (i a : ℕ) (hi : i < 32) (hn : n < lv (cell d k) i) :
    Above n (tallyAt (cell d k) i a) := fun g j hp => by
  rw [tallyAt_apply] at hp
  by_cases e : g = cell d k ∧ j = i
  · rw [e.1, e.2]; exact ⟨by rw [L_tc]; exact Finset.mem_range.mpr hi, hn⟩
  · rw [if_neg e] at hp; exact absurd hp (Nat.lt_irrefl 0)

theorem mayWait (c : Dev nD) (sm : SemLoc sig) (i n : ℕ) (O : CellTallies nD τ sig ℕ) (hi : i < 32)
    (hn : lv ((c : Thread nD τ), sm) i ≤ n) (h : Above n O) :
    (levAts L lv : sProp 𝕄) ⊢ MayWait (c : Thread nD τ) sm i O :=
  MayOwe.of_cut (L := L) (lev := lv) n
    (fun p hp => by rw [Finset.mem_singleton.mp hp, L_tc]; exact Finset.mem_range.mpr hi)
    (fun g u hg => (h g u hg).1)
    (fun p hp => by rw [Finset.mem_singleton.mp hp]; exact hn)
    (fun g u hg => (h g u hg).2)

/-- The credit of step `s` device `d` owes on channel `ch`. -/
def dueC (d : Dev nD) (s : ℕ) (ch : Fin 4) : CellTallies nD τ sig ℕ := tallyAt (cell (src d ch) (.cred ch)) s 1
/-- The copy of step `s` device `d` owes on channel `ch`. -/
def dueL (d : Dev nD) (s : ℕ) (ch : Fin 4) : CellTallies nD τ sig ℕ := tallyAt (cell (dst d ch) (.recv ch (par (s + 1)))) s N
/-- Four payments, the first due first, before `O`. -/
def four (f : Fin 4 → CellTallies nD τ sig ℕ) (O : CellTallies nD τ sig ℕ) : CellTallies nD τ sig ℕ :=
  O + f 3 + f 2 + f 1 + f 0
/-- What is left of four payments after the first `j`. -/
def left (f : Fin 4 → CellTallies nD τ sig ℕ) (O : CellTallies nD τ sig ℕ) : Fin 5 → CellTallies nD τ sig ℕ
  | 0 => O + f 3 + f 2 + f 1 + f 0
  | 1 => O + f 3 + f 2 + f 1
  | 2 => O + f 3 + f 2
  | 3 => O + f 3
  | 4 => O
theorem left_succ (f : Fin 4 → CellTallies nD τ sig ℕ) (O : CellTallies nD τ sig ℕ) (ch : Fin 4) :
    left f O ch.castSucc = left f O ch.succ + f ch := by fin_cases ch <;> rfl
theorem Above.left {n : ℕ} {f : Fin 4 → CellTallies nD τ sig ℕ} {O : CellTallies nD τ sig ℕ} (h : Above n O) (hf : ∀ ch, Above n (f ch)) (j : Fin 5) :
    Above n (left f O j) := by
  fin_cases j
  · exact (((h.add (hf 3)).add (hf 2)).add (hf 1)).add (hf 0)
  · exact ((h.add (hf 3)).add (hf 2)).add (hf 1)
  · exact (h.add (hf 3)).add (hf 2)
  · exact h.add (hf 3)
  · exact h

/-- What device `d` owes from step `s` on, `k` steps. -/
def due (d : Dev nD) : ℕ → ℕ → CellTallies nD τ sig ℕ
  | _, 0 => 0
  | s, k + 1 => left (dueC d s) (left (dueL d s) (due d (s + 1) k) 0) 0

theorem above_dueC (d : Dev nD) (s : ℕ) (ch : Fin 4) (hs : s < 32) (n : ℕ) (hn : n < 4 * s) : Above n (dueC d s ch) :=
  Above.single _ _ _ _ hs (by rw [lv_cred]; exact hn)
theorem above_dueL (d : Dev nD) (s : ℕ) (ch : Fin 4) (hs : s < 32) (n : ℕ) (hn : n < 4 * s + 2) : Above n (dueL d s ch) :=
  Above.single _ _ _ _ hs (by rw [lv_recv]; exact hn)
theorem above_due (d : Dev nD) : ∀ (k s : ℕ), s + k ≤ 32 → ∀ n, n < 4 * s → Above n (due d s k)
  | 0, _, _, n, _ => Above.zero n
  | k + 1, s, h, n, hn =>
    ((above_due d k (s + 1) (by omega) n (by omega)).left (fun ch => above_dueL d s ch (by omega) n (by omega)) 0).left
      (fun ch => above_dueC d s ch (by omega) n hn) 0

/-- What device `d` owes at the first copies. -/
def due0 (d : Dev nD) : CellTallies nD τ sig ℕ := left (dueL d 0) (due d 1 30) 0
/-- What device `d` owes at the start: both barrier signals, then the first copies and the steps. -/
def O₀ (d : Dev nD) : CellTallies nD τ sig ℕ :=
  due0 d + tallyAt (cell (prvD d) .bar) 0 1 + tallyAt (cell (nxtD d) .bar) 0 1

end Cert.KernelIdeal.Hand
-- ==== Proof.Atoms.lean ====
/- Running one piece of the body: what it needs, what it leaves; and the pieces that only touch memory. -/
module

public import proofs.«01_k».proof.Proof.Proto

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Facts₀ Facts
open Cert.KernelIdeal.Gen (k0_pay1 k0_pay5 k0_pay9 k0_pay306)

variable {F : FTy → Type} [FloatOps F]

local notation "𝕄" => MT nD τ sig ℕ (Elt F) ℕ UU ℕ

abbrev 𝒱₀ : Variants := Variants.none

/-- Device `d` may run `p` and end with `Q`. -/
abbrev Wp (d : Dev nD) {α : Type} (p : Prog (TpuEff nD τ sig (Elt F) Λ₀ .tc) α) (Q : α → sProp 𝕄) : sProp 𝕄 :=
  wp frame (wpE (defs₀ (F := F)) 𝒱₀ (d : Thread nD τ) none) Set.univ p Q

/-- Run on device `d` from `P`, the piece `p` ends with `P'`. -/
def Run (d : Dev nD) (P : sProp 𝕄) (p : Code F) (P' : sProp 𝕄) : Prop :=
  ∀ Q : PUnit → sProp 𝕄, P ⊢ iprop((P' -∗ Q ⟨⟩) -∗ Wp d p Q)

theorem Run.bind {d : Dev nD} {P P' P'' : sProp 𝕄} {p q : Code F} (h : Run d P p P') (h' : Run d P' q P'') :
    Run d P (p >>= fun _ => q) P'' := fun Q => by
  unfold Wp; rw [wp_bind]
  iintro HP Hk
  iapply (h fun _ => Wp d q Q) $$ HP
  iintro HP'
  iapply (h' Q) $$ HP' Hk

theorem Run.conseq {d : Dev nD} {P P₁ P' P₁' : sProp 𝕄} {p : Code F} (h : Run d P p P') (h₁ : P₁ ⊢ P) (h₂ : P' ⊢ P₁') :
    Run d P₁ p P₁' := fun Q => by
  iintro HP Hk
  ihave HP := h₁ $$ HP
  iapply (h Q) $$ HP
  iintro HP'
  iapply Hk
  iapply h₂; iexact HP'

theorem Run.frame {d : Dev nD} {P P' : sProp 𝕄} {p : Code F} (R : sProp 𝕄) (h : Run d P p P') :
    Run d iprop(P ∗ R) p iprop(P' ∗ R) := fun Q => by
  iintro ⟨HP, HR⟩ Hk
  iapply (h Q) $$ HP
  iintro HP'
  iapply Hk
  isplitl [HP'] <;> iassumption

/-- One proposition per channel. -/
abbrev all4 (A : Fin 4 → sProp 𝕄) : sProp 𝕄 := iprop(A 0 ∗ A 1 ∗ A 2 ∗ A 3)

theorem all4_mono {A B : Fin 4 → sProp 𝕄} (h : ∀ ch, A ch ⊢ B ch) : all4 A ⊢ all4 B :=
  BI.sep_mono (h 0) (BI.sep_mono (h 1) (BI.sep_mono (h 2) (h 3)))

theorem all4_sep (A B : Fin 4 → sProp 𝕄) : iprop(all4 A ∗ all4 B) ⊢ all4 fun ch => iprop(A ch ∗ B ch) := by
  iintro ⟨⟨Ha0, Ha1, Ha2, Ha3⟩, Hb0, Hb1, Hb2, Hb3⟩
  isplitl [Ha0 Hb0]; · isplitl [Ha0] <;> iassumption
  isplitl [Ha1 Hb1]; · isplitl [Ha1] <;> iassumption
  isplitl [Ha2 Hb2]; · isplitl [Ha2] <;> iassumption
  isplitl [Ha3] <;> iassumption

/-- The four channels in order: what they share goes from `T 0` to `T 4`, each channel's own from `A` to `B`. -/
theorem Run.chans {d : Dev nD} {f : Fin 4 → Code F} {k : Code F} {T : Fin 5 → sProp 𝕄} {A B : Fin 4 → sProp 𝕄} {P : sProp 𝕄}
    (h : ∀ ch, Run d iprop(T ch.castSucc ∗ A ch) (f ch) iprop(T ch.succ ∗ B ch))
    (hk : Run d iprop(T 4 ∗ all4 B) k P) : Run d iprop(T 0 ∗ all4 A) (chans f k) P := fun Q => by
  have h0 : Run d iprop(T 0 ∗ A 0) (f 0) iprop(T 1 ∗ B 0) := h 0
  have h1 : Run d iprop(T 1 ∗ A 1) (f 1) iprop(T 2 ∗ B 1) := h 1
  have h2 : Run d iprop(T 2 ∗ A 2) (f 2) iprop(T 3 ∗ B 2) := h 2
  have h3 : Run d iprop(T 3 ∗ A 3) (f 3) iprop(T 4 ∗ B 3) := h 3
  unfold Hand.chans Wp
  simp only [wp_bind]
  iintro ⟨HT, Ha0, Ha1, Ha2, Ha3⟩ Hk
  iapply (h0 _) $$ [HT Ha0]; · isplitl [HT] <;> iassumption
  iintro ⟨HT, Hb0⟩
  iapply (h1 _) $$ [HT Ha1]; · isplitl [HT] <;> iassumption
  iintro ⟨HT, Hb1⟩
  iapply (h2 _) $$ [HT Ha2]; · isplitl [HT] <;> iassumption
  iintro ⟨HT, Hb2⟩
  iapply (h3 _) $$ [HT Ha3]; · isplitl [HT] <;> iassumption
  iintro ⟨HT, Hb3⟩
  iapply (hk _) $$ [HT Hb0 Hb1 Hb2 Hb3] Hk
  isplitl [HT]; · iexact HT
  isplitl [Hb0]; · iexact Hb0
  isplitl [Hb1]; · iexact Hb1
  isplitl [Hb2] <;> iassumption

/-! ## Loads and stores of what is owned -/

section Owned

variable {α : Type} (d : Dev nD)

theorem wp_load_owned {Q : α → sProp 𝕄} {cs : CoreSpace} {s : Shape} {e : EltTy} {m : Memref sig .tc cs s e} {r : Rect s}
    {hl : m.view.LoadsAt r.toLoadRect} {X : s.Idx → Elt F e} {q : PosShare TreeShare}
    {k : (r.shape.Idx → Elt F e) → Prog (TpuEff nD τ sig (Elt F) Λ₀ .tc) α} :
    (owns (d : Thread nD τ) m q X : sProp 𝕄)
      ⊢ iprop((owns (d : Thread nD τ) m q X -∗ Wp d (k fun i => X (r.emb i)) Q) -∗ Wp d (.op (.load m r.toLoadRect hl) k) Q) := by
  unfold owns
  iintro ⟨%f, %hf, H⟩ Hk
  subst hf
  iapply (wp_load_rect 𝒱₀ (d : Thread nD τ) none Set.univ (m := m) (r := r) (View.set_slice_subset _ _)) $$ H
  iintro H
  iapply Hk
  iexists f; isplitr; · ipureintro; rfl
  iexact H

theorem wp_smem_owned {Q : α → sProp 𝕄} {s : Shape} {e : EltTy} {m : Memref sig .tc .smem s e} {r : Rect s} {hn : r.shape.numel = 1} {hp : e.packing = 1}
    {X : s.Idx → Elt F e} {q : PosShare TreeShare} {w : Elt F e} (hw : ∀ x : r.shape.Idx, X (r.emb x) = w)
    {k : Elt F e → Prog (TpuEff nD τ sig (Elt F) Λ₀ .tc) α} :
    (owns (d : Thread nD τ) m q X : sProp 𝕄)
      ⊢ iprop((owns (d : Thread nD τ) m q X -∗ Wp d (k w) Q) -∗ Wp d (smemLoad m r hn hp >>= k) Q) := by
  unfold owns smemLoad
  iintro ⟨%f, %hf, H⟩ Hk
  subst hf
  unfold Wp
  rw [wp_bind]
  iapply (wp_smemLoadElt 𝒱₀ (d : Thread nD τ) none Set.univ (m := m) (r := r) (View.set_slice_subset _ _)) $$ H
  iintro H
  rw [show (m.access r).read (Elt F) f (Shape.Idx.first (hn.symm ▸ Nat.one_pos)) = w from hw _, wp_ret]
  imodintro
  iapply Hk
  iexists f; isplitr; · ipureintro; rfl
  iexact H

/-- A slice owned apart. -/
theorem wp_load_piece {Q : α → sProp 𝕄} {cs : CoreSpace} {s : Shape} {e : EltTy} {m : Memref sig .tc cs s e} {r : Rect s} {h : ∀ a, r.stride a = 1}
    {hl : m.view.LoadsAt r.toLoadRect} {v : r.shape.Idx → Elt F e} {q : PosShare TreeShare}
    {k : (r.shape.Idx → Elt F e) → Prog (TpuEff nD τ sig (Elt F) Λ₀ .tc) α} :
    (owns (d : Thread nD τ) (m.slice r h) q v : sProp 𝕄)
      ⊢ iprop((owns (d : Thread nD τ) (m.slice r h) q v -∗ Wp d (k v) Q) -∗ Wp d (.op (.load m r.toLoadRect hl) k) Q) := by
  unfold owns
  iintro ⟨%f, %hf, H⟩ Hk
  subst hf
  iapply (wp_load_rect 𝒱₀ (d : Thread nD τ) none Set.univ (m := m) (r := r) (Finset.Subset.refl _)) $$ H
  iintro H
  iapply Hk
  iexists f; isplitr; · ipureintro; rfl
  iexact H

theorem wp_store_piece {Q : α → sProp 𝕄} {cs : CoreSpace} {s : Shape} {e : EltTy} {m : Memref sig .tc cs s e} {r : Rect s} {h : ∀ a, r.stride a = 1}
    {v w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} :
    (owns (d : Thread nD τ) (m.slice r h) fullShare v : sProp 𝕄)
      ⊢ iprop((owns (d : Thread nD τ) (m.slice r h) fullShare w -∗ Wp d (k ⟨⟩) Q) -∗ Wp d (.op (.store m r w Finset.univ hx hm) k) Q) := by
  unfold owns
  iintro ⟨%f, -, H⟩ Hk
  iapply (wp_store 𝒱₀ (d : Thread nD τ) none Set.univ (m := m) (r := r) (Mk := Finset.univ) (View.setOn_univ _).subset) $$ H
  iintro H
  iapply Hk
  iexists _; isplitr
  · ipureintro; exact View.read_write_univ (v := m.access r) f w
  iexact H

theorem wp_store_owned {Q : α → sProp 𝕄} {cs : CoreSpace} {s : Shape} {e : EltTy} {m : Memref sig .tc cs s e} {r : Rect s}
    {X : s.Idx → Elt F e} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} :
    (owns (d : Thread nD τ) m fullShare X : sProp 𝕄)
      ⊢ iprop((∀ Y, ⌜(∀ i, Y (r.emb i) = w i) ∧ ∀ j, j ∉ r.set → Y j = X j⌝ -∗ owns (d : Thread nD τ) m fullShare Y -∗ Wp d (k ⟨⟩) Q)
          -∗ Wp d (.op (.store m r w Finset.univ hx hm) k) Q) := by
  unfold owns
  iintro ⟨%f, %hf, H⟩ Hk
  subst hf
  iapply (wp_store 𝒱₀ (d : Thread nD τ) none Set.univ (m := m) (r := r) (Mk := Finset.univ)
    ((View.setOn_univ _).subset.trans (View.set_slice_subset _ _))) $$ H
  iintro H
  iapply Hk $$ %(m.view.read (Elt F) ((m.access r).write (Elt F) f w Finset.univ)) [] [H]
  · ipureintro
    refine ⟨fun i => congrFun (View.read_write_univ (v := m.access r) f w) i, fun j hj => ?_⟩
    exact View.read_slice_write_of_not_mem (v := m.view) r f w Finset.univ (fun h => hj (by rw [← Rect.map_emb_univ]; exact h))
  iexists _; isplitr; · ipureintro; rfl
  iexact H

end Owned

/-! ## What every piece shares -/

/-- The cells of all devices and the levels. -/
def ctx (V : Vals F) (K : Dev nD × Key → ℕ) : sProp 𝕄 :=
  iprop((bigSep Finset.univ fun x : Dev nD × Key => cellInv ER (rd V) (K x) (cell x.1 x.2)) ∗ levAts L lv)

instance ctx_persistent (V : Vals F) (K : Dev nD × Key → ℕ) : Persistent (ctx V K) := by
  unfold ctx; infer_instance

theorem ctx_cell (V : Vals F) (K : Dev nD × Key → ℕ) (e : Dev nD) (k : Key) :
    ctx V K ⊢ cellInv ER (rd V) (K (e, k)) (cell e k) := by
  have h : (bigSep Finset.univ fun x : Dev nD × Key => cellInv ER (rd V) (K x) (cell x.1 x.2) : sProp 𝕄)
      ⊢ cellInv ER (rd V) (K (e, k)) (cell e k) :=
    BI.bigSep_elim (Finset.mem_univ (e, k)) (Φ := fun x : Dev nD × Key => cellInv ER (rd V) (K x) (cell x.1 x.2))
  unfold ctx
  iintro ⟨H, -⟩
  iapply h; iexact H

theorem ctx_mayWait (V : Vals F) (K : Dev nD × Key → ℕ) (d : Dev nD) (sm : SemLoc sig) (i n : ℕ) (O : CellTallies nD τ sig ℕ)
    (hi : i < 32) (hn : lv ((d : Thread nD τ), sm) i ≤ n) (h : Above n O) : ctx V K ⊢ MayWait (d : Thread nD τ) sm i O := by
  unfold ctx
  iintro ⟨-, H⟩
  iapply (mayWait d sm i n O hi hn h); iexact H

attribute [irreducible] ctx

/-- The table of a channel's row blocks. -/
def tabV (d : Dev nD) (ch : Fin 4) : S31.Idx → BitVec 32 := fun i => BitVec.ofNat 32 (row d ch (i 0).val).val

theorem along_congr {ch ch' : Fin 4} (h : ∀ d, dst d ch = dst d ch') : ∀ (k : Nat) (d : Dev nD), along ch k d = along ch' k d
  | 0, _ => rfl
  | k + 1, d => by show along ch k (dst d ch) = along ch' k (dst d ch'); rw [h, along_congr h k]

theorem tabV_one (d : Dev nD) : tabV d 1 = tabV d 0 := funext fun i => by
  unfold tabV row; rw [along_congr (ch := 1) (ch' := 0) fun _ => rfl]
theorem tabV_three (d : Dev nD) : tabV d 3 = tabV d 2 := funext fun i => by
  unfold tabV row; rw [along_congr (ch := 3) (ch' := 2) fun _ => rfl]

variable (a : Ops) (V : Vals F) (K : Dev nD × Key → ℕ) (d : Dev nD)

/-- The staged operands a device reads again and again. -/
def opnds : sProp 𝕄 :=
  iprop(owns (d : Thread nD τ) a.fwd fullShare (tabV d 0) ∗ owns (d : Thread nD τ) a.rev fullShare (tabV d 2)
    ∗ owns (d : Thread nD τ) a.x fullShare (V.x d) ∗ owns (d : Thread nD τ) a.w fullShare (V.w d))

theorem opnds_tbl (ch : Fin 4) : opnds a V d
    ⊢ iprop(owns (d : Thread nD τ) (a.tbl ch) fullShare (tabV d ch)
      ∗ (owns (d : Thread nD τ) (a.tbl ch) fullShare (tabV d ch) -∗ opnds a V d)) := by
  have hf : opnds a V d ⊢ iprop(owns (d : Thread nD τ) a.fwd fullShare (tabV d 0)
      ∗ (owns (d : Thread nD τ) a.fwd fullShare (tabV d 0) -∗ opnds a V d)) := by
    unfold opnds
    iintro ⟨H, Hr⟩
    isplitl [H]; · iexact H
    iintro H; isplitl [H] <;> iassumption
  have hr : opnds a V d ⊢ iprop(owns (d : Thread nD τ) a.rev fullShare (tabV d 2)
      ∗ (owns (d : Thread nD τ) a.rev fullShare (tabV d 2) -∗ opnds a V d)) := by
    unfold opnds
    iintro ⟨Hl, H, Hr⟩
    isplitl [H]; · iexact H
    iintro H; isplitl [Hl]; · iexact Hl
    isplitl [H] <;> iassumption
  fin_cases ch
  · exact hf
  · show _ ⊢ iprop(owns (Val := Elt F) (d : Thread nD τ) (a.tbl 1) fullShare (tabV d 1) ∗ (owns (Val := Elt F) (d : Thread nD τ) (a.tbl 1) fullShare (tabV d 1) -∗ _))
    rw [tabV_one]; exact hf
  · exact hr
  · show _ ⊢ iprop(owns (Val := Elt F) (d : Thread nD τ) (a.tbl 3) fullShare (tabV d 3) ∗ (owns (Val := Elt F) (d : Thread nD τ) (a.tbl 3) fullShare (tabV d 3) -∗ _))
    rw [tabV_three]; exact hr

/-- What every piece shares: the cells and levels, the operands, and what the device owes. -/
abbrev Base (O : CellTallies nD τ sig ℕ) : sProp 𝕄 :=
  iprop(ctx V K ∗ opnds a V d ∗ ∃ W, owes (d : Thread nD τ) O W)

theorem off1_word (r : Dev nD) : k0_off1 (BitVec.ofNat 32 r.val) = ![128 * r.val, 0] := by revert r; decide
theorem chk1_word (r : Dev nD) : k0_chk1 (BitVec.ofNat 32 r.val) := by
  unfold k0_chk1; rw [off1_word]; exact inb_rows r
theorem off125_eq (r : Dev nD) : k0_off125 r = ![128 * r.val, 0] := by revert r; decide

theorem load_rows (r : Dev nD) {off : Fin 2 → Nat} (h : off = ![128 * r.val, 0])
    (inb : ∀ b, off b + S128x128.size b ≤ S4096x128.size b) :
    (fun i => V.x d ((Rect.unit (s := S4096x128) off S128x128.size inb).emb i)) = V.xb d r := by subst h; rfl

theorem st_val (s : Nat) (hs : s < 31) : (st s).val = s := Nat.mod_eq_of_lt hs

theorem tab_at (s : Nat) (hs : s < 31) (ch : Fin 4) (x : (stepR s).shape.Idx) :
    tabV d ch ((stepR s).emb x) = BitVec.ofNat 32 (row d ch s).val := by
  unfold tabV
  have h : (((stepR s).emb x) 0).val = s := by
    have hx : (x 0).val < 1 := (x 0).isLt
    have : (((stepR s).emb x) 0).val = (st s).val + 1 * (x 0).val := Rect.emb_apply _ _ _
    rw [this, st_val s hs]; omega
  rw [h]

/-! ## The products -/

/-- The start of a product: the row block's number, then the two operands. -/
theorem wp_operands {α : Type} (s : Nat) (hs : s < 31) (ch : Fin 4) {Q : α → sProp 𝕄}
    {k : Vec F S128x128 .f32 → Vec F S128x512 .f32 → Prog (TpuEff nD τ sig (Elt F) Λ₀ .tc) α} :
    opnds a V d ⊢ iprop((opnds a V d -∗ Wp d (k (V.xb d (row d ch s)) (V.wb d ch)) Q)
      -∗ Wp d (do
        let v : Elt F .i32 ← smemLoad (a.tbl ch) (stepR s) numel1_S1 rfl
        have hw : k0_chk1 v := (← Prog.lift (TpuEff.assume (k0_chk1 v) (k0_chk1.dec v))).down
        let vx : Vec F S128x128 .f32 ← Prog.lift (.load a.x (Rect.unit (s := S4096x128) (k0_off1 v) S128x128.size (k0_off1_inb v hw)).toLoadRect (View.loadsAt_vmem h_S128x128))
        let vw : Vec F S128x512 .f32 ← Prog.lift (.load a.w (colsR ch).toLoadRect (View.loadsAt_vmem h_S128x512))
        k vx vw) Q) := by
  iintro Hop Hk
  ihave Hop := opnds_tbl a V d ch $$ Hop
  icases Hop with ⟨Ht, Hop⟩
  iapply (wp_smem_owned d (tab_at d s hs ch)) $$ Ht
  iintro Ht
  ihave Hop := Hop $$ Ht
  simp only [Prog.lift, Prog.bind_op, Prog.bind_ret, wp_assume_of _ _ _ _ (d := k0_chk1.dec _) (chk1_word _)]
  unfold opnds
  icases Hop with ⟨Hf, Hr, Hx, Hw⟩
  iapply (wp_load_owned d) $$ Hx
  iintro Hx
  rw [load_rows V d (row d ch s) (off1_word _)]
  iapply (wp_load_owned d) $$ Hw
  iintro Hw
  iapply Hk
  isplitl [Hf]; · iexact Hf
  isplitl [Hr]; · iexact Hr
  isplitl [Hx] <;> iassumption

theorem dot0_run (O : CellTallies nD τ sig ℕ) (ch : Fin 4) :
    Run d iprop(Base a V K d O ∗ slotAny (F := F) d ch 0) (dot0 a ch) iprop(Base a V K d O ∗ slotIs d ch 0 (acc V ch 0 d)) := fun Q => by
  iintro ⟨⟨#Hctx, Hop, HO⟩, %v, Hs⟩ Hk
  iapply (wp_operands a V d 0 (by decide) ch (k := fun vx vw => do
    let _ : Vec F S1x1x128x512 .f32 ← Prog.lift (.load commM (slotR ch 0).toLoadRect (View.loadsAt_vmem h_S1x1x128x512))
    Prog.lift (.store commM (slotR ch 0) (k0_pay1 vx vw) Finset.univ (View.stores_vmem_bits_univ h_S1x1x128x512 rfl) (.inl rfl)))) $$ Hop
  iintro Hop
  simp only [Prog.lift, Prog.bind_op, Prog.bind_ret]
  iapply (wp_load_piece d) $$ Hs
  iintro Hs
  iapply (wp_store_piece d) $$ Hs
  iintro Hs
  unfold Wp
  rw [wp_ret]; imodintro
  iapply Hk
  isplitr [Hs]
  · isplitr; · iexact Hctx
    isplitl [Hop] <;> iassumption
  iexact Hs

theorem dot_run (O : CellTallies nD τ sig ℕ) (s : Nat) (hs : s < 31) (ch : Fin 4) :
    Run d iprop(Base a V K d O ∗ pbAny (F := F) d ch) (dot a s ch) iprop(Base a V K d O ∗ pbIs d ch (part V d ch s)) := fun Q => by
  iintro ⟨⟨#Hctx, Hop, HO⟩, %v, Hs⟩ Hk
  iapply (wp_operands a V d s hs ch (k := fun vx vw => do
    let _ : Vec F S1x128x512 .f32 ← Prog.lift (.load pbufM (pbufR ch).toLoadRect (View.loadsAt_vmem h_S1x128x512))
    Prog.lift (.store pbufM (pbufR ch) (k0_pay5 vx vw) Finset.univ (View.stores_vmem_bits_univ h_S1x128x512 rfl) (.inl rfl)))) $$ Hop
  iintro Hop
  simp only [Prog.lift, Prog.bind_op, Prog.bind_ret]
  iapply (wp_load_piece d) $$ Hs
  iintro Hs
  iapply (wp_store_piece d) $$ Hs
  iintro Hs
  unfold Wp
  rw [wp_ret]; imodintro
  iapply Hk
  isplitr [Hs]
  · isplitr; · iexact Hctx
    isplitl [Hop] <;> iassumption
  iexact Hs

theorem dotOwn_run (O : CellTallies nD τ sig ℕ) (ch : Fin 4) :
    Run d iprop(Base a V K d O ∗ pbAny (F := F) d ch) (dotOwn a d ch)
      iprop(Base a V K d O ∗ pbIs d ch (k0_pay5 (V.xb d d) (V.wb d ch))) := fun Q => by
  unfold dotOwn Base opnds
  iintro ⟨⟨#Hctx, ⟨Hf, Hr, Hx, Hw⟩, HO⟩, %v, Hs⟩ Hk
  simp only [Prog.lift, Prog.bind_op, Prog.bind_ret]
  iapply (wp_load_owned d) $$ Hx
  iintro Hx
  rw [load_rows V d d (off125_eq d)]
  iapply (wp_load_owned d) $$ Hw
  iintro Hw
  iapply (wp_load_piece d) $$ Hs
  iintro Hs
  iapply (wp_store_piece d) $$ Hs
  iintro Hs
  unfold Wp
  rw [wp_ret]; imodintro
  iapply Hk
  isplitr [Hs]
  · isplitr; · iexact Hctx
    isplitr [HO]
    · isplitl [Hf]; · iexact Hf
      isplitl [Hr]; · iexact Hr
      isplitl [Hx] <;> iassumption
    iexact HO
  iexact Hs

/-! ## The sums -/

theorem accum_run (P : sProp 𝕄) (ch : Fin 4) (p : Fin 2) (u : Vec F S1x1x128x512 .f32) (v : Vec F S1x128x512 .f32) :
    Run d iprop(P ∗ slotIs d ch p u ∗ pbIs d ch v) (accum ch p) iprop(P ∗ slotIs d ch p (k0_pay9 u v) ∗ pbIs d ch v) := fun Q => by
  unfold accum
  iintro ⟨HP, Hs, Hp⟩ Hk
  simp only [Prog.lift, Prog.bind_op, Prog.bind_ret]
  iapply (wp_load_piece d) $$ Hs
  iintro Hs
  iapply (wp_load_piece d) $$ Hp
  iintro Hp
  iapply (wp_load_piece d) $$ Hs
  iintro Hs
  iapply (wp_store_piece d) $$ Hs
  iintro Hs
  unfold Wp
  rw [wp_ret]; imodintro
  iapply Hk
  isplitl [HP]; · iexact HP
  isplitl [Hs] <;> iassumption

/-- The result with its first `j` channels written. -/
def outTo (j : Fin 5) : sProp 𝕄 :=
  iprop(∃ X, owns (d : Thread nD τ) a.o fullShare X ∗ ⌜∀ ch : Fin 4, ch.val < j.val → ∀ i, X ((colsR ch).emb i) = fin V d ch i⌝)

theorem cols_disj (ch ch' : Fin 4) (h : ch' ≠ ch) (i : (colsR ch').shape.Idx) : (colsR ch').emb i ∉ (colsR ch).set := by
  rw [Rect.mem_set_unit]
  intro hm
  have h1 := hm 1
  have hi : (i 1).val < 512 := (i 1).isLt
  have e : (((colsR ch').emb i) 1).val = 512 * ch'.val + 1 * (i 1).val := Rect.emb_apply _ _ _
  have h2 : 512 * ch.val ≤ (((colsR ch').emb i) 1).val ∧ (((colsR ch').emb i) 1).val < 512 * ch.val + 512 := h1
  exact h (Fin.ext (by omega))

theorem finish_run (P : sProp 𝕄) (ch : Fin 4) :
    Run d iprop((P ∗ outTo a V d ch.castSucc) ∗ slotIs d ch 1 (acc V ch 30 (src d ch)) ∗ pbIs d ch (k0_pay5 (V.xb d d) (V.wb d ch)))
      (finish a ch)
      iprop((P ∗ outTo a V d ch.succ) ∗ slotIs d ch 1 (acc V ch 30 (src d ch)) ∗ pbIs d ch (k0_pay5 (V.xb d d) (V.wb d ch))) := fun Q => by
  unfold finish outTo
  iintro ⟨⟨HP, %X, Ho, %hX⟩, Hs, Hp⟩ Hk
  simp only [Prog.lift, Prog.bind_op, Prog.bind_ret]
  iapply (wp_load_piece d) $$ Hs
  iintro Hs
  iapply (wp_load_piece d) $$ Hp
  iintro Hp
  iapply (wp_load_owned d) $$ Ho
  iintro Ho
  iapply (wp_store_owned d) $$ Ho
  iintro %Y %hY Ho
  unfold Wp
  rw [wp_ret]; imodintro
  iapply Hk
  isplitl [HP Ho]
  · isplitl [HP]; · iexact HP
    iexists Y
    isplitl [Ho]; · iexact Ho
    ipureintro
    intro ch' hlt i
    by_cases e : ch' = ch
    · subst e; exact hY.1 i
    · rw [hY.2 _ (cols_disj ch ch' e i)]
      have h1 : ch'.val < ch.val + 1 := hlt
      have h2 : ch'.val ≠ ch.val := fun h => e (Fin.ext h)
      exact hX ch' (show ch'.val < ch.val by omega) i
  isplitl [Hs] <;> iassumption

end Cert.KernelIdeal.Hand
-- ==== Proof.Talk.lean ====
/- The pieces of the body that talk: waits, copies and signals. -/
module

public import proofs.«01_k».proof.Proof.Atoms

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Facts₀ Facts
open Cert.KernelIdeal.Gen (k0_pay1 k0_pay5 k0_pay9 k0_pay306)

variable {F : FTy → Type} [FloatOps F]

local notation "𝕄" => MT nD τ sig ℕ (Elt F) ℕ UU ℕ

variable (a : Ops) (V : Vals F) (K : Dev nD × Key → ℕ) (d : Dev nD)

/-! ## Waits -/

/-- A wait on an own cell other than the barrier: what its payer handed over. -/
theorem wait_run (O : CellTallies nD τ sig ℕ) (k : Key) (r i n : ℕ) (hk : k ≠ .bar) (hr : r < rounds k) (hi : i < 32)
    (hn : lv (cell d k) i ≤ n) (hO : Above n O) {w : TpuEff nD τ sig (Elt F) Λ₀ .tc PUnit}
    (hw : ∀ R : PUnit → sProp 𝕄, wpE (defs₀ (F := F)) 𝒱₀ (d : Thread nD τ) none Set.univ w R = waitSpec (d : Thread nD τ) Set.univ k.loc (unit k) R) :
    Run d iprop(Base a V K d O ∗ cred (tallyAt (cell d k) i (unit k)) ∗ atPos ER (cell d k) r ∅ 0) (Prog.lift w)
      iprop(Base a V K d O ∗ (atPos ER (cell d k) (r + 1) ∅ 0 ∗ reached ER (cell d k) (r + 1)) ∗ pay V d r true k) := fun Q => by
  have hm : ctx V K ⊢ MayWait (d : Thread nD τ) k.loc i O :=
    ctx_mayWait V K d k.loc i n O hi hn hO
  iintro ⟨⟨#Hctx, Hop, %W, HO⟩, Hc, Hat⟩ Hk
  unfold Wp Prog.lift
  iapply (Rounds.wp_wait_rest_token 𝒱₀ ER (rd V) (d : Thread nD τ) none (κ := K (d, k)) hw (Set.mem_univ _) i (O := O) (W := W)
    (R := r) (m := 0) (T := ∅)
    (by rw [expect_cell V d k r hr, payers_single hk, Finset.card_singleton, one_mul, zero_add])) $$ [Hc HO Hat]
  · isplitr; · iapply (ctx_cell V K d k); iexact Hctx
    isplitl [Hc]; · iexact Hc
    isplitl [HO]; · iexact HO
    isplitr; · iapply hm; iexact Hctx
    iexact Hat
  rw [rest_cell V d k r hr hk, wp_ret]
  iintro ⟨HO, Hat, Hre, Hp⟩
  imodintro
  iapply Hk
  isplitl [Hop HO]
  · isplitr; · iexact Hctx
    isplitl [Hop]; · iexact Hop
    iexists _; iexact HO
  isplitl [Hat Hre]
  · isplitl [Hat] <;> iassumption
  iexact Hp

/-- The step a receive cell's round is of. -/
theorem step_of_round (s : ℕ) : 2 * (s / 2) + (1 - (par (s + 1)).val) = s := by
  show 2 * (s / 2) + (1 - (s + 1) % 2) = s; omega

theorem recv_lt (s : ℕ) (hs : s < 31) (ch : Fin 4) : s / 2 < rounds (.recv ch (par (s + 1))) := by
  show s / 2 < 15 + (s + 1) % 2; omega
theorem send_lt (s : ℕ) (hs : s < 31) (ch : Fin 4) : s / 2 < rounds (.send ch (par s)) := by
  show s / 2 < 16 - s % 2; omega

/-- The landing of copy `t`. -/
theorem waitRecv_run (O : CellTallies nD τ sig ℕ) (t : ℕ) (ht : t < 31) (ch : Fin 4) (hO : Above (4 * t + 2) O) :
    Run d iprop(Base a V K d O ∗ cred (tallyAt (cell d (.recv ch (par (t + 1)))) t N) ∗ atPos ER (cell d (.recv ch (par (t + 1)))) (t / 2) ∅ 0)
      (waitRecv ch (par (t + 1)))
      iprop(Base a V K d O ∗ (atPos ER (cell d (.recv ch (par (t + 1)))) (t / 2 + 1) ∅ 0 ∗ reached ER (cell d (.recv ch (par (t + 1)))) (t / 2 + 1))
        ∗ slotIs d ch (par (t + 1)) (acc V ch t (src d ch)) ∗ reached ER (cell (src d ch) (.cred ch)) t) := by
  have h := wait_run a V K d O (.recv ch (par (t + 1))) (t / 2) t (4 * t + 2) (by simp) (recv_lt t ht ch) (by omega)
    (lv_recv d ch _ t).le hO (w := .waitDma2 (recvS ch (par (t + 1))) (slotM ch (1 - par (t + 1))) (slotM ch (par (t + 1))) ((View.wordExact_bits rfl).reshape _ _) ((View.wordExact_bits rfl).reshape _ _))
    (wpE_waitDma2_eq 𝒱₀ (d : Thread nD τ) none Set.univ)
  unfold pay at h
  dsimp only at h
  rw [step_of_round] at h
  exact h

/-- The end of copy `t`'s reading. -/
theorem waitSend_run (O : CellTallies nD τ sig ℕ) (t : ℕ) (ht : t < 31) (ch : Fin 4) (hO : Above 0 O) :
    Run d iprop(Base a V K d O ∗ cred (tallyAt (cell d (.send ch (par t))) 0 N) ∗ atPos ER (cell d (.send ch (par t))) (t / 2) ∅ 0)
      (waitSend ch (par t))
      iprop(Base a V K d O ∗ (atPos ER (cell d (.send ch (par t))) (t / 2 + 1) ∅ 0 ∗ reached ER (cell d (.send ch (par t))) (t / 2 + 1))
        ∗ slotAny (F := F) d ch (par t)) :=
  wait_run a V K d O (.send ch (par t)) (t / 2) 0 0 (by simp) (send_lt t ht ch) (by omega)
    (lv_send d ch _ 0).le hO (w := .waitDma2 (sendS ch (par t)) (slotM ch (1 - par t)) (slotM ch (par t)) ((View.wordExact_bits rfl).reshape _ _) ((View.wordExact_bits rfl).reshape _ _))
    (wpE_waitDma2_eq 𝒱₀ (d : Thread nD τ) none Set.univ)

/-- The credit for copy `t + 1`. -/
theorem waitCred_run (O : CellTallies nD τ sig ℕ) (t : ℕ) (ht : t < 30) (ch : Fin 4) (hO : Above (4 * (t + 1)) O) :
    Run d iprop(Base a V K d O ∗ cred (tallyAt (cell d (.cred ch)) (t + 1) 1) ∗ atPos ER (cell d (.cred ch)) t ∅ 0)
      (semWaitWord (credS ch) 1#32)
      iprop(Base a V K d O ∗ (atPos ER (cell d (.cred ch)) (t + 1) ∅ 0 ∗ reached ER (cell d (.cred ch)) (t + 1))
        ∗ slotAny (F := F) (dst d ch) ch (par t) ∗ reached ER (cell (dst d ch) (.recv ch (par t))) ((t + 1) / 2)) :=
  wait_run a V K d O (.cred ch) t (t + 1) (4 * (t + 1)) (by simp) ht (by omega)
    (lv_cred d ch _).le hO (wpE_semWait_eq 𝒱₀ (d : Thread nD τ) none Set.univ (sem := credS ch) (k := 1))

/-! ## Signals -/

/-- A payment of one unit on a regular cell of device `e`. -/
theorem signal_run (O : CellTallies nD τ sig ℕ) (e : Dev nD) (sm : Sem sig) (κ r i : ℕ) (b : Bool)
    (hI : ctx V K ⊢ cellInv ER (rd V) κ ((e : Thread nD τ), .reg sm))
    (hb : b ∈ (rd V).duties ((e : Thread nD τ), .reg sm) r) (ha : (rd V).amount ((e : Thread nD τ), .reg sm) r b = 1) :
    Run d iprop(Base a V K d (O + tallyAt ((e : Thread nD τ), .reg sm) i 1) ∗ dutyTok ER ((e : Thread nD τ), .reg sm) r b
        ∗ reached ER ((e : Thread nD τ), .reg sm) r ∗ (rd V).payload ((e : Thread nD τ), .reg sm) r b)
      (semSignalWord e sm 1#32) (Base a V K d O) := fun Q => by
  simp only [semSignalWord, Prog.lift]
  rw [show (1#32 : BitVec 32).toInt = ((1 : ℕ) : Int) from rfl]
  iintro ⟨⟨#Hctx, Hop, %W, HO⟩, Ht, Hr, Hp⟩ Hk
  ihave HI := hI $$ Hctx
  unfold Wp
  iapply (Rounds.wp_signal 𝒱₀ ER (rd V) (d : Thread nD τ) none (dst := (e : Thread nD τ)) (sem := sm) (κ := κ) hb ha i O rfl) $$ [HI HO Ht Hr Hp]
  · isplitl [HI]; · iexact HI
    isplitl [HO]; · iexact HO
    isplitl [Ht]; · iexact Ht
    isplitl [Hp]; · iexact Hp
    iexact Hr
  rw [wp_ret]
  iintro HO
  imodintro
  iapply Hk
  isplitr; · iexact Hctx
  isplitl [Hop]; · iexact Hop
  iexists _; iexact HO

/-- The credit of step `t + 1`, to the device that sends to this one. -/
theorem signalCred_run (O : CellTallies nD τ sig ℕ) (t : ℕ) (ht : t < 30) (ch : Fin 4) :
    Run d iprop(Base a V K d (O + dueC d (t + 1) ch) ∗ dutyTok ER (cell (src d ch) (.cred ch)) t true ∗ reached ER (cell (src d ch) (.cred ch)) t
        ∗ slotAny (F := F) d ch (par t) ∗ reached ER (cell d (.recv ch (par t))) ((t + 1) / 2))
      (semSignalWord (src d ch) (credS ch) 1#32) (Base a V K d O) := by
  have h := signal_run a V K d O (src d ch) (credS ch) (K (src d ch, .cred ch)) t (t + 1) true
    (ctx_cell V K (src d ch) (.cred ch)) (mem_duties V (src d ch) (.cred ch) t ht) (amount_cell V (src d ch) (.cred ch) t true)
  rw [show (rd V).payload ((src d ch : Thread nD τ), .reg (credS ch)) t true = pay V (src d ch) t true (.cred ch)
    from payload_cell V (src d ch) (.cred ch) t true] at h
  unfold pay at h
  dsimp only at h
  rw [dst_src] at h
  exact h

/-! ## Copies -/

theorem read_copied {sp : Space} {s s' : Shape} {e : EltTy} (v v₀ : View sig .tc sp s e) (h : s'.numel = s.numel)
    (f : v.ty.Contents (Elt F)) (f₀ : v₀.ty.Contents (Elt F)) :
    v.read (Elt F) ((v.reshape s' h).write (Elt F) f ((v₀.reshape s' h).read (Elt F) f₀) Finset.univ) = v₀.read (Elt F) f₀ := by
  funext i
  have h1 := congrFun (View.read_write_univ (v := v.reshape s' h) f ((v₀.reshape s' h).read (Elt F) f₀)) ((Shape.reshapeEquiv h).symm i)
  have h2 : ∀ (u : View sig .tc sp s e) (g : u.ty.Contents (Elt F)),
      (u.reshape s' h).read (Elt F) g ((Shape.reshapeEquiv h).symm i) = u.read (Elt F) g i := fun u g => by
    show u.read (Elt F) g (Shape.reshapeEquiv h ((Shape.reshapeEquiv h).symm i)) = _
    rw [Equiv.apply_symm_apply]
  rw [h2, h2] at h1
  exact h1

theorem copy_eq (e : Dev nD) (ch : Fin 4) {p p' : Fin 2} (h : 1 - p = p') :
    (copy e ch p : Code F) = Prog.lift (.enqueueDma (slotM ch p) (.remote (Dev.tc e) (slotM ch p') (.dma (sendS ch p))) (.dma (recvS ch p')) ((View.wordExact_bits rfl).reshape _ _) ((View.wordExact_bits rfl).reshape _ _) ⟨⟨rfl, Or.inl rfl⟩, trivial⟩) := by
  subst h; rfl

/-- A slot's elements, as the copies name them. -/
abbrev slotPt (e : Dev nD) (ch : Fin 4) (p : Fin 2) (f : (slotM ch p).view.ty.Contents (Elt F)) : sProp 𝕄 :=
  (slotM ch p).view.loc (e : Thread nD τ) ↦[(slotM ch p).view.set]{fullShare} f

theorem slot_open (e : Dev nD) (ch : Fin 4) (p : Fin 2) (v : Vec F S1x1x128x512 .f32) :
    slotIs e ch p v ⊢ iprop(∃ f : (slotM ch p).view.ty.Contents (Elt F), ⌜(slM ch p).view.read (Elt F) f = v⌝ ∗ slotPt e ch p f) := by
  unfold slotIs owns slotPt
  rw [show (slotM ch p).view.set = (slM ch p).view.set from View.set_reshape _ _]

theorem slot_close (e : Dev nD) (ch : Fin 4) (p : Fin 2) (v : Vec F S1x1x128x512 .f32)
    (f : (slotM ch p).view.ty.Contents (Elt F)) (h : (slM ch p).view.read (Elt F) f = v) : slotPt e ch p f ⊢ slotIs e ch p v := by
  unfold slotIs owns slotPt
  rw [show (slotM ch p).view.set = (slM ch p).view.set from View.set_reshape _ _]
  iintro H
  iexists f; isplitr; · ipureintro; exact h
  iexact H

theorem slot_copied (ch : Fin 4) (p p' : Fin 2) (f : (slotM ch p').view.ty.Contents (Elt F)) (f₀ : (slotM ch p).view.ty.Contents (Elt F)) :
    (slM ch p').view.read (Elt F) ((slotM ch p').view.write (Elt F) f ((slotM ch p).view.read (Elt F) f₀) Finset.univ)
      = (slM ch p).view.read (Elt F) f₀ :=
  read_copied (slM ch p').view (slM ch p).view _ f f₀

theorem send_pays (V : Vals F) (s : ℕ) (ch : Fin 4) (fs : (slotM ch (par s)).view.ty.Contents (Elt F)) :
    slotPt d ch (par s) fs ⊢ (rd V).payload (cell d (.send ch (par s))) (s / 2) true := by
  rw [payload_cell]
  show _ ⊢ slotAny d ch (par s)
  iintro H
  iexists _
  iapply (slot_close d ch (par s) _ fs rfl)
  iexact H

theorem recv_pays (V : Vals F) (s : ℕ) (ch : Fin 4) (fs : (slotM ch (par s)).view.ty.Contents (Elt F))
    (hfs : (slM ch (par s)).view.read (Elt F) fs = acc V ch s d) (fd : (slotM ch (par (s + 1))).view.ty.Contents (Elt F)) :
    iprop(slotPt (dst d ch) ch (par (s + 1))
        ((slotM ch (par (s + 1))).view.write (Elt F) fd ((slotM ch (par s)).view.read (Elt F) fs) Finset.univ)
      ∗ reached ER (cell d (.cred ch)) s)
      ⊢ ((rd V).payload (cell (dst d ch) (.recv ch (par (s + 1)))) (s / 2) true : sProp 𝕄) := by
  rw [payload_cell]; unfold pay; dsimp only
  rw [step_of_round, src_dst]
  iintro ⟨H, Hr⟩
  isplitl [H]
  · iapply (slot_close (dst d ch) ch (par (s + 1)) _ _ ((slot_copied ch _ _ fd fs).trans hfs))
    iexact H
  iexact Hr

/-- Copy `s` on channel `ch`. -/
theorem copy_run (O : CellTallies nD τ sig ℕ) (s : ℕ) (hs : s < 31) (ch : Fin 4) :
    Run d iprop(Base a V K d (O + dueL d s ch) ∗ slotIs d ch (par s) (acc V ch s d) ∗ slotAny (F := F) (dst d ch) ch (par (s + 1))
        ∗ (dutyTok ER (cell d (.send ch (par s))) (s / 2) true ∗ reached ER (cell d (.send ch (par s))) (s / 2))
        ∗ (dutyTok ER (cell (dst d ch) (.recv ch (par (s + 1)))) (s / 2) true ∗ reached ER (cell (dst d ch) (.recv ch (par (s + 1)))) (s / 2))
        ∗ reached ER (cell d (.cred ch)) s)
      (copy (dst d ch) ch (par s))
      iprop(Base a V K d O ∗ cred (tallyAt (cell d (.send ch (par s))) 0 N)) := fun Q => by
  rw [copy_eq _ _ (one_sub_par s)]
  iintro ⟨⟨#Hctx, Hop, %W, HO⟩, Hs, ⟨%v, Hd⟩, ⟨Ht1, Hr1⟩, ⟨Ht2, Hr2⟩, Hrc⟩ Hk
  ihave Hs := (slot_open d ch (par s) _) $$ Hs
  ihave Hd := (slot_open (dst d ch) ch (par (s + 1)) v) $$ Hd
  icases Hs with ⟨%fs, %hfs, Hs⟩
  icases Hd with ⟨%fd, -, Hd⟩
  ihave HI1 := (ctx_cell V K d (.send ch (par s))) $$ Hctx
  ihave HI2 := (ctx_cell V K (dst d ch) (.recv ch (par (s + 1)))) $$ Hctx
  unfold Wp Prog.lift
  iapply (Rounds.wp_send_pointsTo_with 𝒱₀ ER (rd V) (d : Thread nD τ) none (c' := (dst d ch : Thread nD τ)) (src := slotM ch (par s))
    (dst := slotM ch (par (s + 1))) (sS := .dma (sendS ch (par s))) (sem := .dma (recvS ch (par (s + 1)))) (q := fullShare) (fs := fs)
    (fd := fd) (F := reached ER (cell d (.cred ch)) s)
    (κ₁ := K (d, .send ch (par s))) (κ₂ := K (dst d ch, .recv ch (par (s + 1)))) (r₁ := s / 2) (r₂ := s / 2) (d₁ := true) (d₂ := true)
    (mem_duties V d (.send ch (par s)) _ (send_lt s hs ch)) (mem_duties V (dst d ch) (.recv ch (par (s + 1))) _ (recv_lt s hs ch))
    s 0 N rfl (amount_cell V d (.send ch (par s)) _ true) (amount_cell V (dst d ch) (.recv ch (par (s + 1))) _ true) O rfl
    (send_pays d V s ch fs) (recv_pays d V s ch fs hfs fd))
    $$ [HI1 HI2 Hs Hd HO Ht1 Hr1 Ht2 Hr2 Hrc]
  · isplitl [HI1]; · iexact HI1
    isplitl [HI2]; · iexact HI2
    isplitl [Hs]; · iexact Hs
    isplitl [Hd Hrc]
    · isplitl [Hd]; · iexact Hd
      iexact Hrc
    isplitl [HO]; · iexact HO
    isplitl [Ht1]; · iexact Ht1
    isplitl [Hr1]; · iexact Hr1
    isplitl [Ht2]; · iexact Ht2
    iexact Hr2
  rw [wp_ret]
  iintro ⟨Hc, HO⟩
  imodintro
  iapply Hk
  isplitr [Hc]
  · isplitr; · iexact Hctx
    isplitl [Hop]; · iexact Hop
    iexists _; iexact HO
  iexact Hc

end Cert.KernelIdeal.Hand
-- ==== Proof.Steps.lean ====
/- The steps of the ring: one step, then all of them. -/
module

public import proofs.«01_k».proof.Proof.Talk

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Facts₀ Facts
open Cert.KernelIdeal.Gen (k0_pay1 k0_pay5 k0_pay9 k0_pay306)

variable {F : FTy → Type} [FloatOps F]

local notation "𝕄" => MT nD τ sig ℕ (Elt F) ℕ UU ℕ

variable (a : Ops) (V : Vals F) (K : Dev nD × Key → ℕ) (d : Dev nD)

/-! ## What a channel holds -/

/-- The position of an own cell. -/
abbrev at_ (k : Key) (r : ℕ) : sProp 𝕄 := atPos ER (cell d k) r ∅ 0
/-- The position of an own cell, and that it is reached. -/
abbrev atR (k : Key) (r : ℕ) : sProp 𝕄 := iprop(atPos ER (cell d k) r ∅ 0 ∗ reached ER (cell d k) r)

/-- What copy `s` needs from the launch: the right to pay at both ends, and the right to wait for the landing of
    the copy that comes in at the same step. -/
def copyTok (ch : Fin 4) (s : ℕ) : sProp 𝕄 :=
  iprop(dutyTok ER (cell d (.send ch (par s))) (s / 2) true ∗ dutyTok ER (cell (dst d ch) (.recv ch (par (s + 1)))) (s / 2) true
    ∗ cred (tallyAt (cell d (.recv ch (par (s + 1)))) s N))
/-- What the credit before copy `t + 1` needs from the launch: the right to pay one and the right to wait for one. -/
def credTok (ch : Fin 4) (t : ℕ) : sProp 𝕄 :=
  iprop(dutyTok ER (cell (src d ch) (.cred ch)) t true ∗ cred (tallyAt (cell d (.cred ch)) (t + 1) 1))
/-- What step `t + 1` needs from the launch. -/
def toks (ch : Fin 4) (t : ℕ) : sProp 𝕄 := iprop(copyTok (F := F) d ch (t + 1) ∗ credTok (F := F) d ch t)

/-- A channel with copy `t` on its way, the products apart. -/
def flight (ch : Fin 4) (t : ℕ) : sProp 𝕄 :=
  iprop((cred (tallyAt (cell d (.send ch (par t))) 0 N) ∗ at_ d (.send ch (par t)) (t / 2))
    ∗ atR d (.send ch (par (t + 1))) ((t + 1) / 2)
    ∗ (cred (tallyAt (cell d (.recv ch (par (t + 1)))) t N) ∗ at_ d (.recv ch (par (t + 1))) (t / 2))
    ∗ atR d (.recv ch (par t)) ((t + 1) / 2)
    ∗ at_ d (.cred ch) t)

/-- The same once copy `t` of the sender has landed. -/
def landed (ch : Fin 4) (t : ℕ) : sProp 𝕄 :=
  iprop((cred (tallyAt (cell d (.send ch (par t))) 0 N) ∗ at_ d (.send ch (par t)) (t / 2))
    ∗ atR d (.send ch (par (t + 1))) ((t + 1) / 2)
    ∗ atR d (.recv ch (par (t + 1))) (t / 2 + 1)
    ∗ atR d (.recv ch (par t)) ((t + 1) / 2)
    ∗ at_ d (.cred ch) t
    ∗ reached ER (cell (src d ch) (.cred ch)) t)

/-- The same once the slot copy `t` left has been given away. -/
def given (ch : Fin 4) (t : ℕ) : sProp 𝕄 :=
  iprop(atR d (.send ch (par t)) (t / 2 + 1)
    ∗ atR d (.send ch (par (t + 1))) ((t + 1) / 2)
    ∗ atR d (.recv ch (par (t + 1))) (t / 2 + 1)
    ∗ at_ d (.recv ch (par t)) ((t + 1) / 2)
    ∗ at_ d (.cred ch) t)

/-! ## One step, phase by phase -/

theorem phase_dot (O : CellTallies nD τ sig ℕ) (t : ℕ) (ht : t < 30) (ch : Fin 4) :
    Run d iprop(Base a V K d O ∗ pbAny (F := F) d ch ∗ flight (F := F) d ch t ∗ toks (F := F) d ch t) (dot a (t + 1) ch)
      iprop(Base a V K d O ∗ pbIs d ch (part V d ch (t + 1)) ∗ flight (F := F) d ch t ∗ toks (F := F) d ch t) :=
  ((dot_run a V K d O (t + 1) (by omega) ch).frame iprop(flight (F := F) d ch t ∗ toks (F := F) d ch t)).conseq
    sep_assoc.2 sep_assoc.1

theorem phase_recv (O : CellTallies nD τ sig ℕ) (t : ℕ) (ht : t < 30) (ch : Fin 4) (hO : Above (4 * t + 2) O) :
    Run d iprop(Base a V K d O ∗ pbIs d ch (part V d ch (t + 1)) ∗ flight (F := F) d ch t ∗ toks (F := F) d ch t)
      (waitRecv ch (par (t + 1)) >>= fun _ => accum ch (par (t + 1)))
      iprop(Base a V K d O ∗ pbAny (F := F) d ch ∗ slotIs d ch (par (t + 1)) (acc V ch (t + 1) d) ∗ landed (F := F) d ch t ∗ toks (F := F) d ch t) := fun Q => by
  unfold Wp; rw [wp_bind]
  unfold flight landed
  iintro ⟨HB, Hp, ⟨Hs, Hs', ⟨Hc, Ha⟩, Hr', Hcr⟩, Ht⟩ Hk
  iapply (waitRecv_run a V K d O t (by omega) ch hO _) $$ [HB Hc Ha]
  · isplitl [HB]; · iexact HB
    isplitl [Hc] <;> iassumption
  iintro ⟨HB, Har, Hsl, Hre⟩
  iapply (accum_run d (Base a V K d O) ch (par (t + 1)) (acc V ch t (src d ch)) (part V d ch (t + 1)) _) $$ [HB Hsl Hp]
  · isplitl [HB]; · iexact HB
    isplitl [Hsl] <;> iassumption
  iintro ⟨HB, Hsl, Hp⟩
  iapply Hk
  isplitl [HB]; · iexact HB
  isplitl [Hp]; · iexists _; iexact Hp
  isplitl [Hsl]; · iexact Hsl
  isplitr [Ht]
  · isplitl [Hs]; · iexact Hs
    isplitl [Hs']; · iexact Hs'
    isplitl [Har]; · iexact Har
    isplitl [Hr']; · iexact Hr'
    isplitl [Hcr] <;> iassumption
  iexact Ht

theorem phase_give (O : CellTallies nD τ sig ℕ) (t : ℕ) (ht : t < 30) (ch : Fin 4) (hO : Above 0 O) :
    Run d iprop(Base a V K d (O + dueC d (t + 1) ch) ∗ pbAny (F := F) d ch ∗ slotIs d ch (par (t + 1)) (acc V ch (t + 1) d)
        ∗ landed (F := F) d ch t ∗ toks (F := F) d ch t)
      (waitSend ch (1 - par (t + 1)) >>= fun _ => semSignalWord (src d ch) (credS ch) 1#32)
      iprop(Base a V K d O ∗ pbAny (F := F) d ch ∗ slotIs d ch (par (t + 1)) (acc V ch (t + 1) d)
        ∗ given (F := F) d ch t ∗ copyTok (F := F) d ch (t + 1) ∗ cred (tallyAt (cell d (.cred ch)) (t + 1) 1)) := fun Q => by
  rw [one_sub_par_succ]
  unfold Wp; rw [wp_bind]
  unfold landed given toks credTok
  iintro ⟨HB, Hp, Hsl, ⟨⟨Hc, Ha⟩, Hs', Hr, ⟨Hra, #Hrr⟩, Hcr, Hre⟩, Ht, Htc, Hcc⟩ Hk
  iapply (waitSend_run a V K d (O + dueC d (t + 1) ch) t (by omega) ch (hO.add (above_dueC d (t + 1) ch (by omega) 0 (by omega))) _) $$ [HB Hc Ha]
  · isplitl [HB]; · iexact HB
    isplitl [Hc] <;> iassumption
  iintro ⟨HB, Hsa, Hany⟩
  iapply (signalCred_run a V K d O t ht ch _) $$ [HB Htc Hre Hany]
  · isplitl [HB]; · iexact HB
    isplitl [Htc]; · iexact Htc
    isplitl [Hre]; · iexact Hre
    isplitl [Hany]; · iexact Hany
    iexact Hrr
  iintro HB
  iapply Hk
  isplitl [HB]; · iexact HB
  isplitl [Hp]; · iexact Hp
  isplitl [Hsl]; · iexact Hsl
  isplitr [Ht Hcc]
  · isplitl [Hsa]; · iexact Hsa
    isplitl [Hs']; · iexact Hs'
    isplitl [Hr]; · iexact Hr
    isplitl [Hra] <;> iassumption
  isplitl [Ht] <;> iassumption

theorem phase_send (O : CellTallies nD τ sig ℕ) (t : ℕ) (ht : t < 30) (ch : Fin 4) (hO : Above (4 * (t + 1)) O) :
    Run d iprop(Base a V K d (O + dueL d (t + 1) ch) ∗ pbAny (F := F) d ch ∗ slotIs d ch (par (t + 1)) (acc V ch (t + 1) d)
        ∗ given (F := F) d ch t ∗ copyTok (F := F) d ch (t + 1) ∗ cred (tallyAt (cell d (.cred ch)) (t + 1) 1))
      (semWaitWord (credS ch) 1#32 >>= fun _ => copy (dst d ch) ch (par (t + 1)))
      iprop(Base a V K d O ∗ pbAny (F := F) d ch ∗ flight (F := F) d ch (t + 1)) := fun Q => by
  have hp : par (t + 1 + 1) = par t := par_add_two t
  have hd : (t + 1 + 1) / 2 = t / 2 + 1 := by omega
  unfold Wp; rw [wp_bind]
  unfold given flight copyTok
  rw [hd, hp]
  iintro ⟨HB, Hp, Hsl, ⟨⟨Hsa, #Hsr⟩, ⟨Ha, #Hr⟩, Hra, Hra', Hcr⟩, ⟨Ht1, Ht2, Hcl⟩, Hcc⟩ Hk
  iapply (waitCred_run a V K d (O + dueL d (t + 1) ch) t ht ch (hO.add (above_dueL d (t + 1) ch (by omega) _ (by omega))) _) $$ [HB Hcc Hcr]
  · isplitl [HB]; · iexact HB
    isplitl [Hcc] <;> iassumption
  iintro ⟨HB, ⟨Hcr, #Hcrr⟩, Hany, Hrd⟩
  have hc := copy_run a V K d O (t + 1) (by omega) ch Q
  rw [hp] at hc
  iapply hc $$ [HB Hsl Hany Ht1 Ht2 Hrd]
  · isplitl [HB]; · iexact HB
    isplitl [Hsl]; · iexact Hsl
    isplitl [Hany]; · iexact Hany
    isplitl [Ht1]
    · isplitl [Ht1]; · iexact Ht1
      iexact Hr
    isplitl [Ht2 Hrd]
    · isplitl [Ht2] <;> iassumption
    iexact Hcrr
  iintro ⟨HB, Hcs⟩
  iapply Hk
  isplitl [HB]; · iexact HB
  isplitl [Hp]; · iexact Hp
  isplitl [Hcs Ha]
  · isplitl [Hcs] <;> iassumption
  isplitl [Hsa]
  · isplitl [Hsa]; · iexact Hsa
    iexact Hsr
  isplitl [Hcl Hra']
  · isplitl [Hcl] <;> iassumption
  isplitl [Hra] <;> iassumption

/-! ## One step, and the steps -/

/-- Something kept aside next to the thread of a run. -/
theorem Run.aside {T A T' B : sProp 𝕄} {p : Code F} (X : sProp 𝕄) (h : Run d iprop(T ∗ A) p iprop(T' ∗ B)) :
    Run d iprop((T ∗ X) ∗ A) p iprop((T' ∗ X) ∗ B) :=
  (h.frame X).conseq (by iintro ⟨⟨H1, H2⟩, H3⟩; isplitr [H2]; (isplitl [H1] <;> iassumption); iexact H2)
    (by iintro ⟨⟨H1, H3⟩, H2⟩; isplitr [H3]; (isplitl [H1] <;> iassumption); iexact H3)

/-- A channel between two steps. -/
abbrev between (ch : Fin 4) (t : ℕ) : sProp 𝕄 := iprop(pbAny (F := F) d ch ∗ flight (F := F) d ch t)

theorem step_run (R : CellTallies nD τ sig ℕ) (t : ℕ) (ht : t < 30) (hR : Above (4 * (t + 1)) R) (X : sProp 𝕄) {r : Code F} {P : sProp 𝕄}
    (hk : Run d iprop((Base a V K d R ∗ X) ∗ all4 fun ch => between (F := F) d ch (t + 1)) r P) :
    Run d iprop((Base a V K d (left (dueC d (t + 1)) (left (dueL d (t + 1)) R 0) 0) ∗ X)
        ∗ all4 fun ch => iprop(pbAny (F := F) d ch ∗ flight (F := F) d ch t ∗ toks (F := F) d ch t)) (step a (nb d) (t + 1) r) P := by
  have hR' : Above (4 * t + 2) R := hR.mono (by omega)
  have hL : ∀ j, Above (4 * (t + 1)) (left (dueL d (t + 1)) R j) := fun j =>
    hR.left (fun ch => above_dueL d (t + 1) ch (by omega) _ (by omega)) j
  have hC : ∀ j, Above (4 * t + 2) (left (dueC d (t + 1)) (left (dueL d (t + 1)) R 0) j) := fun j =>
    ((hL 0).mono (by omega)).left (fun ch => above_dueC d (t + 1) ch (by omega) _ (by omega)) j
  unfold step
  refine Run.chans (T := fun _ => iprop(Base a V K d (left (dueC d (t + 1)) (left (dueL d (t + 1)) R 0) 0) ∗ X))
    (fun ch => (phase_dot a V K d _ t ht ch).aside d X) ?_
  refine Run.chans (T := fun _ => iprop(Base a V K d (left (dueC d (t + 1)) (left (dueL d (t + 1)) R 0) 0) ∗ X))
    (fun ch => (phase_recv a V K d _ t ht ch (hC 0)).aside d X) ?_
  refine Run.chans (T := fun j => iprop(Base a V K d (left (dueC d (t + 1)) (left (dueL d (t + 1)) R 0) j) ∗ X))
    (B := fun ch => iprop(pbAny (F := F) d ch ∗ slotIs d ch (par (t + 1)) (acc V ch (t + 1) d)
        ∗ given (F := F) d ch t ∗ copyTok (F := F) d ch (t + 1) ∗ cred (tallyAt (cell d (.cred ch)) (t + 1) 1))) (fun ch => ?_) ?_
  · rw [left_succ]
    exact (phase_give a V K d _ t ht ch ((hC _).mono (by omega))).aside d X
  show Run d iprop((Base a V K d (left (dueL d (t + 1)) R 0) ∗ X) ∗ _) _ _
  refine Run.chans (T := fun j => iprop(Base a V K d (left (dueL d (t + 1)) R j) ∗ X)) (B := fun ch => between (F := F) d ch (t + 1))
    (fun ch => ?_) hk
  rw [left_succ]
  exact (phase_send a V K d _ t ht ch (hL _)).aside d X

/-- What the `k` steps after copy `t` need from the launch. -/
def restToks : ℕ → ℕ → sProp 𝕄
  | _, 0 => iprop(emp)
  | t, k + 1 => iprop((all4 fun ch => toks (F := F) d ch t) ∗ restToks (t + 1) k)

theorem steps_run (X : sProp 𝕄) : ∀ (k t : ℕ), t + k ≤ 30 → ∀ {r : Code F} {P : sProp 𝕄},
    Run d iprop((Base a V K d 0 ∗ X) ∗ all4 fun ch => between (F := F) d ch (t + k)) r P →
    Run d iprop((Base a V K d (due d (t + 1) k) ∗ X ∗ restToks (F := F) d t k) ∗ all4 fun ch => between (F := F) d ch t)
      (steps a (nb d) (t + 1) k r) P
  | 0, t, _, r, P, hk => by
    refine hk.conseq ?_ .rfl
    show iprop((Base a V K d 0 ∗ X ∗ _) ∗ _) ⊢ _
    iintro ⟨⟨HB, HX, -⟩, HA⟩
    isplitr [HA]
    · isplitl [HB] <;> iassumption
    iexact HA
  | k + 1, t, h, r, P, hk => by
    have ih := steps_run X k (t + 1) (by omega) (r := r) (P := P) (by rw [show t + 1 + k = t + (k + 1) by omega]; exact hk)
    have hs := step_run a V K d (due d (t + 1 + 1) k) t (by omega) (above_due d k (t + 1 + 1) (by omega) _ (by omega)) _ ih
    refine hs.conseq ?_ .rfl
    show iprop((Base a V K d (left (dueC d (t + 1)) (left (dueL d (t + 1)) (due d (t + 1 + 1) k) 0) 0) ∗ X
      ∗ (all4 fun ch => toks (F := F) d ch t) ∗ restToks (F := F) d (t + 1) k) ∗ _) ⊢ _
    unfold all4
    iintro ⟨⟨HB, HX, ⟨T0, T1, T2, T3⟩, HT⟩, ⟨P0, F0⟩, ⟨P1, F1⟩, ⟨P2, F2⟩, ⟨P3, F3⟩⟩
    isplitl [HB HX HT]
    · isplitl [HB]; · iexact HB
      isplitl [HX] <;> iassumption
    isplitl [T0 P0 F0]
    · isplitl [P0]; · iexact P0
      isplitl [F0] <;> iassumption
    isplitl [T1 P1 F1]
    · isplitl [P1]; · iexact P1
      isplitl [F1] <;> iassumption
    isplitl [T2 P2 F2]
    · isplitl [P2]; · iexact P2
      isplitl [F2] <;> iassumption
    isplitl [P3]; · iexact P3
    isplitl [F3] <;> iassumption

end Cert.KernelIdeal.Hand
-- ==== Proof.Ring.lean ====
module

public import proofs.«01_k».proof.Proof.Steps

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Facts₀ Facts
open Cert.KernelIdeal.Gen (k0_pay1 k0_pay5 k0_pay9 k0_pay306)

variable {F : FTy → Type} [FloatOps F]

local notation "𝕄" => MT nD τ sig ℕ (Elt F) ℕ UU ℕ

variable (a : Ops) (V : Vals F) (K : Dev nD × Key → ℕ) (d : Dev nD)

/-! ## The barrier -/

theorem above_due0 : Above 1 (due0 d) :=
  (above_due d 30 1 (by omega) 1 (by omega)).left (fun ch => above_dueL d 0 ch (by omega) 1 (by omega)) 0

/-- The wait for both neighbours. -/
theorem waitBar_run :
    Run d iprop(Base a V K d (due0 d) ∗ cred (tallyAt (cell d .bar) 0 2) ∗ at_ d .bar 0) (semWaitWord barS 2#32)
      iprop(Base a V K d (due0 d) ∗ at_ d .bar 1 ∗ (landing (F := F) d 2 ∗ landing (F := F) d 3) ∗ (landing (F := F) d 0 ∗ landing (F := F) d 1)) := fun Q => by
  have hm : ctx V K ⊢ MayWait (d : Thread nD τ) (Key.bar).loc 0 (due0 d) :=
    ctx_mayWait V K d (Key.bar).loc 0 1 (due0 d) (by omega) (lv_bar d 0).le (above_due0 d)
  iintro ⟨⟨#Hctx, Hop, %W, HO⟩, Hc, Hat⟩ Hk
  unfold Wp
  simp only [semWaitWord, Prog.lift]
  iapply (Rounds.wp_wait_rest_token 𝒱₀ ER (rd V) (d : Thread nD τ) none (κ := K (d, .bar)) (sm := (Key.bar).loc)
    (wpE_semWait_eq 𝒱₀ (d : Thread nD τ) none Set.univ (sem := barS) (k := 2)) (Set.mem_univ _) 0 (O := due0 d) (W := W)
    (R := 0) (m := 0) (T := ∅)
    (by rw [expect_cell V d .bar 0 Nat.one_pos, show (payers .bar).card = 2 from rfl]; rfl)) $$ [Hc HO Hat]
  · isplitr; · iapply (ctx_cell V K d .bar); iexact Hctx
    isplitl [Hc]; · iexact Hc
    isplitl [HO]; · iexact HO
    isplitr; · iapply hm; iexact Hctx
    iexact Hat
  rw [rest_bar V d, wp_ret]
  iintro ⟨HO, Hat, Hre, Hp⟩
  imodintro
  iapply Hk
  isplitl [Hop HO]
  · isplitr; · iexact Hctx
    isplitl [Hop]; · iexact Hop
    iexists _; iexact HO
  isplitl [Hat] <;> iassumption

theorem landing_nxt (ch : Fin 4) (h : 2 ≤ ch.val) : landing (F := F) (nxtD d) ch = iprop(slotAny d ch 1 ∗ reached ER (cell d (.recv ch 1)) 0) := by
  have : dst (nxtD d) ch = d := by fin_cases ch <;> first | exact prv_nxt d | (exfalso; revert h; decide)
  unfold landing; rw [this]
theorem landing_prv (ch : Fin 4) (h : ch.val < 2) : landing (F := F) (prvD d) ch = iprop(slotAny d ch 1 ∗ reached ER (cell d (.recv ch 1)) 0) := by
  have : dst (prvD d) ch = d := by fin_cases ch <;> first | exact nxt_prv d | (exfalso; revert h; decide)
  unfold landing; rw [this]

/-! ## The prologue -/

/-- What the cells of a channel hold at the start, and what its copy 0 needs. -/
def start (ch : Fin 4) : sProp 𝕄 :=
  iprop(pbAny (F := F) d ch ∗ atR d (.send ch 0) 0 ∗ atR d (.send ch 1) 0 ∗ at_ d (.recv ch 1) 0 ∗ atR d (.recv ch 0) 0
    ∗ atR d (.cred ch) 0 ∗ copyTok (F := F) d ch 0)

/-- The rights of the barrier. -/
def barTok : sProp 𝕄 :=
  iprop((dutyTok ER (cell (nxtD d) .bar) 0 true ∗ reached ER (cell (nxtD d) .bar) 0)
    ∗ (dutyTok ER (cell (prvD d) .bar) 0 false ∗ reached ER (cell (prvD d) .bar) 0)
    ∗ cred (tallyAt (cell d .bar) 0 2) ∗ at_ d .bar 0)

theorem copyTok_zero (ch : Fin 4) : copyTok (F := F) d ch 0
    = iprop(dutyTok ER (cell d (.send ch 0)) 0 true ∗ dutyTok ER (cell (dst d ch) (.recv ch 1)) 0 true
      ∗ cred (tallyAt (cell d (.recv ch 1)) 0 N)) := rfl
theorem flight_zero (ch : Fin 4) : flight (F := F) d ch 0
    = iprop((cred (tallyAt (cell d (.send ch 0)) 0 N) ∗ at_ d (.send ch 0) 0) ∗ atR d (.send ch 1) 0
      ∗ (cred (tallyAt (cell d (.recv ch 1)) 0 N) ∗ at_ d (.recv ch 1) 0) ∗ atR d (.recv ch 0) 0 ∗ at_ d (.cred ch) 0) := rfl
theorem flight_last (ch : Fin 4) : flight (F := F) d ch 30
    = iprop((cred (tallyAt (cell d (.send ch 0)) 0 N) ∗ at_ d (.send ch 0) 15) ∗ atR d (.send ch 1) 15
      ∗ (cred (tallyAt (cell d (.recv ch 1)) 30 N) ∗ at_ d (.recv ch 1) 15) ∗ atR d (.recv ch 0) 15 ∗ at_ d (.cred ch) 30) := rfl

theorem phase_first (O : CellTallies nD τ sig ℕ) (ch : Fin 4) :
    Run d iprop(Base a V K d (O + dueL d 0 ch) ∗ (slotIs d ch 0 (acc V ch 0 d) ∗ start (F := F) d ch) ∗ landing (F := F) d ch)
      (copy (dst d ch) ch 0) iprop(Base a V K d O ∗ between (F := F) d ch 0) := fun Q => by
  have hc : iprop(Base a V K d (O + dueL d 0 ch) ∗ slotIs d ch 0 (acc V ch 0 d) ∗ slotAny (F := F) (dst d ch) ch 1
        ∗ (dutyTok ER (cell d (.send ch 0)) 0 true ∗ reached ER (cell d (.send ch 0)) 0)
        ∗ (dutyTok ER (cell (dst d ch) (.recv ch 1)) 0 true ∗ reached ER (cell (dst d ch) (.recv ch 1)) 0)
        ∗ reached ER (cell d (.cred ch)) 0)
      ⊢ (iprop(Base a V K d O ∗ cred (tallyAt (cell d (.send ch 0)) 0 N)) -∗ Q ⟨⟩) -∗ Wp d (copy (dst d ch) ch 0) Q :=
    copy_run a V K d O 0 (by omega) ch Q
  unfold start landing between
  rw [copyTok_zero, flight_zero]
  iintro ⟨HB, ⟨Hsl, Hp, ⟨Hs0, #Hr0⟩, Hs1, Hr1, ⟨Hr0, #Hrr0⟩, ⟨Hcr, #Hcrr⟩, Ht1, Ht2, Hcl⟩, Hla, Hlr⟩ Hk
  iapply hc $$ [HB Hsl Ht1 Ht2 Hla Hlr]
  · isplitl [HB]; · iexact HB
    isplitl [Hsl]; · iexact Hsl
    isplitl [Hla]; · iexact Hla
    isplitl [Ht1]
    · isplitl [Ht1]; · iexact Ht1
      iexact Hr0
    isplitl [Ht2 Hlr]
    · isplitl [Ht2] <;> iassumption
    iexact Hcrr
  iintro ⟨HB, Hcs⟩
  iapply Hk
  isplitl [HB]; · iexact HB
  isplitl [Hp]; · iexact Hp
  isplitl [Hcs Hs0]
  · isplitl [Hcs] <;> iassumption
  isplitl [Hs1]
  · iexact Hs1
  isplitl [Hcl Hr1]
  · isplitl [Hcl] <;> iassumption
  isplitr [Hcr]
  · isplitl [Hr0]; · iexact Hr0
    iexact Hrr0
  iexact Hcr

/-- Both signals, the wait, and what follows. -/
theorem meet_run (X : sProp 𝕄) (A : Fin 4 → sProp 𝕄) {r : Code F} {P : sProp 𝕄}
    (hk : Run d iprop((Base a V K d (due0 d) ∗ X ∗ at_ d .bar 1) ∗ all4 fun ch => iprop(A ch ∗ landing (F := F) d ch)) r P) :
    Run d iprop((Base a V K d (O₀ d) ∗ X ∗ barTok (F := F) d) ∗ all4 fun ch => iprop(A ch ∗ slotAny (F := F) d ch 1 ∗ reached ER (cell d (.recv ch 1)) 0))
      (semSignalWord (nxtD d) barS 1#32 >>= fun _ => semSignalWord (prvD d) barS 1#32 >>= fun _ => semWaitWord barS 2#32 >>= fun _ => r) P := fun Q => by
  have hn := signal_run a V K d (due0 d + tallyAt (cell (prvD d) .bar) 0 1) (nxtD d) barS (K (nxtD d, .bar)) 0 0 true
    (ctx_cell V K (nxtD d) .bar) (by rw [show ((nxtD d : Thread nD τ), SemLoc.reg barS) = cell (nxtD d) .bar from rfl, duties_cell V (nxtD d) .bar 0 Nat.one_pos]; decide)
    (amount_cell V (nxtD d) .bar 0 true)
  have hp := signal_run a V K d (due0 d) (prvD d) barS (K (prvD d, .bar)) 0 0 false
    (ctx_cell V K (prvD d) .bar) (by rw [show ((prvD d : Thread nD τ), SemLoc.reg barS) = cell (prvD d) .bar from rfl, duties_cell V (prvD d) .bar 0 Nat.one_pos]; decide)
    (amount_cell V (prvD d) .bar 0 false)
  rw [show (rd V).payload ((nxtD d : Thread nD τ), SemLoc.reg barS) 0 true = pay V (nxtD d) 0 true .bar from payload_cell V (nxtD d) .bar 0 true,
    show pay V (nxtD d) 0 true .bar = iprop(landing (F := F) (nxtD d) 2 ∗ landing (F := F) (nxtD d) 3) from rfl,
    landing_nxt d 2 (by decide), landing_nxt d 3 (by decide)] at hn
  rw [show (rd V).payload ((prvD d : Thread nD τ), SemLoc.reg barS) 0 false = pay V (prvD d) 0 false .bar from payload_cell V (prvD d) .bar 0 false,
    show pay V (prvD d) 0 false .bar = iprop(landing (F := F) (prvD d) 0 ∗ landing (F := F) (prvD d) 1) from rfl,
    landing_prv d 0 (by decide), landing_prv d 1 (by decide)] at hp
  unfold Wp
  simp only [wp_bind]
  unfold barTok
  iintro ⟨⟨HB, HX, ⟨Htn, Hrn⟩, ⟨Htp, Hrp⟩, Hc, Hat⟩, ⟨A0, L0⟩, ⟨A1, L1⟩, ⟨A2, L2⟩, ⟨A3, L3⟩⟩ Hk
  iapply (hn _) $$ [HB Htn Hrn L2 L3]
  · isplitl [HB]; · iexact HB
    isplitl [Htn]; · iexact Htn
    isplitl [Hrn]; · iexact Hrn
    isplitl [L2] <;> iassumption
  iintro HB
  iapply (hp _) $$ [HB Htp Hrp L0 L1]
  · isplitl [HB]; · iexact HB
    isplitl [Htp]; · iexact Htp
    isplitl [Hrp]; · iexact Hrp
    isplitl [L0] <;> iassumption
  iintro HB
  iapply (waitBar_run a V K d _) $$ [HB Hc Hat]
  · isplitl [HB]; · iexact HB
    isplitl [Hc] <;> iassumption
  iintro ⟨HB, Hat, ⟨L2, L3⟩, L0, L1⟩
  iapply (hk _) $$ [HB HX Hat A0 A1 A2 A3 L0 L1 L2 L3] Hk
  isplitl [HB HX Hat]
  · isplitl [HB]; · iexact HB
    isplitl [HX] <;> iassumption
  isplitl [A0 L0]; · isplitl [A0] <;> iassumption
  isplitl [A1 L1]; · isplitl [A1] <;> iassumption
  isplitl [A2 L2]; · isplitl [A2] <;> iassumption
  isplitl [A3] <;> iassumption

theorem prologue_run (X : sProp 𝕄) {r : Code F} {P : sProp 𝕄}
    (hk : Run d iprop((Base a V K d (due d 1 30) ∗ X ∗ at_ d .bar 1) ∗ all4 fun ch => between (F := F) d ch 0) r P) :
    Run d iprop((Base a V K d (O₀ d) ∗ X ∗ barTok (F := F) d)
        ∗ all4 fun ch => iprop(slotAny (F := F) d ch 0 ∗ start (F := F) d ch ∗ slotAny (F := F) d ch 1 ∗ reached ER (cell d (.recv ch 1)) 0))
      (prologue a (nb d) r) P := by
  unfold prologue
  refine Run.chans (T := fun _ => iprop(Base a V K d (O₀ d) ∗ X ∗ barTok (F := F) d))
    (B := fun ch => iprop((slotIs d ch 0 (acc V ch 0 d) ∗ start (F := F) d ch) ∗ slotAny (F := F) d ch 1 ∗ reached ER (cell d (.recv ch 1)) 0))
    (fun ch => ?_) ?_
  · refine (((dot0_run a V K d (O₀ d) ch).frame iprop((X ∗ barTok (F := F) d) ∗ start (F := F) d ch ∗ slotAny (F := F) d ch 1 ∗ reached ER (cell d (.recv ch 1)) 0))).conseq ?_ ?_
    · iintro ⟨⟨HB, HX⟩, Hs, Hr⟩
      isplitl [HB Hs]; · isplitl [HB] <;> iassumption
      isplitl [HX] <;> iassumption
    · iintro ⟨⟨HB, Hs⟩, HX, Hst, Hr⟩
      isplitl [HB HX]; · isplitl [HB] <;> iassumption
      isplitl [Hs Hst]; · isplitl [Hs] <;> iassumption
      iexact Hr
  refine meet_run a V K d X _ ?_
  refine Run.chans (T := fun j => iprop(Base a V K d (left (dueL d 0) (due d 1 30) j) ∗ X ∗ at_ d .bar 1)) (B := fun ch => between (F := F) d ch 0)
    (fun ch => ?_) hk
  rw [left_succ]
  exact (phase_first a V K d _ ch).aside d _

/-! ## The epilogue -/

/-- What a channel holds at the end. -/
def ended (ch : Fin 4) : sProp 𝕄 :=
  iprop(slotAny (F := F) d ch 0 ∗ slotAny (F := F) d ch 1 ∗ pbAny (F := F) d ch
    ∗ at_ d (.send ch 0) 16 ∗ at_ d (.send ch 1) 15 ∗ at_ d (.recv ch 1) 16 ∗ at_ d (.recv ch 0) 15 ∗ at_ d (.cred ch) 30)

/-- A channel whose last copies have both landed, with the slot it left not yet back. -/
def closing (ch : Fin 4) : sProp 𝕄 :=
  iprop((cred (tallyAt (cell d (.send ch 0)) 0 N) ∗ at_ d (.send ch 0) 15) ∗ slotAny (F := F) d ch 1 ∗ pbAny (F := F) d ch
    ∗ at_ d (.send ch 1) 15 ∗ at_ d (.recv ch 1) 16 ∗ at_ d (.recv ch 0) 15 ∗ at_ d (.cred ch) 30)

theorem phase_finish (X : sProp 𝕄) (ch : Fin 4) :
    Run d iprop((Base a V K d 0 ∗ X ∗ outTo a V d ch.castSucc) ∗ pbIs d ch (k0_pay5 (V.xb d d) (V.wb d ch)) ∗ flight (F := F) d ch 30)
      (waitRecv ch 1 >>= fun _ => finish a ch)
      iprop((Base a V K d 0 ∗ X ∗ outTo a V d ch.succ) ∗ closing (F := F) d ch) := fun Q => by
  unfold Wp; rw [wp_bind]
  have hw : Run d iprop(Base a V K d 0 ∗ cred (tallyAt (cell d (.recv ch 1)) 30 N) ∗ at_ d (.recv ch 1) 15) (waitRecv ch 1)
      iprop(Base a V K d 0 ∗ atR d (.recv ch 1) 16 ∗ slotIs d ch 1 (acc V ch 30 (src d ch)) ∗ reached ER (cell (src d ch) (.cred ch)) 30) :=
    waitRecv_run a V K d 0 30 (by omega) ch (Above.zero _)
  unfold closing
  rw [flight_last]
  iintro ⟨⟨HB, HX, Ho⟩, Hp, Hs, ⟨Hs1, -⟩, ⟨Hcl, Hr⟩, ⟨Hr0, -⟩, Hcr⟩ Hk
  iapply (hw _) $$ [HB Hcl Hr]
  · isplitl [HB]; · iexact HB
    isplitl [Hcl] <;> iassumption
  iintro ⟨HB, ⟨Hr, -⟩, Hsl, -⟩
  iapply (finish_run a V d iprop(Base a V K d 0 ∗ X) ch _) $$ [HB HX Ho Hsl Hp]
  · isplitl [HB HX Ho]
    · isplitl [HB HX]
      · isplitl [HB] <;> iassumption
      iexact Ho
    isplitl [Hsl] <;> iassumption
  iintro ⟨⟨⟨HB, HX⟩, Ho⟩, Hsl, Hp⟩
  iapply Hk
  isplitl [HB HX Ho]
  · isplitl [HB]; · iexact HB
    isplitl [HX] <;> iassumption
  isplitl [Hs]; · iexact Hs
  isplitl [Hsl]; · iexists _; iexact Hsl
  isplitl [Hp]; · iexists _; iexact Hp
  isplitl [Hs1]; · iexact Hs1
  isplitl [Hr]; · iexact Hr
  isplitl [Hr0] <;> iassumption

theorem phase_back (X : sProp 𝕄) (ch : Fin 4) :
    Run d iprop((Base a V K d 0 ∗ X) ∗ closing (F := F) d ch) (waitSend ch 0) iprop((Base a V K d 0 ∗ X) ∗ ended (F := F) d ch) := fun Q => by
  have hw : Run d iprop(Base a V K d 0 ∗ cred (tallyAt (cell d (.send ch 0)) 0 N) ∗ at_ d (.send ch 0) 15) (waitSend ch 0)
      iprop(Base a V K d 0 ∗ atR d (.send ch 0) 16 ∗ slotAny (F := F) d ch 0) :=
    waitSend_run a V K d 0 30 (by omega) ch (Above.zero _)
  unfold closing ended
  iintro ⟨⟨HB, HX⟩, ⟨Hc, Ha⟩, Hs1, Hp, Hr⟩ Hk
  iapply (hw _) $$ [HB Hc Ha]
  · isplitl [HB]; · iexact HB
    isplitl [Hc] <;> iassumption
  iintro ⟨HB, ⟨Ha, -⟩, Hs0⟩
  iapply Hk
  isplitl [HB HX]
  · isplitl [HB] <;> iassumption
  isplitl [Hs0]; · iexact Hs0
  isplitl [Hs1]; · iexact Hs1
  isplitl [Hp]; · iexact Hp
  isplitl [Ha] <;> iassumption

theorem epilogue_run (X : sProp 𝕄) :
    Run d iprop((Base a V K d 0 ∗ X ∗ outTo a V d 0) ∗ all4 fun ch => between (F := F) d ch 30) (epilogue a d)
      iprop((Base a V K d 0 ∗ X ∗ outTo a V d 4) ∗ all4 fun ch => ended (F := F) d ch) := by
  unfold epilogue
  refine Run.chans (T := fun _ => iprop(Base a V K d 0 ∗ X ∗ outTo a V d 0))
    (B := fun ch => iprop(pbIs d ch (k0_pay5 (V.xb d d) (V.wb d ch)) ∗ flight (F := F) d ch 30)) (fun ch => ?_) ?_
  · refine Run.aside d iprop(X ∗ outTo a V d 0) ?_
    exact ((dotOwn_run a V K d 0 ch).frame iprop(flight (F := F) d ch 30)).conseq sep_assoc.2 sep_assoc.1
  refine Run.chans (T := fun j => iprop(Base a V K d 0 ∗ X ∗ outTo a V d j)) (fun ch => phase_finish a V K d X ch) ?_
  refine Run.conseq (P := iprop((Base a V K d 0 ∗ X ∗ outTo a V d 4) ∗ closing (F := F) d 0 ∗ closing (F := F) d 1 ∗ closing (F := F) d 2 ∗ closing (F := F) d 3))
    (P' := iprop((Base a V K d 0 ∗ X ∗ outTo a V d 4) ∗ ended (F := F) d 0 ∗ ended (F := F) d 1 ∗ ended (F := F) d 2 ∗ ended (F := F) d 3))
    (fun Q => ?_) .rfl .rfl
  have h := fun ch => phase_back a V K d iprop(X ∗ outTo a V d 4) ch
  unfold Wp
  simp only [wp_bind]
  iintro ⟨HB, A0, A1, A2, A3⟩ Hk
  iapply (h 0 _) $$ [HB A0]; · isplitl [HB] <;> iassumption
  iintro ⟨HB, B0⟩
  iapply (h 1 _) $$ [HB A1]; · isplitl [HB] <;> iassumption
  iintro ⟨HB, B1⟩
  iapply (h 2 _) $$ [HB A2]; · isplitl [HB] <;> iassumption
  iintro ⟨HB, B2⟩
  iapply (h 3 _) $$ [HB A3]; · isplitl [HB] <;> iassumption
  iintro ⟨HB, B3⟩
  iapply Hk
  isplitl [HB]; · iexact HB
  isplitl [B0]; · iexact B0
  isplitl [B1]; · iexact B1
  isplitl [B2] <;> iassumption

/-! ## The whole body -/

theorem dev1_word (e : Dev nD) : k0_dev1 (BitVec.ofNat 32 e.val) = e.val := by revert e; decide
theorem dev2_word (e : Dev nD) : k0_dev2 (BitVec.ofNat 32 e.val) = e.val := by revert e; decide
theorem chk5_word (e : Dev nD) : k0_chk5 (BitVec.ofNat 32 e.val) := by revert e; decide
theorem chk6_word (e : Dev nD) : k0_chk6 (BitVec.ofNat 32 e.val) := by revert e; decide

/-- The neighbour tables. -/
def nbrTab (e : Dev nD) : S1.Idx → BitVec 32 := fun _ => BitVec.ofNat 32 e.val

/-- What a device holds of the tables and of the result. -/
def tabs : sProp 𝕄 :=
  iprop(owns (d : Thread nD τ) a.nxt fullShare (nbrTab (nxtD d) : S1.Idx → Elt F .i32) ∗ owns (d : Thread nD τ) a.prv fullShare (nbrTab (prvD d) : S1.Idx → Elt F .i32))

/-- What a device's channels hold at the start. -/
def opening (ch : Fin 4) : sProp 𝕄 :=
  iprop(slotAny (F := F) d ch 0 ∗ start (F := F) d ch ∗ slotAny (F := F) d ch 1 ∗ reached ER (cell d (.recv ch 1)) 0)

theorem ring_run :
    Run d iprop((Base a V K d (O₀ d) ∗ ((tabs (F := F) a d ∗ outTo a V d 0) ∗ restToks (F := F) d 0 30) ∗ barTok (F := F) d)
        ∗ all4 fun ch => opening (F := F) d ch)
      (prologue a (nb d) (steps a (nb d) 1 30 (epilogue a d)))
      iprop((Base a V K d 0 ∗ (tabs (F := F) a d ∗ at_ d .bar 1) ∗ outTo a V d 4) ∗ all4 fun ch => ended (F := F) d ch) := by
  refine prologue_run a V K d _ ?_
  refine (steps_run a V K d iprop((tabs (F := F) a d ∗ at_ d .bar 1) ∗ outTo a V d 0) 30 0 (by omega) (epilogue_run a V K d _)).conseq ?_ .rfl
  show iprop((Base a V K d (due d 1 30) ∗ ((tabs (F := F) a d ∗ outTo a V d 0) ∗ restToks (F := F) d 0 30) ∗ at_ d .bar 1)
      ∗ all4 fun ch => between (F := F) d ch 0)
    ⊢ iprop((Base a V K d (due d 1 30) ∗ ((tabs (F := F) a d ∗ at_ d .bar 1) ∗ outTo a V d 0) ∗ restToks (F := F) d 0 30)
      ∗ all4 fun ch => between (F := F) d ch 0)
  iintro ⟨⟨HB, ⟨⟨HT, Ho⟩, HR⟩, Hat⟩, HA⟩
  isplitr [HA]
  · isplitl [HB]; · iexact HB
    isplitr [HR]
    · isplitr [Ho]
      · isplitl [HT] <;> iassumption
      iexact Ho
    iexact HR
  iexact HA

/-- The body's head, with what follows it open: the two neighbours are read. -/
def head (k : Dev nD → Nbrs → Code F) : Code F := do
  let d : Dev nD ← Prog.lift .deviceId
  let v3 : Elt F .i32 ← smemLoad a.nxt (Rect.unit (s := S1) ![0] S1.size inb_S1_S1_0) numel1_S1 rfl
  have h3 : k0_chk5 v3 := (← Prog.lift (TpuEff.assume (k0_chk5 v3) (k0_chk5.dec v3))).down
  let v4 : Elt F .i32 ← smemLoad a.prv (Rect.unit (s := S1) ![0] S1.size inb_S1_S1_0) numel1_S1 rfl
  have h4 : k0_chk6 v4 := (← Prog.lift (TpuEff.assume (k0_chk6 v4) (k0_chk6.dec v4))).down
  k d ⟨⟨k0_dev1 v3, k0_dev1_lt v3 h3⟩, ⟨k0_dev2 v4, k0_dev2_lt v4 h4⟩⟩

theorem head_run (k : Dev nD → Nbrs → Code F) (Q : PUnit → sProp 𝕄) :
    (tabs (F := F) a d : sProp 𝕄) ⊢ (tabs (F := F) a d -∗ Wp d (k d (nb d)) Q) -∗ Wp d (head a k) Q := by
  have e1 : (⟨k0_dev1 (BitVec.ofNat 32 (nxtD d).val), k0_dev1_lt _ (chk5_word (nxtD d))⟩ : Dev nD) = nxtD d := Fin.ext (dev1_word _)
  have e2 : (⟨k0_dev2 (BitVec.ofNat 32 (prvD d).val), k0_dev2_lt _ (chk6_word (prvD d))⟩ : Dev nD) = prvD d := Fin.ext (dev2_word _)
  unfold head tabs
  simp only [Prog.lift, Prog.bind_op, Prog.bind_ret]
  unfold Wp
  rw [wp_deviceId]
  show _ ⊢ _ -∗ Wp d _ Q
  iintro ⟨Hn, Hp⟩ Hk
  iapply (wp_smem_owned d (w := BitVec.ofNat 32 (nxtD d).val) (fun _ => rfl)) $$ Hn
  iintro Hn
  simp only [Prog.lift, Prog.bind_op, Prog.bind_ret, wp_assume_of _ _ _ _ (d := k0_chk5.dec _) (chk5_word _)]
  iapply (wp_smem_owned d (w := BitVec.ofNat 32 (prvD d).val) (fun _ => rfl)) $$ Hp
  iintro Hp
  simp only [Prog.lift, Prog.bind_op, Prog.bind_ret, wp_assume_of _ _ _ _ (d := k0_chk6.dec _) (chk6_word _)]
  rw [e1, e2]
  iapply Hk
  isplitl [Hn] <;> iassumption

theorem body_head : body a = head a fun d n => prologue a n (steps a n 1 30 (epilogue (F := F) a d)) := rfl

theorem body_run :
    Run d iprop((Base a V K d (O₀ d) ∗ ((tabs (F := F) a d ∗ outTo a V d 0) ∗ restToks (F := F) d 0 30) ∗ barTok (F := F) d)
        ∗ all4 fun ch => opening (F := F) d ch) (body a)
      iprop((Base a V K d 0 ∗ (tabs (F := F) a d ∗ at_ d .bar 1) ∗ outTo a V d 4) ∗ all4 fun ch => ended (F := F) d ch) := fun Q => by
  have h := ring_run a V K d Q
  rw [body_head]
  have hh := head_run a d (fun d n => prologue a n (steps a n 1 30 (epilogue (F := F) a d))) Q

  revert h hh
  generalize prologue a (nb d) (steps a (nb d) 1 30 (epilogue (F := F) a d)) = R
  generalize head a (fun d n => prologue a n (steps a n 1 30 (epilogue (F := F) a d))) = R'
  intro h hh
  iintro ⟨⟨HB, ⟨⟨HT, Ho⟩, HR⟩, Hb⟩, HA⟩ Hk
  iapply hh $$ HT
  iintro HT
  iapply h $$ [HB HT Ho HR Hb HA] Hk
  isplitr [HA]
  · isplitl [HB]; · iexact HB
    isplitr [Hb]
    · isplitr [HR]
      · isplitl [HT] <;> iassumption
      iexact HR
    iexact Hb
  iexact HA

end Cert.KernelIdeal.Hand
-- ==== Proof.Ends.lean ====
/- What surrounds the body on one device: the buffers cut into slots and joined again, the semaphores taken
   over by the protocol and given back at zero. -/
module

public import proofs.«01_k».proof.Proof.Ring
public import Idealize.ShloMosaic.Lib.Ring.FamCut
public import Idealize.ShloMosaic.Lib.ViewIndex

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Facts₀ Facts

variable {F : FTy → Type} [FloatOps F]

local notation "𝕄" => MT nD τ sig ℕ (Elt F) ℕ UU ℕ

variable (V : Vals F) (K : Dev nD × Key → ℕ) (d : Dev nD)

omit [FloatOps F] in
theorem bigSep_all4 (f : Fin 4 → sProp 𝕄) : bigSep Finset.univ f = all4 f :=
  bigSep_univ_eq_bigSepL [(0 : Fin 4), 1, 2, 3] (by decide) (by decide) f

theorem all4_unsep (A B : Fin 4 → sProp 𝕄) : (all4 fun ch => iprop(A ch ∗ B ch)) ⊢ iprop(all4 A ∗ all4 B) := by
  iintro ⟨⟨A0, B0⟩, ⟨A1, B1⟩, ⟨A2, B2⟩, ⟨A3, B3⟩⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption

/-! ## The buffers -/

theorem slot_disj (b b' : Fin 4 × Fin 2) (h : b ≠ b') : Disjoint (slM b.1 b.2).view.set (slM b'.1 b'.2).view.set := by
  refine View.disjoint_slice ?_
  by_cases h1 : b.1 = b'.1
  · have h2 : b.2 ≠ b'.2 := fun e => h (Prod.ext h1 e)
    have h3 : b.2.val ≠ b'.2.val := fun e => h2 (Fin.ext e)
    refine Rect.unit_disjoint (1 : Fin 4) ?_
    show b.2.val + 1 ≤ b'.2.val ∨ b'.2.val + 1 ≤ b.2.val
    omega
  · have h3 : b.1.val ≠ b'.1.val := fun e => h1 (Fin.ext e)
    refine Rect.unit_disjoint (0 : Fin 4) ?_
    show b.1.val + 1 ≤ b'.1.val ∨ b'.1.val + 1 ≤ b.1.val
    omega

theorem pbuf_disj (b b' : Fin 4) (h : b ≠ b') : Disjoint (pbM b).view.set (pbM b').view.set := by
  refine View.disjoint_slice (Rect.unit_disjoint (0 : Fin 3) ?_)
  have h3 : b.val ≠ b'.val := fun e => h (Fin.ext e)
  show b.val + 1 ≤ b'.val ∨ b'.val + 1 ≤ b.val
  omega

/-- What lies outside every slot, and outside every product. -/
def rests : sProp 𝕄 :=
  iprop((∃ f : Buf (Elt F) ((d : Thread nD τ).loc cc0_scratch0), ((d : Thread nD τ).loc cc0_scratch0) ↦[Ring.restOf fun b : Fin 4 × Fin 2 => (slM b.1 b.2).view.set]{fullShare} f)
    ∗ ∃ f : Buf (Elt F) ((d : Thread nD τ).loc cc0_scratch1), ((d : Thread nD τ).loc cc0_scratch1) ↦[Ring.restOf fun b : Fin 4 => (pbM b).view.set]{fullShare} f)

/-- Both scratch buffers, whole, at some contents. -/
def scratch : sProp 𝕄 :=
  iprop((∃ f : Buf (Elt F) ((d : Thread nD τ).loc cc0_scratch0), ((d : Thread nD τ).loc cc0_scratch0) ↦{fullShare} f)
    ∗ ∃ f : Buf (Elt F) ((d : Thread nD τ).loc cc0_scratch1), ((d : Thread nD τ).loc cc0_scratch1) ↦{fullShare} f)

theorem owns_ex {sp : Space} {s : Shape} {e : EltTy} (m : Memref sig .tc sp s e) :
    (iprop(∃ v, owns (d : Thread nD τ) m fullShare v) : sProp 𝕄)
      = iprop(∃ f : Buf (Elt F) (m.view.loc (d : Thread nD τ)), (m.view.loc (d : Thread nD τ)) ↦[m.view.set]{fullShare} f) := by
  unfold owns
  have h1 : (iprop(∃ v, ∃ f : Buf (Elt F) (m.view.loc (d : Thread nD τ)), ⌜m.view.read (Elt F) f = v⌝ ∗ (m.view.loc (d : Thread nD τ)) ↦[m.view.set]{fullShare} f) : sProp 𝕄)
      ⊢ iprop(∃ f : Buf (Elt F) (m.view.loc (d : Thread nD τ)), (m.view.loc (d : Thread nD τ)) ↦[m.view.set]{fullShare} f) := by
    iintro ⟨%v, %f, -, H⟩; iexists f; iexact H
  have h2 : (iprop(∃ f : Buf (Elt F) (m.view.loc (d : Thread nD τ)), (m.view.loc (d : Thread nD τ)) ↦[m.view.set]{fullShare} f) : sProp 𝕄)
      ⊢ iprop(∃ v, ∃ f : Buf (Elt F) (m.view.loc (d : Thread nD τ)), ⌜m.view.read (Elt F) f = v⌝ ∗ (m.view.loc (d : Thread nD τ)) ↦[m.view.set]{fullShare} f) := by
    iintro ⟨%f, H⟩; iexists _; iexists f; isplitr; · ipureintro; rfl
    iexact H
  exact BI.Entails.antisymm h1 h2

theorem cut_slots : (bigSep Finset.univ fun b : Fin 4 × Fin 2 => slotAny (F := F) d b.1 b.2)
    = all4 fun ch => iprop(slotAny (F := F) d ch 0 ∗ slotAny (F := F) d ch 1) := by
  rw [bigSep_univ_prod, bigSep_all4]
  congr 1; funext ch
  exact BI.bigSep_fin_two (fun p : Fin 2 => slotAny (F := F) d ch p)

theorem slots_raw : (bigSep Finset.univ fun b : Fin 4 × Fin 2 => (iprop(∃ f : Buf (Elt F) ((d : Thread nD τ).loc cc0_scratch0),
      ((d : Thread nD τ).loc cc0_scratch0) ↦[(slM b.1 b.2).view.set]{fullShare} f) : sProp 𝕄))
    = all4 fun ch => iprop(slotAny (F := F) d ch 0 ∗ slotAny (F := F) d ch 1) := by
  rw [← cut_slots]; exact bigSep_congr fun b _ => (owns_ex d (slM b.1 b.2)).symm

theorem pbufs_raw : (bigSep Finset.univ fun b : Fin 4 => (iprop(∃ f : Buf (Elt F) ((d : Thread nD τ).loc cc0_scratch1),
      ((d : Thread nD τ).loc cc0_scratch1) ↦[(pbM b).view.set]{fullShare} f) : sProp 𝕄))
    = all4 fun ch => pbAny (F := F) d ch := by
  rw [← bigSep_all4]; exact bigSep_congr fun b _ => (owns_ex d (pbM b)).symm

/-- The scratch buffers, cut into the slots and the products. -/
theorem cut : scratch (F := F) d ⊢ iprop((all4 fun ch => iprop((slotAny (F := F) d ch 0 ∗ slotAny (F := F) d ch 1) ∗ pbAny (F := F) d ch)) ∗ rests (F := F) d) := by
  have h0 := Ring.fam_split_ex (nD := nD) (τ := τ) (sig := sig) (Ix := ℕ) (Val := Elt F) (Name := ℕ) (U := UU) (Lvl := ℕ) (ℓ := (d : Thread nD τ).loc cc0_scratch0)
    (fun b : Fin 4 × Fin 2 => (slM b.1 b.2).view.set) slot_disj (q := fullShare)
  have h1 := Ring.fam_split_ex (nD := nD) (τ := τ) (sig := sig) (Ix := ℕ) (Val := Elt F) (Name := ℕ) (U := UU) (Lvl := ℕ) (ℓ := (d : Thread nD τ).loc cc0_scratch1)
    (fun b : Fin 4 => (pbM b).view.set) pbuf_disj (q := fullShare)
  rw [slots_raw] at h0; rw [pbufs_raw] at h1
  unfold scratch rests
  iintro ⟨H0, H1⟩
  ihave H0 := h0 $$ H0
  icases H0 with ⟨H0, R0⟩
  ihave H1 := h1 $$ H1
  icases H1 with ⟨H1, R1⟩
  isplitl [H0 H1]
  · iapply all4_sep
    isplitl [H0] <;> iassumption
  isplitl [R0] <;> iassumption

/-- The slots and the products, joined into the scratch buffers. -/
theorem join : iprop((all4 fun ch => iprop((slotAny (F := F) d ch 0 ∗ slotAny (F := F) d ch 1) ∗ pbAny (F := F) d ch)) ∗ rests (F := F) d) ⊢ scratch (F := F) d := by
  have h0 := Ring.fam_join (nD := nD) (τ := τ) (sig := sig) (Ix := ℕ) (Val := Elt F) (Name := ℕ) (U := UU) (Lvl := ℕ) (ℓ := (d : Thread nD τ).loc cc0_scratch0)
    (fun b : Fin 4 × Fin 2 => (slM b.1 b.2).view.set) slot_disj (q := fullShare)
  have h1 := Ring.fam_join (nD := nD) (τ := τ) (sig := sig) (Ix := ℕ) (Val := Elt F) (Name := ℕ) (U := UU) (Lvl := ℕ) (ℓ := (d : Thread nD τ).loc cc0_scratch1)
    (fun b : Fin 4 => (pbM b).view.set) pbuf_disj (q := fullShare)
  rw [slots_raw] at h0; rw [pbufs_raw] at h1
  unfold scratch rests
  iintro ⟨HA, ⟨%r0, R0⟩, ⟨%r1, R1⟩⟩
  ihave HA := (all4_unsep (fun ch => iprop(slotAny (F := F) d ch 0 ∗ slotAny (F := F) d ch 1)) fun ch => pbAny (F := F) d ch) $$ HA
  icases HA with ⟨H0, H1⟩
  isplitl [H0 R0]
  · iapply (h0 r0)
    isplitl [H0]; · iexact H0
    iexists r0; iexact R0
  · iapply (h1 r1)
    isplitl [H1]; · iexact H1
    iexists r1; iexact R1

/-! ## The semaphores -/

/-- The semaphores of the body itself: channel by channel, both sends, both receives, the credit. -/
def bodyKey (x : Fin 4 × Fin 5) : Key := ![.send x.1 0, .send x.1 1, .recv x.1 0, .recv x.1 1, .cred x.1] x.2
/-- Where they are. -/
abbrev bodySem (x : Fin 4 × Fin 5) : SemLoc sig := (bodyKey x).loc

/-- A device takes its semaphores over into the protocol. -/
theorem take_over :
    iprop(ctx V K ∗ bigSep Finset.univ (fun x : Fin 4 × Fin 5 => iprop(openTok ER (cell d (bodyKey x)) ∗ semVal (cell d (bodyKey x)) 0)))
      ⊢ |={Set.univ}=> bigSep Finset.univ (fun x : Fin 4 × Fin 5 => atR (F := F) d (bodyKey x) 0) := by
  have h := bigSep_with_persistent (S := Finset.univ) (R := ctx V K) (Φ := fun x : Fin 4 × Fin 5 => iprop(openTok ER (cell d (bodyKey x)) ∗ semVal (cell d (bodyKey x)) 0))
    (Ψ := fun x => iprop(|={Set.univ}=> atR (F := F) d (bodyKey x) 0)) (fun x _ => by
      iintro ⟨#Hc, Ho, Hv⟩
      iapply (Rounds.cell_open ER (rd V) (g := cell d (bodyKey x)) (Set.mem_univ (K (d, bodyKey x))))
      isplitr; · iapply (ctx_cell V K d (bodyKey x)); iexact Hc
      isplitl [Ho] <;> iassumption)
  exact h.trans (bigSep_fupd _ _)

/-- A device gives its semaphores back at zero. -/
theorem give_back :
    iprop(ctx V K ∗ bigSep Finset.univ (fun x : Fin 4 × Fin 5 => at_ (F := F) d (bodyKey x) (rounds (bodyKey x))))
      ⊢ |={Set.univ}=> bigSep Finset.univ (fun x : Fin 4 × Fin 5 => (semVal (cell d (bodyKey x)) 0 : sProp 𝕄)) := by
  have h := bigSep_with_persistent (S := Finset.univ) (R := ctx V K) (Φ := fun x : Fin 4 × Fin 5 => at_ (F := F) d (bodyKey x) (rounds (bodyKey x)))
    (Ψ := fun x => iprop(|={Set.univ}=> semVal (cell d (bodyKey x)) 0)) (fun x _ => by
      iintro ⟨#Hc, Ho⟩
      iapply (Rounds.cell_close ER (rd V) (g := cell d (bodyKey x)) (Set.mem_univ (K (d, bodyKey x))) (fun h => h)
        (R := rounds (bodyKey x)) (fun r hr => duties_done V d (bodyKey x) r hr))
      isplitr; · iapply (ctx_cell V K d (bodyKey x)); iexact Hc
      iexact Ho)
  exact h.trans (bigSep_fupd _ _)

/-- The barrier's semaphore, given back at zero. -/
theorem give_bar : iprop(ctx V K ∗ at_ (F := F) d .bar 1) ⊢ |={Set.univ}=> semVal (cell d .bar) 0 := by
  iintro ⟨#Hc, Ho⟩
  iapply (Rounds.cell_close ER (rd V) (g := cell d .bar) (Set.mem_univ (K (d, .bar))) (fun h => h)
    (R := 1) (fun r hr => duties_done V d .bar r hr))
  isplitr; · iapply (ctx_cell V K d .bar); iexact Hc
  iexact Ho

theorem by_channel (f : Fin 4 × Fin 5 → sProp 𝕄) :
    bigSep Finset.univ f = all4 fun ch => iprop(f (ch, 0) ∗ f (ch, 1) ∗ f (ch, 2) ∗ f (ch, 3) ∗ f (ch, 4)) := by
  rw [bigSep_univ_prod, bigSep_all4]
  congr 1; funext ch
  exact bigSep_univ_eq_bigSepL [(0 : Fin 5), 1, 2, 3, 4] (by decide) (by decide) fun j => f (ch, j)

/-! ## Before and after the body -/

/-- The rights a device has from the launch. -/
def rights : sProp 𝕄 := iprop((all4 fun ch => copyTok (F := F) d ch 0) ∗ restToks (F := F) d 0 30)

/-- The channels' start: the cut buffers, the positions of the semaphores, the first copies' rights. -/
theorem opening_intro :
    iprop(scratch (F := F) d ∗ bigSep Finset.univ (fun x : Fin 4 × Fin 5 => atR (F := F) d (bodyKey x) 0) ∗ all4 fun ch => copyTok (F := F) d ch 0)
      ⊢ iprop((all4 fun ch => opening (F := F) d ch) ∗ rests (F := F) d) := by
  have hm : iprop((all4 fun ch => iprop((slotAny (F := F) d ch 0 ∗ slotAny (F := F) d ch 1) ∗ pbAny (F := F) d ch))
      ∗ (all4 fun ch => iprop(atR (F := F) d (.send ch 0) 0 ∗ atR (F := F) d (.send ch 1) 0 ∗ atR (F := F) d (.recv ch 0) 0
        ∗ atR (F := F) d (.recv ch 1) 0 ∗ atR (F := F) d (.cred ch) 0)) ∗ all4 fun ch => copyTok (F := F) d ch 0)
      ⊢ all4 fun ch => opening (F := F) d ch :=
    ((sep_mono_right (all4_sep _ _)).trans (all4_sep _ _)).trans (all4_mono fun ch => by
      unfold opening start
      iintro ⟨⟨⟨S0, S1⟩, HP⟩, ⟨A0, A1, R0, ⟨R1, #Rr⟩, C⟩, HT⟩
      isplitl [S0]; · iexact S0
      isplitl [HP A0 A1 R0 R1 C HT]
      · isplitl [HP]; · iexact HP
        isplitl [A0]; · iexact A0
        isplitl [A1]; · iexact A1
        isplitl [R1]; · iexact R1
        isplitl [R0]; · iexact R0
        isplitl [C] <;> iassumption
      isplitl [S1]; · iexact S1
      iexact Rr)
  rw [by_channel]
  iintro ⟨HS, HP, HT⟩
  ihave HS := (cut (F := F) d) $$ HS
  icases HS with ⟨HS, HR⟩
  isplitr [HR]
  · iapply hm
    isplitl [HS]; · iexact HS
    isplitl [HP]; · iexact HP
    iexact HT
  iexact HR

/-- The channels' end: the buffers joined, the positions past the last round. -/
theorem ended_elim :
    iprop((all4 fun ch => ended (F := F) d ch) ∗ rests (F := F) d)
      ⊢ iprop(scratch (F := F) d ∗ bigSep Finset.univ (fun x : Fin 4 × Fin 5 => at_ (F := F) d (bodyKey x) (rounds (bodyKey x)))) := by
  have hm : (all4 fun ch => ended (F := F) d ch)
      ⊢ all4 fun ch => iprop(((slotAny (F := F) d ch 0 ∗ slotAny (F := F) d ch 1) ∗ pbAny (F := F) d ch)
        ∗ (at_ (F := F) d (.send ch 0) 16 ∗ at_ (F := F) d (.send ch 1) 15 ∗ at_ (F := F) d (.recv ch 0) 15
          ∗ at_ (F := F) d (.recv ch 1) 16 ∗ at_ (F := F) d (.cred ch) 30)) :=
    all4_mono fun ch => by
      unfold ended
      iintro ⟨S0, S1, HP, A0, A1, R1, R0, C⟩
      isplitl [S0 S1 HP]
      · isplitl [S0 S1]
        · isplitl [S0] <;> iassumption
        iexact HP
      isplitl [A0]; · iexact A0
      isplitl [A1]; · iexact A1
      isplitl [R0]; · iexact R0
      isplitl [R1] <;> iassumption
  rw [by_channel]
  iintro ⟨HE, HR⟩
  ihave HE := hm $$ HE
  ihave HE := (all4_unsep (fun ch => iprop((slotAny (F := F) d ch 0 ∗ slotAny (F := F) d ch 1) ∗ pbAny (F := F) d ch))
    (fun ch => iprop(at_ (F := F) d (.send ch 0) 16 ∗ at_ (F := F) d (.send ch 1) 15 ∗ at_ (F := F) d (.recv ch 0) 15
          ∗ at_ (F := F) d (.recv ch 1) 16 ∗ at_ (F := F) d (.cred ch) 30))) $$ HE
  icases HE with ⟨HS, HA⟩
  isplitl [HS HR]
  · iapply (join (F := F) d)
    isplitl [HS] <;> iassumption
  iexact HA

end Cert.KernelIdeal.Hand
-- ==== Proof.Host.lean ====
/- What the tables hold when the kernel starts: each device's two neighbours and its row blocks, step by step. -/
module

public import proofs.«01_k».proof.Proof.Atoms
public import proofs.«01_k».proof.Proof.Gen.KernelIdeal.Regions
public import Idealize.ShloMosaic.Lib.StableHlo.RunRead
public import Idealize.ShloMosaic.Lib.StableHlo.ReadAt

@[expose] public section

noncomputable section

namespace Cert.KernelIdeal.Hand

open Idealize.ShloMosaic
open Idealize.ShloMosaic.TcCoe
open Cert.KernelIdeal Facts₀ Facts
open Cert.KernelIdeal.Gen

variable {F : FTy → Type} [FloatOps F]

variable (m : (ℓ : Loc nD τ sig) → Buf (Elt F) ℓ) (c : Dev nD)

theorem dev_word : IntOp.remui .host (IntOp.divui .host (Dev.word c) 1#32) 32#32 = BitVec.ofNat 32 c.val := by
  revert c; decide

theorem V1_dev : V1 m c main_v4 = fun _ => BitVec.ofNat 32 c.val := by
  unfold V1
  after_reads_simp
  funext i
  exact dev_word c

/-- The word read as an index of a table of 32: a negative one counted from the end. -/
def wrap (w : BitVec 32) : S_.Idx → BitVec 32 :=
  select (cmpi .slt (fun _ => w) (constantI S_ 32 0#32)) (addi (fun _ => w) (constantI S_ 32 32#32)) (fun _ => w)

/-- The table's entry at a word, with the check that the word lies inside the table. -/
def entry (T : S32.Idx → BitVec 32) (w : BitVec 32) : S_.Idx → BitVec 32 :=
  select
    (Host.reduce IntOp.andi
      (andi (cmpi .sge (broadcastInDim S1 ![] Gen.bcast_S_S1 (wrap w)) (broadcastInDim S1 ![] Gen.bcast_S_S1 (constantI S_ 32 0#32)))
        (cmpi .sle (broadcastInDim S1 ![] Gen.bcast_S_S1 (wrap w)) (constantI S1 32 31#32)))
      (constantI S_ 1 1#1) Gen.reducesTo_S1_S_d0 Gen.h_S_)
    (Host.gather gather_S32_S1_S__n_0_n_n_0_0_1 T (broadcastInDim S1 ![] Gen.bcast_S_S1 (wrap w)))
    (constantI S_ 32 2147483648#32)

theorem entry_nxt : ∀ c : Dev nD, entry (fun i => lit0 (S32.rowMajor i)) (BitVec.ofNat 32 c.val) (fun a => a.elim0) = BitVec.ofNat 32 (nxtD c).val := by
  decide +kernel

theorem entry_prv : ∀ c : Dev nD, entry (fun i => lit1 (S32.rowMajor i)) (BitVec.ofNat 32 c.val) (fun a => a.elim0) = BitVec.ofNat 32 (prvD c).val := by
  decide +kernel

/-- One row of a table of 32 rows of 31 words. -/
def tableRow (T : S32x31.Idx → BitVec 32) (w : BitVec 32) : S31.Idx → BitVec 32 :=
  shapeCast S31 (Host.dynamicSlice S1x31 T (fun a => ((![wrap w, constantI S_ 32 0#32] : Fin 2 → S_.Idx → BitVec 32) a (fun a => a.elim0)).toInt) (by decide)) (by decide)

theorem row_fwd : ∀ (c : Dev nD) (k : Fin S31.numel), tableRow (fun i => lit2 (S32x31.rowMajor i)) (BitVec.ofNat 32 c.val) (S31.rowMajor.symm k) = tabV c 0 (S31.rowMajor.symm k) := by
  decide +kernel
theorem row_rev : ∀ (c : Dev nD) (k : Fin S31.numel), tableRow (fun i => lit3 (S32x31.rowMajor i)) (BitVec.ofNat 32 c.val) (S31.rowMajor.symm k) = tabV c 2 (S31.rowMajor.symm k) := by
  decide +kernel

theorem V2_take (W : Valuation τ sig (Elt F)) (w : BitVec 32) (h4 : W main_v4 = fun _ => w) :
    StableHlo.after hostOps0_1 W main_v5 = entry (W main_c) w := by
  after_reads_simp
  simp only [StableHlo.TRef.ofBuf_toBuf]
  rw [h4]
  rfl
theorem V4_take (W : Valuation τ sig (Elt F)) (w : BitVec 32) (h4 : W main_v4 = fun _ => w) :
    StableHlo.after hostOps0_3 W main_v7 = entry (W main_c_0) w := by
  after_reads_simp
  simp only [StableHlo.TRef.ofBuf_toBuf]
  rw [h4]
  rfl
theorem V6_row (W : Valuation τ sig (Elt F)) (w : BitVec 32) (h4 : W main_v4 = fun _ => w) :
    StableHlo.after hostOps0_5 W main_v9 = tableRow (W main_c_1) w := by
  have hv : StableHlo.upto hostOps0_5 W 6 main_call2_v2 = wrap w := by
    after_reads_simp
    simp only [StableHlo.TRef.ofBuf_toBuf]
    rw [h4]
    rfl
  have hz : StableHlo.upto hostOps0_5 W 6 main_call2_c_1 = constantI S_ 32 0#32 := by
    after_reads_simp
    rfl
  after_reads_simp
  refine congrArg (fun st => shapeCast S31 (Host.dynamicSlice S1x31 (W main_c_1) st (by decide)) (by decide)) (funext fun k => ?_)
  revert k
  refine Fin.forall_fin_two.mpr ⟨?_, ?_⟩
  · exact congrArg BitVec.toInt (congrFun hv _)
  · exact congrArg BitVec.toInt (congrFun hz _)
theorem V7_row (W : Valuation τ sig (Elt F)) (w : BitVec 32) (h4 : W main_v4 = fun _ => w) :
    StableHlo.after hostOps0_6 W main_v10 = tableRow (W main_c_2) w := by
  have hv : StableHlo.upto hostOps0_6 W 6 main_call3_v2 = wrap w := by
    after_reads_simp
    simp only [StableHlo.TRef.ofBuf_toBuf]
    rw [h4]
    rfl
  have hz : StableHlo.upto hostOps0_6 W 6 main_call3_c_1 = constantI S_ 32 0#32 := by
    after_reads_simp
    rfl
  after_reads_simp
  refine congrArg (fun st => shapeCast S31 (Host.dynamicSlice S1x31 (W main_c_2) st (by decide)) (by decide)) (funext fun k => ?_)
  revert k
  refine Fin.forall_fin_two.mpr ⟨?_, ?_⟩
  · exact congrArg BitVec.toInt (congrFun hv _)
  · exact congrArg BitVec.toInt (congrFun hz _)

theorem V1_c : V1 m c main_c = fun i => lit0 (S32.rowMajor i) := by unfold V1; after_reads_simp; rfl
theorem V1_c0 : V1 m c main_c_0 = fun i => lit1 (S32.rowMajor i) := by unfold V1; after_reads_simp; rfl
theorem V1_c1 : V1 m c main_c_1 = fun i => lit2 (S32x31.rowMajor i) := by unfold V1; after_reads_simp; rfl
theorem V1_c2 : V1 m c main_c_2 = fun i => lit3 (S32x31.rowMajor i) := by unfold V1; after_reads_simp; rfl

theorem V7_v6 : V7 m c main_v6 = (fun _ => BitVec.ofNat 32 (nxtD c).val : S1.Idx → BitVec 32) := by
  rw [V7_of m c _ (by decide), V6_of m c _ (by decide), V5_of m c _ (by decide), V4_of m c _ (by decide)]
  have h : V3 m c main_v6 = fun i => V2 m c main_v5 (S_.rowMajor.symm ((S1.rowMajor i).cast (by decide))) := by
    unfold V3; after_reads_simp; rfl
  have h5 : V2 m c main_v5 = entry (V1 m c main_c) (BitVec.ofNat 32 c.val) := V2_take _ _ (V1_dev m c)
  rw [h, h5, V1_c]
  funext i
  rw [← entry_nxt c]
  exact congrArg _ (funext fun a => a.elim0)

theorem V7_v8 : V7 m c main_v8 = (fun _ => BitVec.ofNat 32 (prvD c).val : S1.Idx → BitVec 32) := by
  rw [V7_of m c _ (by decide), V6_of m c _ (by decide)]
  have h : V5 m c main_v8 = fun i => V4 m c main_v7 (S_.rowMajor.symm ((S1.rowMajor i).cast (by decide))) := by
    unfold V5; after_reads_simp; rfl
  have h5 : V4 m c main_v7 = entry (V3 m c main_c_0) (BitVec.ofNat 32 c.val) :=
    V4_take _ _ (by rw [V3_of m c _ (by decide), V2_of m c _ (by decide)]; exact V1_dev m c)
  rw [h, h5, V3_of m c _ (by decide), V2_of m c _ (by decide), V1_c0]
  funext i
  rw [← entry_prv c]
  exact congrArg _ (funext fun a => a.elim0)

theorem V5_dev : V5 m c main_v4 = fun _ => BitVec.ofNat 32 c.val := by
  rw [V5_of m c _ (by decide), V4_of m c _ (by decide), V3_of m c _ (by decide), V2_of m c _ (by decide)]
  exact V1_dev m c

theorem V7_v9 : V7 m c main_v9 = tabV c 0 := by
  rw [V7_of m c _ (by decide)]
  have h : V6 m c main_v9 = tableRow (V5 m c main_c_1) (BitVec.ofNat 32 c.val) := V6_row _ _ (V5_dev m c)
  rw [h, V5_of m c _ (by decide), V4_of m c _ (by decide), V3_of m c _ (by decide), V2_of m c _ (by decide), V1_c1]
  funext i
  simpa using row_fwd c (S31.rowMajor i)

theorem V7_v10 : V7 m c main_v10 = tabV c 2 := by
  have h : V7 m c main_v10 = tableRow (V6 m c main_c_2) (BitVec.ofNat 32 c.val) :=
    V7_row _ _ (by rw [V6_of m c _ (by decide)]; exact V5_dev m c)
  rw [h, V6_of m c _ (by decide), V5_of m c _ (by decide), V4_of m c _ (by decide), V3_of m c _ (by decide), V2_of m c _ (by decide), V1_c2]
  funext i
  simpa using row_rev c (S31.rowMajor i)

theorem V7_x : V7 m c main_arg0 = m ((c : Thread nD τ).loc main_arg0) :=
  (V8_of m (fun _ _ _ => default) c main_arg0 (by decide)).symm.trans (V8_main_arg0 m _ c)
theorem V7_w : V7 m c main_arg1 = m ((c : Thread nD τ).loc main_arg1) :=
  (V8_of m (fun _ _ _ => default) c main_arg1 (by decide)).symm.trans (V8_main_arg1 m _ c)
end Cert.KernelIdeal.Hand
-- ==== Proof.Region.lean ====
/- The kernel call on one device: what its windows hold before and after, and the body's run inside it. -/
module

public import proofs.«01_k».proof.Proof.Ends
public import proofs.«01_k».proof.Proof.Host
public import Idealize.ShloMosaic.Lib.Pipeline.RegionTalk
public import Idealize.ShloMosaic.Lib.Pipeline.ValueKit.Geometry

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Facts₀ Facts
open Cert.KernelIdeal.Gen hiding seg0 segs

variable {F : FTy → Type} [FloatOps F]

local notation "𝕄" => MT nD τ sig ℕ (Elt F) ℕ UU ℕ

/-! ## The result -/

/-- The result on device `d`: the four channels' column blocks side by side. -/
def outV (V : Vals F) (d : Dev nD) : S128x2048.Idx → F .f32 := fun j =>
  fin V d ⟨(j 1).val / 512, Nat.div_lt_of_lt_mul (j 1).isLt⟩
    (Fin.cons ⟨(j 0).val, (j 0).isLt⟩ (Fin.cons ⟨(j 1).val % 512, Nat.mod_lt _ (by decide)⟩ fun a => a.elim0))

theorem out_of_blocks (V : Vals F) (d : Dev nD) (X : S128x2048.Idx → F .f32)
    (h : ∀ ch : Fin 4, ch.val < 4 → ∀ i, X ((colsR ch).emb i) = fin V d ch i) : X = outV V d := by
  funext j
  unfold outV
  rw [← h _ (Fin.isLt _)]
  congr 1
  funext a
  apply Fin.ext
  refine Eq.trans ?_ (Rect.emb_apply _ _ _).symm
  revert a
  refine Fin.forall_fin_two.mpr ⟨?_, ?_⟩
  · show (j 0).val = 0 + 1 * (j 0).val; omega
  · show (j 1).val = 512 * ((j 1).val / 512) + 1 * ((j 1).val % 512); omega

section

variable (m : (ℓ : Loc nD τ sig) → Buf (Elt F) ℓ)

/-- The devices' operands as the program starts with them. -/
def Vm : Vals F where
  x d := m ((d : Thread nD τ).loc main_arg0)
  w d := m ((d : Thread nD τ).loc main_arg1)

/-- The body's operands: the windows' buffers. -/
def ops0 : Ops where
  nxt := Memref.whole cc0_stg0_0
  prv := Memref.whole cc0_stg1_0
  fwd := Memref.whole cc0_stg2_0
  rev := Memref.whole cc0_stg3_0
  x := Memref.whole cc0_stg4_0
  w := Memref.whole cc0_stg5_0
  o := Memref.whole cc0_stg6_0

/-! ## The windows -/

variable (c : Dev nD)

/-- What the protocol has on a device once its semaphores are taken over. -/
def held0 : sProp 𝕄 := iprop(∃ K, ctx (Vm m) K ∗ bigSep Finset.univ (fun x : Fin 4 × Fin 5 => atR (F := F) c (bodyKey x) 0) ∗ rights (F := F) c ∗ barTok (F := F) c)

/-- Before the call. -/
def before0 : sProp 𝕄 := iprop(scratch (F := F) c ∗ (∃ r, prngReg c r) ∗ held0 m c)
/-- After it. -/
def after0 : sProp 𝕄 :=
  iprop(scratch (F := F) c ∗ (∃ r, prngReg c r) ∗ bigSep Finset.univ (fun x : Fin 4 × Fin 5 => semVal (cell c (bodyKey x)) 0) ∗ semVal (cell c .bar) 0)

def dat0 : Dat τ (Elt F) ℕ ℕ UU ℕ cfg0 c where
  A w := V7 m c (Proc.devRef .tc (Pipeline.arrRef spec0 w))
  after w _ := match w with
    | ⟨0, _⟩ => nbrTab (nxtD c)
    | ⟨1, _⟩ => nbrTab (prvD c)
    | ⟨2, _⟩ => tabV c 0
    | ⟨3, _⟩ => tabV c 2
    | ⟨4, _⟩ => (Vm m).x c
    | ⟨5, _⟩ => (Vm m).w c
    | ⟨6, _⟩ => outV (Vm m) c
    | ⟨_ + 7, h⟩ => absurd h (Nat.not_lt.2 (Nat.le_add_left _ _))
  Φ t := match t with
    | ⟨0, _⟩ => before0 m c
    | ⟨_ + 1, _⟩ => after0 c
  q _ := fullShare
  owed t := match t with
    | ⟨0, _⟩ => O₀ c
    | ⟨_ + 1, _⟩ => 0

def dats : (p : Fin 1) → (c : Dev nD) → Dat τ (Elt F) ℕ ℕ UU ℕ (cfgs p) c := fun _ => dat0 m

theorem owed_first : (dat0 m c).owed t0_0.castSucc = O₀ c := rfl
theorem owed_last : (dat0 m c).owed t0_0.succ = 0 := rfl

theorem owes_in (t : Fin (cfg0.N + 1)) (O : CellTallies nD τ sig ℕ) (h : (dat0 m c).owed t = O) :
    ((dat0 m c).owesAt 0 t : sProp 𝕄) ⊢ iprop(∃ W, owes (c : Thread nD τ) O W) := by
  unfold Dat.owesAt Pipeline.owesWithin; rw [h]
  iintro ⟨%W, -, HO⟩; iexists W; iexact HO
theorem owes_out (t : Fin (cfg0.N + 1)) (O : CellTallies nD τ sig ℕ) (h : (dat0 m c).owed t = O) (hr : (dat0 m c).recorded t = Set.univ) :
    (iprop(∃ W, owes (c : Thread nD τ) O W) : sProp 𝕄) ⊢ ((dat0 m c).owesAt 0 t : sProp 𝕄) := by
  unfold Dat.owesAt Pipeline.owesWithin Dat.bound; rw [h, hr]
  iintro ⟨%W, HO⟩; iexists W; isplitr; · ipureintro; exact fun _ _ => Or.inl trivial
  iexact HO

theorem emb_0 (i : S1.Idx) : ((cfg0.win 0).blk t0_0).view.emb i = i := by
  funext a
  apply Fin.ext
  exact Pipeline.Window.rect_emb_val_of_index_zero win0_0 t0_0 a (by revert a; decide +kernel) i
theorem before_0 (t : Fin cfg0.N) (d) : (dat0 m c).before 0 t d = nbrTab (nxtD c) := by
  rw [Dat.before, if_pos (fetch0_0 t), fin_N0 t]
  have h : (dat0 m c).fetched 0 t0_0 d = fun i => V7 m c main_v6 (((cfg0.win 0).blk t0_0).view.emb i) := rfl
  rw [h]
  funext i
  rw [emb_0, V7_v6]
  rfl
theorem emb_1 (i : S1.Idx) : ((cfg0.win 1).blk t0_0).view.emb i = i := by
  funext a
  apply Fin.ext
  exact Pipeline.Window.rect_emb_val_of_index_zero win0_1 t0_0 a (by revert a; decide +kernel) i
theorem before_1 (t : Fin cfg0.N) (d) : (dat0 m c).before 1 t d = nbrTab (prvD c) := by
  rw [Dat.before, if_pos (fetch0_1 t), fin_N0 t]
  have h : (dat0 m c).fetched 1 t0_0 d = fun i => V7 m c main_v8 (((cfg0.win 1).blk t0_0).view.emb i) := rfl
  rw [h]
  funext i
  rw [emb_1, V7_v8]
  rfl
theorem emb_2 (i : S31.Idx) : ((cfg0.win 2).blk t0_0).view.emb i = i := by
  funext a
  apply Fin.ext
  exact Pipeline.Window.rect_emb_val_of_index_zero win0_2 t0_0 a (by revert a; decide +kernel) i
theorem before_2 (t : Fin cfg0.N) (d) : (dat0 m c).before 2 t d = tabV c 0 := by
  rw [Dat.before, if_pos (fetch0_2 t), fin_N0 t]
  have h : (dat0 m c).fetched 2 t0_0 d = fun i => V7 m c main_v9 (((cfg0.win 2).blk t0_0).view.emb i) := rfl
  rw [h]
  funext i
  rw [emb_2, V7_v9]
theorem emb_3 (i : S31.Idx) : ((cfg0.win 3).blk t0_0).view.emb i = i := by
  funext a
  apply Fin.ext
  exact Pipeline.Window.rect_emb_val_of_index_zero win0_3 t0_0 a (by revert a; decide +kernel) i
theorem before_3 (t : Fin cfg0.N) (d) : (dat0 m c).before 3 t d = tabV c 2 := by
  rw [Dat.before, if_pos (fetch0_3 t), fin_N0 t]
  have h : (dat0 m c).fetched 3 t0_0 d = fun i => V7 m c main_v10 (((cfg0.win 3).blk t0_0).view.emb i) := rfl
  rw [h]
  funext i
  rw [emb_3, V7_v10]
theorem emb_4 (i : S4096x128.Idx) : ((cfg0.win 4).blk t0_0).view.emb i = i := by
  funext a
  apply Fin.ext
  exact Pipeline.Window.rect_emb_val_of_index_zero win0_4 t0_0 a (by revert a; decide +kernel) i
theorem before_4 (t : Fin cfg0.N) (d) : (dat0 m c).before 4 t d = (Vm m).x c := by
  rw [Dat.before, if_pos (fetch0_4 t), fin_N0 t]
  have h : (dat0 m c).fetched 4 t0_0 d = fun i => V7 m c main_arg0 (((cfg0.win 4).blk t0_0).view.emb i) := rfl
  rw [h]
  funext i
  rw [emb_4, V7_x]
  rfl
theorem emb_5 (i : S128x2048.Idx) : ((cfg0.win 5).blk t0_0).view.emb i = i := by
  funext a
  apply Fin.ext
  exact Pipeline.Window.rect_emb_val_of_index_zero win0_5 t0_0 a (by revert a; decide +kernel) i
theorem before_5 (t : Fin cfg0.N) (d) : (dat0 m c).before 5 t d = (Vm m).w c := by
  rw [Dat.before, if_pos (fetch0_5 t), fin_N0 t]
  have h : (dat0 m c).fetched 5 t0_0 d = fun i => V7 m c main_arg1 (((cfg0.win 5).blk t0_0).view.emb i) := rfl
  rw [h]
  funext i
  rw [emb_5, V7_w]
  rfl

/-- What the result's window held before is not chosen. -/
theorem outTo_intro (X : S128x2048.Idx → F .f32) :
    (owns (c : Thread nD τ) ops0.o fullShare X : sProp 𝕄) ⊢ outTo ops0 (Vm m) c 0 := by
  unfold outTo
  iintro H; iexists X
  isplitl [H]; · iexact H
  ipureintro
  exact fun ch h => absurd h (Nat.not_lt_zero _)
theorem outTo_elim :
    (outTo ops0 (Vm m) c 4 : sProp 𝕄) ⊢ owns (c : Thread nD τ) ops0.o fullShare (outV (Vm m) c) := by
  unfold outTo
  iintro ⟨%X, H, %h⟩
  rw [← out_of_blocks (Vm m) c X h]
  iexact H

/-- The body on one device, from the taken-over semaphores to the semaphores given back. -/
theorem call_run (X : S128x2048.Idx → F .f32) :
    Run c iprop((before0 m c ∗ ∃ W, owes (c : Thread nD τ) (O₀ c) W) ∗ tabs (F := F) ops0 c ∗ opnds ops0 (Vm m) c ∗ owns (c : Thread nD τ) ops0.o fullShare X)
      (body ops0)
      iprop((after0 (F := F) c ∗ ∃ W, owes (c : Thread nD τ) 0 W) ∗ tabs (F := F) ops0 c ∗ opnds ops0 (Vm m) c ∗ owns (c : Thread nD τ) ops0.o fullShare (outV (Vm m) c)) := fun Q => by
  unfold before0 held0 rights
  iintro ⟨⟨⟨HS, HP, ⟨%K, #Hc, HA, ⟨HT, HR⟩, HB⟩⟩, HO⟩, Ht, Ho, HX⟩ Hk
  ihave HI := (opening_intro (F := F) c) $$ [HS HA HT]
  · isplitl [HS]; · iexact HS
    isplitl [HA] <;> iassumption
  icases HI with ⟨HI, Hrest⟩
  unfold Wp
  iapply (wp_fupd _ _ _ (body ops0) Q)
  iapply (body_run (F := F) ops0 (Vm m) K c (fun r => iprop(|={Set.univ}=> Q r))) $$ [Ho HO Ht HX HR HB HI]
  · isplitr [HI]
    · isplitl [Ho HO]
      · unfold Base
        isplitr; · iexact Hc
        isplitl [Ho] <;> iassumption
      isplitr [HB]
      · isplitr [HR]
        · isplitl [Ht]; · iexact Ht
          iapply (outTo_intro m c X); iexact HX
        iexact HR
      iexact HB
    iexact HI
  unfold Base
  iintro ⟨⟨⟨-, Ho, HO⟩, ⟨Ht, Hb⟩, HX⟩, HE⟩
  ihave HE := (ended_elim (F := F) c) $$ [HE Hrest]
  · isplitl [HE] <;> iassumption
  icases HE with ⟨HS, HA⟩
  imod (give_back (Vm m) K c) $$ [HA] with HA
  · isplitr; · iexact Hc
    iexact HA
  imod (give_bar (Vm m) K c) $$ [Hb] with Hb
  · isplitr; · iexact Hc
    iexact Hb
  imodintro
  iapply Hk
  isplitl [HS HP HA Hb HO]
  · unfold after0
    isplitr [HO]
    · isplitl [HS]; · iexact HS
      isplitl [HP]; · iexact HP
      isplitl [HA] <;> iassumption
    iexact HO
  isplitl [Ht]; · iexact Ht
  isplitl [Ho]; · iexact Ho
  iapply (outTo_elim m c); iexact HX

theorem call_eq : (defs₀ (F := F)) .tc cfg0.body (cfg0.bodyArgs t0_0 (cfg0.slots t0_0)) = bodyAt0 t0_0 := rfl
theorem call_eq' : bodyAt0 (F := F) t0_0 = body ops0 := body_eq ops0 (Memref.isWhole_whole _) (Memref.isWhole_whole _) (Memref.isWhole_whole _) (Memref.isWhole_whole _) (Memref.isWhole_whole _) (Memref.isWhole_whole _) (Memref.isWhole_whole _)
theorem call_pre : (dat0 m c).Φ t0_0.castSucc = before0 m c := rfl
theorem call_post : (dat0 m c).Φ t0_0.succ = after0 c := rfl
theorem stage_0 : stage0_0 0 = ops0.nxt := rfl
theorem after_0 : (dat0 m c).after 0 t0_0 = nbrTab (nxtD c) := rfl
theorem stage_1 : stage0_1 0 = ops0.prv := rfl
theorem after_1 : (dat0 m c).after 1 t0_0 = nbrTab (prvD c) := rfl
theorem stage_2 : stage0_2 0 = ops0.fwd := rfl
theorem after_2 : (dat0 m c).after 2 t0_0 = tabV c 0 := rfl
theorem stage_3 : stage0_3 0 = ops0.rev := rfl
theorem after_3 : (dat0 m c).after 3 t0_0 = tabV c 2 := rfl
theorem stage_4 : stage0_4 0 = ops0.x := rfl
theorem after_4 : (dat0 m c).after 4 t0_0 = (Vm m).x c := rfl
theorem stage_5 : stage0_5 0 = ops0.w := rfl
theorem after_5 : (dat0 m c).after 5 t0_0 = (Vm m).w c := rfl
theorem stage_6 : stage0_6 0 = ops0.o := rfl
theorem after_6 : (dat0 m c).after 6 t0_0 = outV (Vm m) c := rfl
theorem call_body : BodyObligation (dat0 m c) (defs₀ (F := F)) 𝒱₀ 0 Set.univ := fun t => by
  rw [fin_N0 t, bigSep_W0, bigSep_W0, call_pre, call_post, call_eq, call_eq']
  dsimp only
  rw [stage_0, stage_1, stage_2, stage_3, stage_4, stage_5, stage_6, after_0, after_1, after_2, after_3, after_4, after_5, after_6]
  iintro ⟨HB, HO, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  ihave HO := (owes_in m c t0_0.castSucc (O₀ c) (owed_first m c)) $$ HO
  iapply (call_run m c ((dat0 m c).before 6 t0_0 d6) _) $$ [HB HO H0 H1 H2 H3 H4 H5 H6]
  · isplitl [HB HO]
    · isplitl [HB] <;> iassumption
    isplitl [H0 H1]
    · unfold tabs; isplitl [H0] <;> iassumption
    isplitl [H2 H3 H4 H5]
    · unfold opnds
      isplitl [H2]; · iexact H2
      isplitl [H3]; · iexact H3
      isplitl [H4] <;> iassumption
    iexact H6
  unfold tabs opnds
  iintro ⟨⟨HA, HO⟩, ⟨H0, H1⟩, ⟨H2, H3, H4, H5⟩, H6⟩
  isplitl [HA]; · iexact HA
  isplitl [HO]; · iapply (owes_out m c t0_0.succ 0 (owed_last m c) rfl); iexact HO
  isplitl [H0]; · iexact H0
  isplitl [H1]; · iexact H1
  isplitl [H2]; · iexact H2
  isplitl [H3]; · iexact H3
  isplitl [H4]; · iexact H4
  isplitl [H5] <;> iassumption

/-! ## The call as a stretch of the program -/

/-- What the call leaves in the result's buffer. -/
def outs0 : Outs (F := F) := fun _ r c => Function.update (V7 m c) (Proc.devRef .tc main_v11) (outV (Vm m) c) (Proc.devRef .tc r)

theorem outs0_self : outs0 m 8 main_v11 c = outV (Vm m) c := by
  exact Function.update_self (Proc.devRef .tc main_v11 : DevRef τ sig) (outV (Vm m) c) (V7 m c)

theorem V8_out : V8 m (outs0 m) c (Proc.devRef .tc main_v11) = outV (Vm m) c :=
  (Function.update_self (Proc.devRef .tc main_v11 : DevRef τ sig) (outs0 m 8 main_v11 c) (V7 m c)).trans (outs0_self m c)

/-- What the launch keeps for a device's call. -/
def kept : sProp 𝕄 := iprop(∃ K, ctx (Vm m) K ∗ bigSep Finset.univ (fun x : Fin 4 × Fin 5 => openTok ER (cell c (bodyKey x))) ∗ rights (F := F) c ∗ barTok (F := F) c)

theorem sems_eq : (Pipeline.ownSems0 bodySem c : sProp 𝕄) = bigSep Finset.univ fun x : Fin 4 × Fin 5 => semVal (cell c (bodyKey x)) 0 := rfl

theorem call_open : iprop(kept m c ∗ Pipeline.ownSems0 bodySem c ∗ levAts L lv) ⊢ (|={Set.univ}=> held0 m c : sProp 𝕄) := by
  have hp : iprop((bigSep Finset.univ fun x : Fin 4 × Fin 5 => (openTok ER (cell c (bodyKey x)) : sProp 𝕄)) ∗ bigSep Finset.univ fun x : Fin 4 × Fin 5 => semVal (cell c (bodyKey x)) 0)
      ⊢ bigSep Finset.univ fun x : Fin 4 × Fin 5 => iprop(openTok ER (cell c (bodyKey x)) ∗ semVal (cell c (bodyKey x)) 0) := by
    rw [bigSep_sep']
  rw [sems_eq]
  unfold kept held0
  iintro ⟨⟨%K, #Hc, Ho, Hr, Hb⟩, Hs, -⟩
  imod (take_over (Vm m) K c) $$ [Ho Hs] with HA
  · isplitr; · iexact Hc
    iapply hp
    isplitl [Ho] <;> iassumption
  imodintro
  iexists K
  isplitr; · iexact Hc
  isplitl [HA]; · iexact HA
  isplitl [Hr] <;> iassumption

theorem rest_scratch : (Pipeline.scopedRest (Pipeline.pin (pcfgs (F := F)) adm 0).spec c : sProp 𝕄) = scratch c := scopedRest0_eq c

theorem call_in : iprop(Pipeline.scopedRest (Pipeline.pin (pcfgs (F := F)) adm 0).spec c ∗ (∃ r, prngReg c r)
    ∗ StableHlo.held (c.tc : Thread nD τ) ∅ (V7 m c) ∗ held0 m c) ⊢ (dats m 0 c).Φ 0 := by
  rw [show (dats m 0 c).Φ 0 = before0 m c from rfl, rest_scratch]
  unfold before0
  iintro ⟨Hs, Hp, -, HK⟩
  isplitl [Hs]; · iexact Hs
  isplitl [Hp] <;> iassumption

theorem call_out : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V8 m (outs0 m) c) ∗ Pipeline.ownSems0 bodySem c ∗ semVal (cell c .bar) 0) := by
  rw [show (dats m 0 c).Φ (Fin.last _) = after0 c from rfl, rest_scratch, sems_eq]
  unfold after0 StableHlo.held
  rw [BI.bigSep_empty]
  iintro ⟨Hs, Hp, HS, Hb⟩
  isplitl [Hs]; · iexact Hs
  isplitl [Hp]; · iexact Hp
  isplitr; · iempintro
  isplitl [HS] <;> iassumption

theorem above_O₀ : Above 0 (O₀ c) := by
  refine (((above_due0 c).mono (Nat.zero_le 1)).add ?_).add ?_
  · exact Above.single _ .bar 0 1 (by decide) (by rw [lv_bar]; decide)
  · exact Above.single _ .bar 0 1 (by decide) (by rw [lv_bar]; decide)

theorem call_owed (t : Fin ((Pipeline.pin (pcfgs (F := F)) adm 0).N + 1)) : Above 0 ((dats (F := F) m 0 c).owed t) := by
  have e : (dats (F := F) m 0 c).owed t = if t.val = 0 then O₀ c else 0 := by
    obtain ⟨_ | n, h⟩ := t <;> rfl
  rw [e]
  split
  · exact above_O₀ c
  · exact Above.zero 0

theorem lv_stage (w : Fin 7) (s : Fin (spec0 w).nbuf) : lv ((c : Thread nD τ), .dma ((spec0 w).sem s)) 0 ≤ 0 := by
  have h : ∀ (w : Fin 7) (s : Fin (spec0 w).nbuf), keyOf (.dma ((spec0 w).sem s)) = none := by decide
  unfold lv
  rw [h w s]

theorem call_arr (w : Fin cfg0.W) : (dat0 m c).arrAt w cfg0.N = V8 m (outs0 m) c (Proc.devRef .tc (Pipeline.arrRef spec0 w)) := by
  have hin (w : Fin cfg0.W) (h : (cfg0.win w).isOut = false) (hr : Pipeline.arrRef spec0 w ∉ ([main_v11] : List (Ref sig .tc))) :
      (dat0 m c).arrAt w cfg0.N = V8 m (outs0 m) c (Proc.devRef .tc (Pipeline.arrRef spec0 w)) :=
    ((dat0 m c).arrAt_in w h _).trans (V8_of m (outs0 m) c _ hr).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ =>
    refine (Pipeline.Dat.arrAt_eq_of_after_last (dat0 m c) 6 t0_0 (by decide +kernel) (outV (Vm m) c) fun j => ?_).trans ?_
    · rfl
    · exact (V8_out m c).symm
  | ⟨_ + 7, h⟩ => exact absurd h (Nat.not_lt.2 (Nat.le_add_left _ _))

theorem rest_same (b : DevRef τ sig) (hb : b ∉ Pipeline.arrRefs (τ := τ) spec0) : V8 m (outs0 m) c b = V7 m c b := by
  refine Function.update_of_ne (fun e => hb ?_) _ _
  rw [e]; decide +kernel

abbrev kept' : Finset (DevRef τ sig) := Pipeline.ucRefs τ sig \ Pipeline.arrRefs (τ := τ) spec0

set_option backward.isDefEq.respectTransparency.types false in
/-- The call, entered with what the launch keeps for it and left with the barrier's semaphore at zero. -/
def call : Pipeline.RegionSeg (pcfgs (F := F)) adm (dats m) 0 defs₀ 𝒱₀ L lv 0 :=
  Pipeline.RegionSeg.ofTalk (pcfgs (F := F)) adm (dats m) 0 defs₀ 𝒱₀ L lv 0 bodySem (by decide : Pipeline.OwnSemFacts spec0 bodySem)
    ∅ kept' (Finset.empty_subset _) launch0.toP rfl (fun c => (call_body m c).loose)
    (fun _ => 0) O₀ (fun c => (zero_add _).symm) (fun c => rfl) (fun _ => rfl) (fun _ w => by unfold Dat.share; split <;> rfl)
    (V7 m) (V8 m (outs0 m)) (fun c b hb => rest_same m c b (Finset.mem_sdiff.mp (Finset.mem_sdiff.mp hb).1).2)
    (kept m) (fun c => semVal (cell c .bar) 0) (held0 m) (fun c => semVal (cell c .bar) 0) (call_open m) (call_in m) (call_out m)
    (fun c => by iintro H; imodintro; iexact H)
    (fun _ => 0)
    ⟨fun c w s => by rw [L_tc]; decide, fun c w s => lv_stage c w s, fun c t g i h => call_owed m c t g i h⟩
    (fun _ => iprop(emp))
    (fun _ w => rfl) (fun c w => call_arr m c w)

theorem arr_sub : Pipeline.arrRefs (τ := τ) spec0 ⊆ Pipeline.ucRefs τ sig := Pipeline.arrRefs_sub_ucRefs spec0 (by decide)

/-- Entering the call. -/
theorem call_enter : iprop(StableHlo.held (c : Thread nD τ) (Pipeline.ucRefs τ sig) (V7 m c) ∗ (∃ r, prngReg c r) ∗ kept m c ∗ ∃ W, owes (c : Thread nD τ) (O₀ c) W)
    ⊢ (call m).pre c := by
  show _ ⊢ iprop(StableHlo.held (c.tc : Thread nD τ) (Pipeline.arrRefs (τ := τ) spec0) (V7 m c) ∗ (∃ r, prngReg c r)
    ∗ (StableHlo.held (c.tc : Thread nD τ) kept' (V7 m c) ∗ emp) ∗ kept m c ∗ ∃ Wd, owes (c : Thread nD τ) (0 + O₀ c) Wd)
  rw [zero_add, StableHlo.held_sub_split (c.tc : Thread nD τ) arr_sub (V7 m c)]
  iintro ⟨⟨Ha, Hr⟩, Hp, HK, HO⟩
  isplitl [Ha]; · iexact Ha
  isplitl [Hp]; · iexact Hp
  isplitl [Hr]
  · isplitl [Hr]; · iexact Hr
    iempintro
  isplitl [HK] <;> iassumption

/-- Leaving it. -/
theorem call_leave : (call m).post c
    ⊢ iprop((StableHlo.held (c : Thread nD τ) (Pipeline.ucRefs τ sig) (V8 m (outs0 m) c) ∗ semVal (cell c .bar) 0) ∗ ∃ W, owes (c : Thread nD τ) (0 : CellTallies nD τ sig ℕ) W) := by
  show iprop(StableHlo.held (c.tc : Thread nD τ) (Pipeline.arrRefs (τ := τ) spec0) (V8 m (outs0 m) c) ∗ (∃ r, prngReg c r)
    ∗ (StableHlo.held (c.tc : Thread nD τ) kept' (V8 m (outs0 m) c) ∗ emp) ∗ semVal (cell c .bar) 0 ∗ ∃ Wd, owes (c : Thread nD τ) (0 : CellTallies nD τ sig ℕ) Wd) ⊢ _
  rw [StableHlo.held_sub_split (c.tc : Thread nD τ) arr_sub (V8 m (outs0 m) c)]
  iintro ⟨Ha, -, ⟨Hr, -⟩, Hb, HO⟩
  isplitr [HO]
  · isplitl [Ha Hr]
    · isplitl [Ha] <;> iassumption
    iexact Hb
  iexact HO

end

end Cert.KernelIdeal.Hand
-- ==== Proof.Deal.lean ====
/- The rights a device starts with, from the ones the launch makes for all devices. -/
module

public import proofs.«01_k».proof.Proof.Ends
public import Idealize.ShloMosaic.Lib.Pipeline.Launch

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Facts₀ Facts

variable {F : FTy → Type} [FloatOps F]

local notation "𝕄" => MT nD τ sig ℕ (Elt F) ℕ UU ℕ

/-! ## The rights to pay -/

/-- The rights device `d` has at step `s` on channel `ch`: the copy's two, the credit's, and at step 0 the barrier's.
    The other rights of this form are for rounds that never come. -/
def duty (d : Dev nD) (s : ℕ) (ch : Fin 4) : Fin 4 → Dev nD × Key × ℕ × Bool
  | 0 => (d, .send ch (par s), s / 2, true)
  | 1 => (dst d ch, .recv ch (par (s + 1)), s / 2, true)
  | 2 => (src d ch, .cred ch, (s + 31) % 32, true)
  | 3 => (dst d ch, .bar, 2 * s + ch.val % 2, decide (ch.val < 2))

theorem dst_inj {d d' : Dev nD} {ch : Fin 4} (h : dst d ch = dst d' ch) : d = d' := by rw [← src_dst d ch, h, src_dst]
theorem src_inj {d d' : Dev nD} {ch : Fin 4} (h : src d ch = src d' ch) : d = d' := by rw [← dst_src d ch, h, dst_src]

theorem par_half {s s' : ℕ} (h : par s = par s') (h' : s / 2 = s' / 2) : s = s' := by
  have := congrArg Fin.val h
  have e : s % 2 = s' % 2 := this
  omega

/-- What a right is for. -/
abbrev DutyIx := Dev nD × Fin 31 × Fin 4 × Fin 4

theorem duty_inj : Function.Injective fun x : DutyIx => duty x.1 x.2.1.val x.2.2.1 x.2.2.2 := by
  rintro ⟨d, s, ch, k⟩ ⟨d', s', ch', k'⟩ h
  have hd := congrArg (fun y : Dev nD × Key × ℕ × Bool => y.1) h
  have hk := congrArg (fun y : Dev nD × Key × ℕ × Bool => y.2.1) h
  have hr := congrArg (fun y : Dev nD × Key × ℕ × Bool => y.2.2.1) h
  have hb := congrArg (fun y : Dev nD × Key × ℕ × Bool => y.2.2.2) h
  have hs := s.isLt
  have hs' := s'.isLt
  have h0 : k = k' := by
    fin_cases k <;> fin_cases k' <;> first | rfl | exact Key.noConfusion hk
  subst h0
  obtain ⟨e1, e2, e3⟩ : d = d' ∧ s.val = s'.val ∧ ch = ch' := by
    fin_cases k
    · have hk' : Key.send ch (par s.val) = Key.send ch' (par s'.val) := hk
      injection hk' with c1 c2
      exact ⟨hd, par_half c2 hr, c1⟩
    · have hk' : Key.recv ch (par (s.val + 1)) = Key.recv ch' (par (s'.val + 1)) := hk
      injection hk' with c1 c2
      subst c1
      have c3 : (s.val + 1) % 2 = (s'.val + 1) % 2 := congrArg Fin.val c2
      have c4 : s.val / 2 = s'.val / 2 := hr
      exact ⟨dst_inj hd, by omega, rfl⟩
    · have hk' : Key.cred ch = Key.cred ch' := hk
      injection hk' with c1
      subst c1
      have c4 : (s.val + 31) % 32 = (s'.val + 31) % 32 := hr
      exact ⟨src_inj hd, by omega, rfl⟩
    · have c4 : 2 * s.val + ch.val % 2 = 2 * s'.val + ch'.val % 2 := hr
      have c5 : (ch.val < 2) = (ch'.val < 2) := by
        have c6 : decide (ch.val < 2) = decide (ch'.val < 2) := hb
        simpa using c6
      have c7 := ch.isLt
      have c8 := ch'.isLt
      have c1 : ch = ch' := by
        apply Fin.ext
        by_cases c9 : ch.val < 2
        · have := c5 ▸ c9; omega
        · have : ¬ ch'.val < 2 := fun q => c9 (c5.symm ▸ q)
          omega
      subst c1
      exact ⟨dst_inj hd, by omega, rfl⟩
  subst e1; subst e3
  rw [Fin.ext e2]

/-- The same with the cells in place of their keys. -/
def token (x : DutyIx) : GSem nD τ sig × ℕ × Bool :=
  (cell (duty x.1 x.2.1.val x.2.2.1 x.2.2.2).1 (duty x.1 x.2.1.val x.2.2.1 x.2.2.2).2.1, (duty x.1 x.2.1.val x.2.2.1 x.2.2.2).2.2)

theorem token_inj : Function.Injective token := fun x y h => duty_inj (by
  let f (x : DutyIx) := duty x.1 x.2.1.val x.2.2.1 x.2.2.2
  have h1 : ((f x).1, (f x).2.1) = ((f y).1, (f y).2.1) := cell_inj (a₁ := ((f x).1, (f x).2.1)) (a₂ := ((f y).1, (f y).2.1)) (Prod.ext_iff.mp h).1
  have h2 : (f x).2.2 = (f y).2.2 := (Prod.ext_iff.mp h).2
  exact Prod.ext (Prod.ext_iff.mp h1).1 (Prod.ext (Prod.ext_iff.mp h1).2 h2))

/-- Every right. -/
def tokens : Finset (GSem nD τ sig × ℕ × Bool) := Finset.univ.map ⟨token, token_inj⟩

/-- The rights of device `d` at step `s`. -/
def rightsAt (d : Dev nD) (s : ℕ) : sProp 𝕄 :=
  all4 fun ch => all4 fun k => dutyTok ER (cell (duty d s ch k).1 (duty d s ch k).2.1) (duty d s ch k).2.2.1 (duty d s ch k).2.2.2

theorem tokens_eq : (bigSep tokens fun x => (dutyTok ER x.1 x.2.1 x.2.2 : sProp 𝕄))
    = bigSep Finset.univ fun d : Dev nD => bigSep Finset.univ fun s : Fin 31 => rightsAt (F := F) d s.val := by
  unfold tokens
  rw [bigSep_map, bigSep_univ_prod]
  refine bigSep_congr fun d _ => ?_
  rw [bigSep_univ_prod]
  refine bigSep_congr fun s _ => ?_
  rw [bigSep_univ_prod, bigSep_all4]
  unfold rightsAt
  congr 1; funext ch
  rw [bigSep_all4]; rfl

/-! ## The credits -/

theorem launch_left (f : Dev nD → Fin 4 → CellTallies nD τ sig ℕ) (O : Dev nD → CellTallies nD τ sig ℕ) (c : Dev nD) :
    (Pipeline.launchCred (fun d => left (f d) (O d) 0) c : sProp 𝕄)
      ⊢ iprop(Pipeline.launchCred O c ∗ all4 fun ch => Pipeline.launchCred (fun d => f d ch) c) := by
  show (Pipeline.launchCred (fun d => O d + f d 3 + f d 2 + f d 1 + f d 0) c : sProp 𝕄) ⊢ _
  rw [Pipeline.launchCred_add (fun d => O d + f d 3 + f d 2 + f d 1) (fun d => f d 0), Pipeline.launchCred_add (fun d => O d + f d 3 + f d 2) (fun d => f d 1),
    Pipeline.launchCred_add (fun d => O d + f d 3) (fun d => f d 2), Pipeline.launchCred_add O (fun d => f d 3)]
  iintro ⟨⟨⟨⟨HO, H3⟩, H2⟩, H1⟩, H0⟩
  isplitl [HO]; · iexact HO
  isplitl [H0]; · iexact H0
  isplitl [H1]; · iexact H1
  isplitl [H2] <;> iassumption

theorem launch_copy (s : ℕ) (ch : Fin 4) (c : Dev nD) :
    (Pipeline.launchCred (fun d => dueL d s ch) c : sProp 𝕄) ⊢ cred (tallyAt (cell c (.recv ch (par (s + 1)))) s N) :=
  Pipeline.launchCred_tallyAt (Key.recv ch (par (s + 1))).loc (fun d => dst d ch) (fun d => src d ch) (fun d => dst_src d ch) (fun d => src_dst d ch) s N c

theorem launch_cred (s : ℕ) (ch : Fin 4) (c : Dev nD) :
    (Pipeline.launchCred (fun d => dueC d s ch) c : sProp 𝕄) ⊢ cred (tallyAt (cell c (.cred ch)) s 1) :=
  Pipeline.launchCred_tallyAt (Key.cred ch).loc (fun d => src d ch) (fun d => dst d ch) (fun d => src_dst d ch) (fun d => dst_src d ch) s 1 c

theorem launch_step (t k : ℕ) (c : Dev nD) :
    (Pipeline.launchCred (fun d => due d t (k + 1)) c : sProp 𝕄)
      ⊢ iprop(Pipeline.launchCred (fun d => due d (t + 1) k) c ∗ (all4 fun ch => cred (tallyAt (cell c (.recv ch (par (t + 1)))) t N))
        ∗ all4 fun ch => cred (tallyAt (cell c (.cred ch)) t 1)) := by
  have h1 := launch_left (F := F) (fun d => dueC d t) (fun d => left (dueL d t) (due d (t + 1) k) 0) c
  have h2 := launch_left (F := F) (fun d => dueL d t) (fun d => due d (t + 1) k) c
  have h3 : (all4 fun ch => (Pipeline.launchCred (fun d => dueC d t ch) c : sProp 𝕄)) ⊢ all4 fun ch => cred (tallyAt (cell c (.cred ch)) t 1) :=
    all4_mono fun ch => launch_cred t ch c
  have h4 : (all4 fun ch => (Pipeline.launchCred (fun d => dueL d t ch) c : sProp 𝕄)) ⊢ all4 fun ch => cred (tallyAt (cell c (.recv ch (par (t + 1)))) t N) :=
    all4_mono fun ch => launch_copy t ch c
  show (Pipeline.launchCred (fun d => left (dueC d t) (left (dueL d t) (due d (t + 1) k) 0) 0) c : sProp 𝕄) ⊢ _
  iintro H
  ihave H := h1 $$ H
  icases H with ⟨H, HC⟩
  ihave H := h2 $$ H
  icases H with ⟨H, HL⟩
  isplitl [H]; · iexact H
  isplitl [HL]
  · iapply h4; iexact HL
  iapply h3; iexact HC

/-! ## The steps' rights -/

theorem rights_step (d : Dev nD) (t : ℕ) (ht : t < 31) :
    iprop(rightsAt (F := F) d (t + 1) ∗ (all4 fun ch => cred (tallyAt (cell d (.recv ch (par (t + 1 + 1)))) (t + 1) N))
        ∗ all4 fun ch => cred (tallyAt (cell d (.cred ch)) (t + 1) 1))
      ⊢ all4 fun ch => toks (F := F) d ch t := by
  have hr : (t + 1 + 31) % 32 = t := by omega
  have h : (all4 fun ch => iprop((all4 fun k => dutyTok ER (cell (duty d (t + 1) ch k).1 (duty d (t + 1) ch k).2.1) (duty d (t + 1) ch k).2.2.1 (duty d (t + 1) ch k).2.2.2)
        ∗ cred (tallyAt (cell d (.recv ch (par (t + 1 + 1)))) (t + 1) N) ∗ cred (tallyAt (cell d (.cred ch)) (t + 1) 1)) : sProp 𝕄)
      ⊢ all4 fun ch => toks (F := F) d ch t := all4_mono fun ch => by
    unfold toks copyTok credTok
    show iprop((dutyTok ER (cell d (.send ch (par (t + 1)))) ((t + 1) / 2) true ∗ dutyTok ER (cell (dst d ch) (.recv ch (par (t + 1 + 1)))) ((t + 1) / 2) true
      ∗ dutyTok ER (cell (src d ch) (.cred ch)) ((t + 1 + 31) % 32) true ∗ dutyTok ER (cell (dst d ch) .bar) (2 * (t + 1) + ch.val % 2) (decide (ch.val < 2))) ∗ _ ∗ _) ⊢ _
    rw [hr]
    iintro ⟨⟨HS, HR, HC, -⟩, H1, H2⟩
    isplitl [HS HR H1]
    · isplitl [HS]; · iexact HS
      isplitl [HR] <;> iassumption
    isplitl [HC] <;> iassumption
  unfold rightsAt
  exact ((sep_mono_right (all4_sep _ _)).trans (all4_sep _ _)).trans h

theorem steps_rights (d : Dev nD) : ∀ (k t : ℕ), t + k ≤ 30 →
    iprop((bigSep Finset.univ fun i : Fin k => rightsAt (F := F) d (t + 1 + i.val)) ∗ Pipeline.launchCred (fun e => due e (t + 1) k) d)
      ⊢ restToks (F := F) d t k
  | 0, t, _ => by
    unfold restToks
    iintro -
    iempintro
  | k + 1, t, h => by
    have hm := rights_step (F := F) d t (by omega)
    have ih := steps_rights d k (t + 1) (by omega)
    have hc := launch_step (F := F) (t + 1) k d
    have he : (bigSep Finset.univ fun i : Fin (k + 1) => rightsAt (F := F) d (t + 1 + i.val))
        = iprop(rightsAt (F := F) d (t + 1) ∗ bigSep Finset.univ fun i : Fin k => rightsAt (F := F) d (t + 1 + 1 + i.val)) := by
      rw [Fin.univ_succ, Finset.cons_eq_insert, BI.bigSep_insert (by simp), BI.bigSep_map]
      have e (i : Fin k) : t + 1 + 1 + i.val = t + 1 + (i.val + 1) := by omega
      simp only [e]; rfl
    rw [he]
    unfold restToks
    iintro ⟨⟨HR, HS⟩, HC⟩
    ihave HC := hc $$ HC
    icases HC with ⟨HC, H1, H2⟩
    isplitl [HR H1 H2]
    · iapply hm
      isplitl [HR]; · iexact HR
      isplitl [H1] <;> iassumption
    iapply ih
    isplitl [HS] <;> iassumption

/-! ## A device's start -/

/-- What a device has of the barrier besides its rights. -/
def barAt (d : Dev nD) : sProp 𝕄 := iprop(reached ER (cell (nxtD d) .bar) 0 ∗ reached ER (cell (prvD d) .bar) 0 ∗ at_ (F := F) d .bar 0)

theorem start_rights (d : Dev nD) :
    rightsAt (F := F) d 0 ⊢ iprop((all4 fun ch => iprop(dutyTok ER (cell d (.send ch 0)) 0 true ∗ dutyTok ER (cell (dst d ch) (.recv ch 1)) 0 true))
      ∗ dutyTok ER (cell (nxtD d) .bar) 0 true ∗ dutyTok ER (cell (prvD d) .bar) 0 false) := by
  show iprop((dutyTok ER (cell d (.send 0 0)) 0 true ∗ dutyTok ER (cell (dst d 0) (.recv 0 1)) 0 true ∗ _ ∗ dutyTok ER (cell (nxtD d) .bar) 0 true)
    ∗ (dutyTok ER (cell d (.send 1 0)) 0 true ∗ dutyTok ER (cell (dst d 1) (.recv 1 1)) 0 true ∗ _ ∗ _)
    ∗ (dutyTok ER (cell d (.send 2 0)) 0 true ∗ dutyTok ER (cell (dst d 2) (.recv 2 1)) 0 true ∗ _ ∗ dutyTok ER (cell (prvD d) .bar) 0 false)
    ∗ (dutyTok ER (cell d (.send 3 0)) 0 true ∗ dutyTok ER (cell (dst d 3) (.recv 3 1)) 0 true ∗ _ ∗ _)) ⊢ _
  iintro ⟨⟨S0, R0, -, B0⟩, ⟨S1, R1, -, -⟩, ⟨S2, R2, -, B2⟩, ⟨S3, R3, -, -⟩⟩
  isplitr [B0 B2]
  · isplitl [S0 R0]; · isplitl [S0] <;> iassumption
    isplitl [S1 R1]; · isplitl [S1] <;> iassumption
    isplitl [S2 R2]; · isplitl [S2] <;> iassumption
    isplitl [S3] <;> iassumption
  isplitl [B0] <;> iassumption

theorem launch_start (c : Dev nD) :
    (Pipeline.launchCred O₀ c : sProp 𝕄)
      ⊢ iprop(Pipeline.launchCred (fun d => due d 1 30) c ∗ (all4 fun ch => cred (tallyAt (cell c (.recv ch 1)) 0 N)) ∗ cred (tallyAt (cell c .bar) 0 2)) := by
  have h2 := launch_left (F := F) (fun d => dueL d 0) (fun d => due d 1 30) c
  have h4 : (all4 fun ch => (Pipeline.launchCred (fun d => dueL d 0 ch) c : sProp 𝕄)) ⊢ all4 fun ch => cred (tallyAt (cell c (.recv ch 1)) 0 N) :=
    all4_mono fun ch => launch_copy 0 ch c
  have hp : (Pipeline.launchCred (fun d => tallyAt (cell (prvD d) .bar) 0 1) c : sProp 𝕄) ⊢ cred (tallyAt (cell c .bar) 0 1) :=
    Pipeline.launchCred_tallyAt (Key.bar).loc prvD nxtD prv_nxt nxt_prv 0 1 c
  have hn : (Pipeline.launchCred (fun d => tallyAt (cell (nxtD d) .bar) 0 1) c : sProp 𝕄) ⊢ cred (tallyAt (cell c .bar) 0 1) :=
    Pipeline.launchCred_tallyAt (Key.bar).loc nxtD prvD nxt_prv prv_nxt 0 1 c
  have hb : (iprop(cred (tallyAt (cell c .bar) 0 1) ∗ cred (tallyAt (cell c .bar) 0 1)) : sProp 𝕄) ⊢ cred (tallyAt (cell c .bar) 0 2) := by
    have h := (cred_add (nD := nD) (τ := τ) (sig := sig) (Ix := ℕ) (Val := Elt F) (Name := ℕ) (U := UU) (Lvl := ℕ) (tallyAt (cell c .bar) 0 1) (tallyAt (cell c .bar) 0 1)).2
    rw [tallyAt_add] at h
    exact h
  show (Pipeline.launchCred (fun d => left (dueL d 0) (due d 1 30) 0 + tallyAt (cell (prvD d) .bar) 0 1 + tallyAt (cell (nxtD d) .bar) 0 1) c : sProp 𝕄) ⊢ _
  rw [Pipeline.launchCred_add (fun d => left (dueL d 0) (due d 1 30) 0 + tallyAt (cell (prvD d) .bar) 0 1) (fun d => tallyAt (cell (nxtD d) .bar) 0 1),
    Pipeline.launchCred_add (fun d => left (dueL d 0) (due d 1 30) 0) (fun d => tallyAt (cell (prvD d) .bar) 0 1)]
  iintro ⟨⟨H, HP⟩, HN⟩
  ihave H := h2 $$ H
  icases H with ⟨H, HL⟩
  isplitl [H]; · iexact H
  isplitl [HL]
  · iapply h4; iexact HL
  iapply hb
  isplitl [HP]
  · iapply hp; iexact HP
  iapply hn; iexact HN

/-- A device's start: its rights for all steps, its credits, its place at the barrier. -/
theorem deal (d : Dev nD) :
    iprop((bigSep Finset.univ fun s : Fin 31 => rightsAt (F := F) d s.val) ∗ Pipeline.launchCred O₀ d ∗ barAt d) ⊢ iprop(rights (F := F) d ∗ barTok (F := F) d) := by
  have h0 := start_rights (F := F) d
  have h1 := launch_start (F := F) d
  have h2 := steps_rights (F := F) d 30 0 (by omega)
  have he : (bigSep Finset.univ fun i : Fin 31 => rightsAt (F := F) d i.val)
      = iprop(rightsAt (F := F) d 0 ∗ bigSep Finset.univ fun i : Fin 30 => rightsAt (F := F) d (0 + 1 + i.val)) := by
    rw [Fin.univ_succ, Finset.cons_eq_insert, BI.bigSep_insert (by simp), BI.bigSep_map]
    have e (i : Fin 30) : 0 + 1 + i.val = i.val + 1 := by omega
    simp only [e]; rfl
  have h3 : iprop((all4 fun ch => iprop(dutyTok ER (cell d (.send ch 0)) 0 true ∗ dutyTok ER (cell (dst d ch) (.recv ch 1)) 0 true))
      ∗ all4 fun ch => (cred (tallyAt (cell d (.recv ch 1)) 0 N) : sProp 𝕄)) ⊢ all4 fun ch => copyTok (F := F) d ch 0 :=
    (all4_sep _ _).trans (all4_mono fun ch => by
      rw [copyTok_zero]
      iintro ⟨⟨HS, HR⟩, HC⟩
      isplitl [HS]; · iexact HS
      isplitl [HR] <;> iassumption)
  rw [he]
  unfold rights barTok barAt
  iintro ⟨⟨H0, HS⟩, HC, #Hn, #Hp, Hat⟩
  ihave H0 := h0 $$ H0
  icases H0 with ⟨HD, HBn, HBp⟩
  ihave HC := h1 $$ HC
  icases HC with ⟨HC, HL, HB⟩
  isplitl [HD HL HS HC]
  · isplitl [HD HL]
    · iapply h3
      isplitl [HD] <;> iassumption
    iapply h2
    isplitl [HS] <;> iassumption
  isplitl [HBn]
  · isplitl [HBn]; · iexact HBn
    iexact Hn
  isplitl [HBp]
  · isplitl [HBp]; · iexact HBp
    iexact Hp
  isplitl [HB] <;> iassumption

end Cert.KernelIdeal.Hand
-- ==== Proof.Launch.lean ====
/- The launch and the run: the cells of all devices founded, every device given its rights, the program run to
   its end. -/
module

public import proofs.«01_k».proof.Proof.Region
public import proofs.«01_k».proof.Proof.Deal
public import Idealize.ShloMosaic.Lib.Quiescent
public import Idealize.ShloMosaic.Harness.Basic

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg)
open Cert.KernelIdeal Facts₀ Facts
open Cert.KernelIdeal.Gen hiding seg0

variable {F : FTy → Type} [FloatOps F]

local notation "𝕄" => MT nD τ sig ℕ (Elt F) ℕ UU ℕ

/-! ## The cells -/

theorem bodyKey_inj : Function.Injective bodyKey := by
  rintro ⟨ch, j⟩ ⟨ch', j'⟩ h
  fin_cases j <;> fin_cases j' <;> first
    | exact Key.noConfusion h
    | (have h' : Key.send ch 0 = Key.send ch' 0 := h; injection h' with e; rw [e])
    | (have h' : Key.send ch 1 = Key.send ch' 1 := h; injection h' with e; rw [e])
    | (have h' : Key.send ch 0 = Key.send ch' 1 := h; injection h' with e e'; exact absurd e' (by decide))
    | (have h' : Key.send ch 1 = Key.send ch' 0 := h; injection h' with e e'; exact absurd e' (by decide))
    | (have h' : Key.recv ch 0 = Key.recv ch' 0 := h; injection h' with e; rw [e])
    | (have h' : Key.recv ch 1 = Key.recv ch' 1 := h; injection h' with e; rw [e])
    | (have h' : Key.recv ch 0 = Key.recv ch' 1 := h; injection h' with e e'; exact absurd e' (by decide))
    | (have h' : Key.recv ch 1 = Key.recv ch' 0 := h; injection h' with e e'; exact absurd e' (by decide))
    | (have h' : Key.cred ch = Key.cred ch' := h; injection h' with e; rw [e])

theorem bodyKey_ne_bar (x : Fin 4 × Fin 5) : bodyKey x ≠ .bar := by
  obtain ⟨ch, j⟩ := x
  intro h
  fin_cases j <;> exact Key.noConfusion h

theorem key_cases (k : Key) : k = .bar ∨ ∃ x, k = bodyKey x := by
  rcases k with _ | ⟨ch, p⟩ | ⟨ch, p⟩ | ch
  · exact .inl rfl
  · rcases Fin.exists_fin_two.mp ⟨p, rfl⟩ with rfl | rfl
    · exact .inr ⟨(ch, 0), rfl⟩
    · exact .inr ⟨(ch, 1), rfl⟩
  · rcases Fin.exists_fin_two.mp ⟨p, rfl⟩ with rfl | rfl
    · exact .inr ⟨(ch, 2), rfl⟩
    · exact .inr ⟨(ch, 3), rfl⟩
  · exact .inr ⟨(ch, 4), rfl⟩

def barEmb : Dev nD ↪ GSem nD τ sig := ⟨fun d => cell d .bar, fun d e h =>
  (Prod.ext_iff.mp (cell_inj (a₁ := (d, Key.bar)) (a₂ := (e, Key.bar)) h)).1⟩
def ownEmb : Dev nD × (Fin 4 × Fin 5) ↪ GSem nD τ sig := ⟨fun x => cell x.1 (bodyKey x.2), fun x y h => by
  have h := Prod.ext_iff.mp (cell_inj (a₁ := (x.1, bodyKey x.2)) (a₂ := (y.1, bodyKey y.2)) h)
  exact Prod.ext h.1 (bodyKey_inj h.2)⟩

/-- The barriers' cells, and the cells of the semaphores that the bodies take over later. -/
abbrev barCells : Finset (GSem nD τ sig) := Finset.univ.map barEmb
abbrev ownCells : Finset (GSem nD τ sig) := Finset.univ.map ownEmb

theorem cells_disj : Disjoint barCells ownCells := by
  rw [Finset.disjoint_left]
  intro g h h'
  obtain ⟨d, -, rfl⟩ := Finset.mem_map.mp h
  obtain ⟨x, -, e⟩ := Finset.mem_map.mp h'
  exact bodyKey_ne_bar x.2 (Prod.ext_iff.mp (cell_inj (a₁ := (x.1, bodyKey x.2)) (a₂ := (d, Key.bar)) e)).2

theorem cell_mem (d : Dev nD) (k : Key) : cell d k ∈ (barCells ∪ ownCells : Finset (GSem nD τ sig)) := by
  rcases key_cases k with rfl | ⟨x, rfl⟩
  · exact Finset.mem_union_left _ (Finset.mem_map_of_mem barEmb (Finset.mem_univ d))
  · exact Finset.mem_union_right _ (Finset.mem_map_of_mem ownEmb (Finset.mem_univ (d, x)))

/-! ## What the launch starts from -/

abbrev founded : URounds (GSem nD τ sig) Bool := launchOf barCells ownCells tokens

def u₀ : UU :=
  (initOf (Pipeline.cells (Pipeline.pin (pcfgs (F := F)) adm) cellOf_inj) (Pipeline.launchToks (Pipeline.pin (pcfgs (F := F)) adm) cellOf_inj), founded)

/-- Device 0 carries the protocol's resources up to the founding. -/
def carried (c : Dev nD) : sProp 𝕄 := if c = 0 then BI.own (ER founded) else iprop(emp)

theorem carried_all : bigSep Finset.univ (carried (F := F)) = BI.own (ER founded) := by
  rw [bigSep_univ_at _ (0 : Dev nD), bigSep_congr (s := Finset.univ.erase (0 : Dev nD)) (Ψ := fun _ => (BI.emp : sProp 𝕄))
    fun c hc => by unfold carried; rw [if_neg (Finset.ne_of_mem_erase hc)]; rfl, BI.bigSep_emp_const]
  unfold carried; rw [if_pos rfl]
  exact BI.equiv_iff.mp sep_emp

theorem bar_sem (c : Dev nD) : (unscopedSems0 c : sProp 𝕄) = semVal (cell c .bar) 0 := by
  unfold unscopedSems0
  rw [show (Finset.univ.filter fun sm : SemLoc sig => ¬ sm.isScoped .tc) = {SemLoc.reg barS} from by decide, BI.bigSep_singleton]
  rfl

section

variable (m : (ℓ : Loc nD τ sig) → Buf (Elt F) ℓ) (ρ : Dev nD → PrngReg)

theorem ctx_intro (κ : GSem nD τ sig → ℕ) :
    iprop((bigSep (barCells ∪ ownCells) fun g => cellInv ER (rd (Vm m)) (κ g) g) ∗ levAts L lv) ⊢ ctx (Vm m) (fun x => κ (cell x.1 x.2)) := by
  have h : (bigSep (barCells ∪ ownCells) fun g => (cellInv ER (rd (Vm m)) (κ g) g : sProp 𝕄))
      ⊢ bigSep Finset.univ fun x : Dev nD × Key => cellInv ER (rd (Vm m)) (κ (cell x.1 x.2)) (cell x.1 x.2) :=
    (bigSep_of_persistent (Finset.univ : Finset (Dev nD × Key)) _).trans (bigSep_mono fun x _ => bigSep_elim (cell_mem x.1 x.2))
  unfold ctx
  iintro ⟨H, HL⟩
  isplitl [H]
  · iapply h; iexact H
  iexact HL

/-- What every device may look up. -/
def records (κ : GSem nD τ sig → ℕ) : sProp 𝕄 := iprop(ctx (Vm m) (fun x => κ (cell x.1 x.2)) ∗ bigSep barCells fun g => reached ER g 0)

instance records_persistent (κ : GSem nD τ sig → ℕ) : BI.Persistent (records m κ) := by unfold records; infer_instance

/-- What goes along with the host operations up to the call, and what goes on after it. -/
def beside (i : Fin 2) (c : Dev nD) : sProp 𝕄 :=
  if i = 0 then iprop((∃ r, prngReg c r) ∗ kept m c ∗ ∃ W, owes (c : Thread nD τ) (O₀ c) W) else iprop(emp)

theorem beside_0 (c : Dev nD) : beside m 0 c = iprop((∃ r, prngReg c r) ∗ kept m c ∗ ∃ W, owes (c : Thread nD τ) (O₀ c) W) := if_pos rfl

/-- What is the device's own. -/
def own0 (c : Dev nD) : sProp 𝕄 :=
  iprop(at_ (F := F) c .bar 0 ∗ bigSep Finset.univ (fun x : Fin 4 × Fin 5 => openTok ER (cell c (bodyKey x))) ∗ (bigSep Finset.univ fun s : Fin 31 => rightsAt (F := F) c s.val)
    ∗ owes (c : Thread nD τ) (O₀ c) ∅ ∗ Pipeline.launchCred O₀ c ∗ prngReg c (ρ c))

theorem reached_at (c : Dev nD) : (bigSep barCells fun g => (reached ER g 0 : sProp 𝕄)) ⊢ reached ER (cell c .bar) 0 :=
  bigSep_elim (Finset.mem_map_of_mem barEmb (Finset.mem_univ c))

theorem beside_intro (κ : GSem nD τ sig → ℕ) (c : Dev nD) : iprop(records m κ ∗ own0 ρ c) ⊢ beside m 0 c := by
  rw [beside_0]
  unfold records own0 kept
  iintro ⟨⟨#Hc, #Hr⟩, Hat, Ho, HR, HO, HC, Hp⟩
  isplitl [Hp]; · iexists ρ c; iexact Hp
  isplitr [HO]
  · iexists (fun x => κ (cell x.1 x.2))
    isplitr; · iexact Hc
    isplitl [Ho]; · iexact Ho
    iapply (deal (F := F) c)
    unfold barAt
    isplitl [HR]; · iexact HR
    isplitl [HC]; · iexact HC
    isplitr; · iapply (reached_at (F := F) (nxtD c)); iexact Hr
    isplitr; · iapply (reached_at (F := F) (prvD c)); iexact Hr
    iexact Hat
  iexists ∅; iexact HO

theorem both (A B : Dev nD → sProp 𝕄) : iprop(bigSep Finset.univ A ∗ bigSep Finset.univ B) ⊢ bigSep Finset.univ fun c => iprop(A c ∗ B c) :=
  Entails.of_eq (bigSep_sep' _ A B).symm

/-- The founding. -/
theorem found :
    iprop((bigSep Finset.univ fun c : Dev nD => iprop(unscopedSems0 c ∗ owes (c : Thread nD τ) (O₀ c) ∅ ∗ Pipeline.launchCred O₀ c ∗ prngReg c (ρ c) ∗ carried (F := F) c)) ∗ levAts L lv)
      ⊢ (|={Set.univ}=> bigSep Finset.univ (beside m 0) : sProp 𝕄) := by
  have hcore : (bigSep Finset.univ fun c : Dev nD => iprop(unscopedSems0 c ∗ owes (c : Thread nD τ) (O₀ c) ∅ ∗ Pipeline.launchCred O₀ c ∗ prngReg c (ρ c) ∗ carried (F := F) c))
      ⊢ iprop((bigSep Finset.univ fun c : Dev nD => (semVal (cell c .bar) 0 : sProp 𝕄)) ∗ BI.own (ER founded)
        ∗ bigSep Finset.univ fun c : Dev nD => iprop(owes (c : Thread nD τ) (O₀ c) ∅ ∗ Pipeline.launchCred O₀ c ∗ prngReg c (ρ c))) := by
    rw [← carried_all, ← bigSep_sep', ← bigSep_sep']
    refine bigSep_mono fun c _ => ?_
    rw [bar_sem]
    have h : iprop(semVal (cell c .bar) 0 ∗ owes (c : Thread nD τ) (O₀ c) ∅ ∗ Pipeline.launchCred O₀ c ∗ prngReg c (ρ c) ∗ carried (F := F) c)
        ⊢ iprop(semVal (cell c .bar) 0 ∗ carried (F := F) c ∗ owes (c : Thread nD τ) (O₀ c) ∅ ∗ Pipeline.launchCred O₀ c ∗ prngReg c (ρ c)) := by
      iintro ⟨HS, HO, HC, Hp, HG⟩
      isplitl [HS]; · iexact HS
      isplitl [HG]; · iexact HG
      isplitl [HO]; · iexact HO
      isplitl [HC] <;> iassumption
    exact h
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => at_ (F := F) c .bar 0) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ (fun x : Fin 4 × Fin 5 => openTok ER (cell c (bodyKey x)))) :=
    Entails.of_eq (by rw [bigSep_map, bigSep_univ_prod]; rfl)
  iintro ⟨H, #Hla⟩
  ihave H := hcore $$ H
  icases H with ⟨Hv, Hu, HB⟩
  imod (Rounds.fund_launch ER (rd (Vm m)) cells_disj (fun g _ h => h) tokens) $$ [Hv Hu] with ⟨%κ, -, #Hinv, #Hr, Hat, Hopen, Htok⟩
  · isplitl [Hv]
    · iapply hv; iexact Hv
    iexact Hu
  imodintro
  iapply (bigSep_with_persistent (R := records m κ) (Φ := own0 ρ) fun c _ => beside_intro m ρ κ c)
  isplitr
  · unfold records
    isplitr
    · iapply (ctx_intro m κ)
      isplitr; · iexact Hinv
      iexact Hla
    iexact Hr
  unfold own0
  iapply (both (F := F)); isplitl [Hat]; · iapply hat; iexact Hat
  iapply (both (F := F)); isplitl [Hopen]; · iapply hop; iexact Hopen
  iapply (both (F := F)); isplitl [Htok]; · iapply (Entails.of_eq (tokens_eq (F := F))); iexact Htok
  iexact HB

/-! ## The run -/

theorem unscoped_eq : ∀ sm : SemLoc sig, sm.isScoped .tc = false → sm = .reg barS := by decide

set_option backward.isDefEq.respectTransparency.types false in
/-- From any memory with all counters at zero the program runs to its end; both operands are as before, the
    result is the four channels' blocks, and all counters are zero again. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v11) = outV (Vm m) c) ∧ r.2.sem = fun _ => 0) := by
  refine Pipeline.θ_run_regions_kit_dev_sems (pcfgs (F := F)) adm (dats m) 0 cellOf_inj EP defs₀ 𝒱₀ L lv m ρ main
    (segs m 𝒱₀ L lv (beside m) 0 (dats m) (call m))
    (fun c Q => by
      rewrite [main_chain c, Seg.run_eq_chain,
        show (segs m 𝒱₀ L lv (beside m) 0 (dats m) (call m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (carried (F := F)) (u₀ (F := F))
    ?_
    (T₀ := fun c => iprop(StableHlo.held (c : Thread nD τ) (Pipeline.ucRefs τ sig) (V0 m c) ∗ beside m 0 c))
    (Tₙ := fun c => iprop(StableHlo.held (c : Thread nD τ) (Pipeline.ucRefs τ sig) (V8 m (outs0 m) c) ∗ semVal (cell c .bar) 0))
    (hch := fun c => ⟨.rfl, .rfl, .rfl, .rfl, .rfl, .rfl, .rfl, ?_, call_leave m c⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v11) = outV (Vm m) c) ∧ s.sem (cell c .bar) = 0)
    (hfin := fun c s' => ?_)
    (hQ := fun s h hs => ⟨fun c => (h c).1, sem_eq_zero hs fun c sm hsm => by
      obtain rfl := unscoped_eq sm hsm
      exact (h c).2⟩)
  · unfold u₀
    iintro Hu
    ihave H := (ownU_pair _ _) $$ Hu
    icases H with ⟨HP, HX⟩
    imodintro
    isplitl [HP]; · iexact HP
    rw [carried_all]; iexact HX
  · have h := call_enter m c
    rw [← beside_0] at h
    exact h
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ carried (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ carried (F := F) c))
            : sProp 𝕄) := by
      rw [← bigSep_sep']
      exact bigSep_mono fun c _ => by
        rw [← Pipeline.unscopedBufs_held (Ix := ℕ) (Name := ℕ) (U := UU) (Lvl := ℕ) c (V0 m c)]; exact BI.Entails.refl _
    iintro ⟨H, Hla⟩
    ihave H := hsplit $$ H
    icases H with ⟨Hh, Hr⟩
    imod (found m ρ) $$ [Hr Hla] with HE
    · isplitl [Hr] <;> iassumption
    imodintro
    rw [bigSep_sep']
    isplitl [Hh] <;> iassumption
  · unfold StableHlo.held
    iintro ⟨⟨Hh, Hb⟩, HSI⟩
    icombine HSI Hb gives %hb
    ihave Hr := (pointsTo_read_all (Pipeline.ucRefs τ sig) (fun b => ((c : Thread nD τ).1, b)) (V8 m (outs0 m) c) s') $$ [Hh HSI]
    · isplitl [Hh] <;> iassumption
    icases Hr with ⟨%h, HSI⟩
    imodintro
    isplitr
    · ipureintro
      have hr (r : Ref sig .tc) (hu : (Proc.devRef .tc r : DevRef τ sig) ∈ Pipeline.ucRefs τ sig) := h (Proc.devRef .tc r) hu
      exact ⟨⟨(hr main_arg0 (Finset.mem_filter.mpr ⟨StableHlo.devRef_mem_tcRefs main_arg0, by decide⟩)).trans (V8_main_arg0 m (outs0 m) c),
        (hr main_arg1 (Finset.mem_filter.mpr ⟨StableHlo.devRef_mem_tcRefs main_arg1, by decide⟩)).trans (V8_main_arg1 m (outs0 m) c),
        (hr main_v11 (Finset.mem_filter.mpr ⟨StableHlo.devRef_mem_tcRefs main_v11, by decide⟩)).trans (V8_out m c)⟩, by simpa using hb⟩
    iexact HSI

end

end Cert.KernelIdeal.Hand
-- ==== Proof.Same.lean ====
/- The kernel printed for bit patterns and the kernel printed for exact arithmetic are one text: the two programs
   are equal at every float instance, so a run of the second is a run of the first. -/
module

public import proofs.«01_k».proof.Proof.Body
public import proofs.«01_k».proof.Proof.Gen.Kernel
public import Idealize.ShloMosaic.Lib.Pipeline.Regions

@[expose] public section

noncomputable section

namespace Cert.KernelIdeal.Hand

open Idealize.ShloMosaic Idealize.SL.Sem

variable {F : FTy → Type} [FloatOps F]

open Pipeline in
/-- The body printed for bit patterns is the sequence of the same pieces. -/
theorem body_bits (a : Ops) (h0 : a.nxt.IsWhole) (h1 : a.prv.IsWhole) (h2 : a.fwd.IsWhole) (h3 : a.rev.IsWhole)
    (h4 : a.x.IsWhole) (h5 : a.w.IsWhole) (h6 : a.o.IsWhole) :
    (Cert.Kernel.cc0_body a.nxt h0 a.prv h1 a.fwd h2 a.rev h3 a.x h4 a.w h5 a.o h6 commM (Memref.isWhole_whole _)
      pbufM (Memref.isWhole_whole _) Cert.Kernel.cc0_scratch2 Cert.Kernel.cc0_scratch3 Cert.Kernel.cc0_scratch4
      Cert.Kernel.cc0_scratch5 Cert.Kernel.cc0_scratch6 Cert.Kernel.cc0_scratch7 Cert.Kernel.cc0_scratch8
      Cert.Kernel.cc0_scratch9 Cert.Kernel.cc0_scratch10 Cert.Kernel.cc0_scratch11 Cert.Kernel.cc0_scratch12
      Cert.Kernel.cc0_scratch13 : Code F)
    = body a := by
  chain_rfl

/-- The two body tables are equal. -/
theorem defs₀_bits : (Cert.Kernel.defs₀ (F := F)) = Cert.KernelIdeal.defs₀ := by
  refine congrArg Defs.onTc (funext fun l => ?_)
  match l with
  | ⟨0, _⟩ =>
    funext x
    let a : Ops := ⟨Cert.KernelIdeal.win0_0.stage (x.2 0), Cert.KernelIdeal.win0_1.stage (x.2 1),
      Cert.KernelIdeal.win0_2.stage (x.2 2), Cert.KernelIdeal.win0_3.stage (x.2 3), Cert.KernelIdeal.win0_4.stage (x.2 4),
      Cert.KernelIdeal.win0_5.stage (x.2 5), Cert.KernelIdeal.win0_6.stage (x.2 6)⟩
    exact (body_bits a (Cert.KernelIdeal.Facts₀.hstage0_0 0) (Cert.KernelIdeal.Facts₀.hstage0_1 0) (Cert.KernelIdeal.Facts₀.hstage0_2 0)
        (Cert.KernelIdeal.Facts₀.hstage0_3 0) (Cert.KernelIdeal.Facts₀.hstage0_4 0) (Cert.KernelIdeal.Facts₀.hstage0_5 0) (Cert.KernelIdeal.Facts₀.hstage0_6 0)).trans
      (body_eq a _ _ _ _ _ _ _).symm
  | ⟨_ + 1, h⟩ => exact absurd h (Nat.not_lt.2 (Nat.le_add_left _ _))

/-- With the calls' pipelines added they are equal too. -/
theorem defs_bits : (Cert.Kernel.defs (F := F)) = Cert.KernelIdeal.defs :=
  congrArg (Pipeline.defs Cert.KernelIdeal.pcfgs) defs₀_bits

open Pipeline in
/-- The two programs around the call are equal. -/
theorem main_bits : (Cert.Kernel.main (F := F)) = Cert.KernelIdeal.main := by
  funext d
  chain_rfl

end Cert.KernelIdeal.Hand

end
-- ==== Proof.Value.lean ====
/- What the ring leaves on a device in exact arithmetic: block by block the whole product of the two matrices. -/
module

public import proofs.«01_k».proof.Proof.Region
public import Idealize.ShloMosaic.Lib.MatmulPlain
public import Idealize.ShloMosaic.Lib.StackMember
public import Mathlib.Data.ZMod.Basic

@[expose] public section

noncomputable section

namespace Cert.KernelIdeal.Hand

open Idealize.ShloMosaic hiding ix2 eq_ix2
open Idealize.SL.Sem
open Idealize.ShloMosaic.ValueIdx
open Cert.KernelIdeal Facts₀ Facts
open Cert.KernelIdeal.Gen (k0_pay1 k0_pay5 k0_pay9 k0_pay306)
open scoped BigOperators

/-! ## The ring passes through every device -/

/-- How far along the ring a device is. -/
def pos (d : Dev nD) : ZMod 32 :=
  (![0, 31, 30, 1, 2, 29, 28, 3, 15, 16, 21, 10, 9, 22, 27, 4, 14, 17, 20, 11, 8, 23, 26, 5, 13, 18, 19, 12, 7, 24, 25, 6] : Fin 32 → ZMod 32) d

/-- How far one transfer moves on channel `ch`. -/
def pace (ch : Fin 4) : ZMod 32 := if ch.val < 2 then 1 else -1

/-- The device `t` devices before `d` on channel `ch`. -/
def back (ch : Fin 4) : Nat → Dev nD → Dev nD
  | 0, d => d
  | t + 1, d => back ch t (src d ch)

theorem pos_src (d : Dev nD) (ch : Fin 4) : pos (src d ch) = pos d - pace ch := by
  revert d; fin_cases ch <;> decide

theorem pos_back (ch : Fin 4) (t : Nat) : ∀ d, pos (back ch t d) = pos d - t * pace ch := by
  induction t with
  | zero => intro d; simp [back]
  | succ t ih => intro d; rw [back, ih, pos_src]; push_cast; ring

theorem pace_sq (ch : Fin 4) : pace ch * pace ch = 1 := by revert ch; decide

theorem back_injective (ch : Fin 4) (d : Dev nD) : Function.Injective fun t : Fin 32 => back ch t.val d := by
  intro t t' h
  have h := congrArg pos h
  simp only [pos_back] at h
  have h := congrArg (· * pace ch) (sub_right_injective h)
  simp only [mul_assoc, pace_sq, mul_one] at h
  have h := (ZMod.natCast_eq_natCast_iff' _ _ _).mp h
  apply Fin.ext
  rwa [Nat.mod_eq_of_lt t.isLt, Nat.mod_eq_of_lt t'.isLt] at h

/-- A sum over the thirty-two devices in ring order is the sum over the devices. -/
theorem sum_back {M : Type} [AddCommMonoid M] (ch : Fin 4) (d : Dev nD) (f : Dev nD → M) :
    ∑ t ∈ Finset.range 32, f (back ch t d) = ∑ e : Dev nD, f e := by
  rw [Finset.sum_range]
  exact Function.Bijective.sum_comp ((Finite.injective_iff_bijective).mp (back_injective ch d)) f

/-! ## One device's product -/

variable (V : Vals Ideal)

/-- Device `e`'s part of row block `r` of the product, on the columns of channel `ch`. -/
def prod (e r : Dev nD) (ch : Fin 4) : FVec Ideal S128x512 .f32 :=
  matmul (φ₁ := .f32) (φ₂ := .f32) dot_S128x128_S128x512_S128x512_1_0_0_1_n_n none (V.xb e r) (V.wb e ch) (constant S128x512 .f32 0x00000000#32)

/-- At an index it is the sum over the device's 128 columns of the left operand. -/
theorem prod_apply (e r : Dev nD) (ch : Fin 4) (i : Fin 128) (j : Fin 512) :
    prod V e r ch (ix2 i j) = ∑ k : Fin 128, V.xb e r (ix2 i k) * V.wb e ch (ix2 k j) := by
  refine (Ideal.matmul_plain_apply (φ₁ := .f32) (φ₂ := .f32) none (V.xb e r) (V.wb e ch) (constant S128x512 .f32 0x00000000#32) i j).trans ?_
  show Ideal.ofBits .f32 0x00000000#32 + _ = _
  rw [Ideal.ofBits_zero_f32, zero_add]

/-! ## What travels -/

theorem flat_first (e r : Dev nD) (ch : Fin 4) :
    shapeCast S128x512 (k0_pay1 (V.xb e r) (V.wb e ch)) shapeCasts_S1x1x128x512_S128x512 = prod V e r ch := by
  unfold k0_pay1 prod
  rw [shapeCast_shapeCast, shapeCast_self, shapeCast_self]

theorem flat_part (e r : Dev nD) (ch : Fin 4) :
    shapeCast S128x512 (k0_pay5 (V.xb e r) (V.wb e ch)) shapeCasts_S1x128x512_S128x512 = prod V e r ch := by
  unfold k0_pay5 prod
  rw [shapeCast_shapeCast, shapeCast_self, shapeCast_self]

theorem flat_add (a : FVec Ideal S1x1x128x512 .f32) (b : FVec Ideal S1x128x512 .f32) :
    shapeCast S128x512 (k0_pay9 a b) shapeCasts_S1x1x128x512_S128x512
      = addf (shapeCast S128x512 a shapeCasts_S1x1x128x512_S128x512) (shapeCast S128x512 b shapeCasts_S1x128x512_S128x512) := by
  unfold k0_pay9
  rw [shapeCast_shapeCast]

/-- What device `d` sends at step `s` is the sum of the parts of the devices it came through. -/
theorem acc_apply (ch : Fin 4) (i : S128x512.Idx) (s : Nat) : ∀ d, s < 31 →
    (shapeCast S128x512 (acc V ch s d) shapeCasts_S1x1x128x512_S128x512 i : EReal)
      = ∑ t ∈ Finset.range (s + 1), (prod V (back ch t d) (row d ch s) ch i : EReal) := by
  induction s with
  | zero =>
    intro d _
    rw [Finset.sum_range_one, acc, flat_first]
    rfl
  | succ s ih =>
    intro d hs
    rw [acc, flat_add, part, flat_part, Finset.sum_range_succ']
    show (_ : EReal) + _ = _
    rw [ih (src d ch) (by omega), row_src d ch s (by omega)]
    rfl

/-- What device `d` ends with on channel `ch` is the sum of every device's part. -/
theorem fin_apply (d : Dev nD) (ch : Fin 4) (i : S128x512.Idx) :
    (fin V d ch i : EReal) = ∑ e : Dev nD, (prod V e d ch i : EReal) := by
  rw [← sum_back ch d fun e => (prod V e d ch i : EReal), Finset.sum_range_succ', fin, k0_pay306]
  show (_ : EReal) + _ = _
  rw [acc_apply V ch i 30 (src d ch) (by omega), flat_part, row_src d ch 30 (by omega)]
  rfl

/-! ## The operands as parts of the whole matrices -/

/-- Device `d`'s result, entry by entry. -/
theorem outV_apply (d : Dev nD) (i : Fin 128) (j : Fin 2048) :
    (outV V d (ix2 i j) : EReal) = ∑ e : Dev nD, ∑ k : Fin 128,
      (V.x e (ix2 ⟨128 * d.val + i.val, by have : d.val < 32 := d.isLt; have := i.isLt; omega⟩ k) : EReal) * V.w e (ix2 k j) := by
  have hi : ∀ (a : Fin 128) (b : Fin 512), (Fin.cons a (Fin.cons b fun a => a.elim0) : S128x512.Idx) = ix2 a b := by
    intro a b; funext x; fin_cases x <;> rfl
  unfold outV
  refine (fin_apply V d _ _).trans (Finset.sum_congr rfl fun e _ => ?_)
  refine (congrArg (prod V e d _) (hi ⟨i.val, i.isLt⟩ ⟨j.val % 512, Nat.mod_lt _ (by decide)⟩)).trans ?_
  refine (prod_apply V e d _ _ _).trans (Finset.sum_congr rfl fun k _ => ?_)
  refine congrArg₂ (· * ·) (congrArg (V.x e) ?_) (congrArg (V.w e) ?_)
  · funext a
    apply Fin.ext
    rw [Rect.emb_apply]
    revert a
    refine Fin.forall_fin_two.mpr ⟨?_, ?_⟩
    · show 128 * d.val + 1 * i.val = 128 * d.val + i.val; omega
    · show 0 + 1 * k.val = k.val; omega
  · funext a
    apply Fin.ext
    rw [Rect.emb_apply]
    revert a
    refine Fin.forall_fin_two.mpr ⟨?_, ?_⟩
    · show 0 + 1 * k.val = k.val; omega
    · show 512 * (j.val / 512) + 1 * (j.val % 512) = j.val; omega

/-- A sum over the devices and over each one's 128 columns is the sum over all 4096. -/
theorem sum_blocks (f : Fin 4096 → EReal) :
    ∑ e : Fin 32, ∑ k : Fin 128, f ⟨e.val * 128 + k.val, by have := e.isLt; have := k.isLt; omega⟩ = ∑ K : Fin 4096, f K := by
  rw [← Fintype.sum_prod_type']
  refine Fintype.sum_equiv (finProdFinEquiv (m := 32) (n := 128)) _ _ fun p => congrArg f (Fin.ext ?_)
  show p.1.val * 128 + p.2.val = p.2.val + 128 * p.1.val
  omega

/-- Where each device holds its part of two matrices, its result is its rows of their product. -/
theorem outV_block (X : FVec Ideal ⟨2, ![4096, 4096]⟩ .f32) (W : FVec Ideal ⟨2, ![4096, 2048]⟩ .f32)
    (hx : ∀ e : Dev nD, V.x e = Layout.block ⟨2, ![4096, 128]⟩ ⟨2, ![4096, 4096]⟩ 1 32 e X)
    (hw : ∀ e : Dev nD, V.w e = Layout.block ⟨2, ![128, 2048]⟩ ⟨2, ![4096, 2048]⟩ 0 32 e W) (d : Dev nD) :
    outV V d = Layout.block ⟨2, ![128, 2048]⟩ ⟨2, ![4096, 2048]⟩ 0 32 d
      (Host.dotGeneral (DotDims.plain 4096 4096 2048) none X W) := by
  funext i
  obtain ⟨i, j, rfl⟩ : ∃ (a : Fin 128) (b : Fin 2048), i = ix2 a b := ⟨i 0, i 1, eq_ix2 i⟩
  have hd : d.val < 32 := d.isLt
  have hl : (128 * d.val + i.val) < 4096 := by have := i.isLt; omega
  have hrow : (Layout.block ⟨2, ![128, 2048]⟩ ⟨2, ![4096, 2048]⟩ 0 32 d
      (Host.dotGeneral (DotDims.plain 4096 4096 2048) none X W) (by decide)) (ix2 i j)
      = Host.dotGeneral (DotDims.plain 4096 4096 2048) none X W (ix2 ⟨128 * d.val + i.val, hl⟩ j) := by
    refine congrArg (Host.dotGeneral (DotDims.plain 4096 4096 2048) none X W) ?_
    funext a
    apply Fin.ext
    revert a
    refine Fin.forall_fin_two.mpr ⟨?_, rfl⟩
    show d.val * 128 + i.val = 128 * d.val + i.val; omega
  rw [hrow]
  refine (outV_apply V d i j).trans (Eq.trans ?_ (StackMember.dotGeneral_plain_apply none X W _ _).symm)
  rw [← sum_blocks]
  refine Finset.sum_congr rfl fun e _ => Finset.sum_congr rfl fun k _ => ?_
  rw [hx e, hw e]
  refine congrArg₂ (· * ·) (congrArg X ?_) (congrArg W ?_)
  · funext a; apply Fin.ext; revert a
    exact Fin.forall_fin_two.mpr ⟨rfl, rfl⟩
  · funext a; apply Fin.ext; revert a
    exact Fin.forall_fin_two.mpr ⟨rfl, rfl⟩

end Cert.KernelIdeal.Hand

end
-- ==== Proof.Claims.lean ====
/- The claims: the frames of the three programs (each run, read at its arguments and at the counters), and the
   kernel's result in exact arithmetic, which is the product of the two matrices. -/
module

public import proofs.«01_k».proof.Proof.Launch
public import proofs.«01_k».proof.Proof.Same
public import proofs.«01_k».proof.Proof.Value
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.SL.Sem

/-- The kernel in exact arithmetic returns, with its arguments as they were and every counter back at zero. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Hand.run_main (F := Ideal) m ρ)

/-- The reference returns, with its arguments as they were; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel on bit patterns is the same text, so it runs as the other does. -/
theorem frame_kernel : Cert.quiescent_Kernel := fun m ρ _ => by
  have h := Cert.KernelIdeal.Hand.run_main (F := Bits) m ρ
  rw [← Cert.KernelIdeal.Hand.defs_bits, ← Cert.KernelIdeal.Hand.main_bits] at h
  exact (θ_run Cert.Kernel.defs _ _).mono (fun _ h => ⟨fun c => ⟨(h.1 c).1, (h.1 c).2.1⟩, h.2⟩) h

/-- In exact arithmetic each device's result is its block of rows of the product the reference computes. -/
theorem algebra : Cert.algebraic_KernelIdeal_ReferenceIdeal := by
  intro m ρ m' ρ' _ hm
  refine ⟨Host.dotGeneral (F := Ideal) (φ₁ := .f32) (φ₂ := .f32) Cert.ReferenceIdeal.dot_S4096x4096_S4096x2048_S4096x2048_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).2.2.trans (Cert.KernelIdeal.Hand.outV_block (Cert.KernelIdeal.Hand.Vm m) _ _
          (fun e => (hm e).1) (fun e => (hm e).2) c), (h.1 c).1, (h.1 c).2.1⟩)
      (Cert.KernelIdeal.Hand.run_main (F := Ideal) m ρ)
  · exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebra⟩

end Cert.Proof

end
